-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S8x2048x512 : Shape := ⟨3, ![8, 2048, 512]⟩
abbrev S8x2048x1024 : Shape := ⟨3, ![8, 2048, 1024]⟩
abbrev S8x4x2x64x256 : Shape := ⟨5, ![8, 4, 2, 64, 256]⟩
abbrev S8 : Shape := ⟨1, ![8]⟩
abbrev S1x2048x256 : Shape := ⟨3, ![1, 2048, 256]⟩
abbrev S1x2048x512 : Shape := ⟨3, ![1, 2048, 512]⟩
abbrev S1x2x2x64x256 : Shape := ⟨5, ![1, 2, 2, 64, 256]⟩
abbrev S2x16x2x64x256 : Shape := ⟨5, ![2, 16, 2, 64, 256]⟩
abbrev S2x16x2x256x128 : Shape := ⟨5, ![2, 16, 2, 256, 128]⟩
abbrev S2x16x2x128x256 : Shape := ⟨5, ![2, 16, 2, 128, 256]⟩
abbrev S1x128 : Shape := ⟨2, ![1, 128]⟩
abbrev S1 : Shape := ⟨1, ![1]⟩
abbrev S128x128 : Shape := ⟨2, ![128, 128]⟩
abbrev S1x128x128 : Shape := ⟨3, ![1, 128, 128]⟩
abbrev S1x16x2x256x128 : Shape := ⟨5, ![1, 16, 2, 256, 128]⟩
abbrev S16x2x256x128 : Shape := ⟨4, ![16, 2, 256, 128]⟩
abbrev S1x1x128x128 : Shape := ⟨4, ![1, 1, 128, 128]⟩
abbrev S1x1x1x128x128 : Shape := ⟨5, ![1, 1, 1, 128, 128]⟩
abbrev S128x256 : Shape := ⟨2, ![128, 256]⟩
abbrev S64x128 : Shape := ⟨2, ![64, 128]⟩
abbrev S64x256 : Shape := ⟨2, ![64, 256]⟩
abbrev S1x16x2x64x256 : Shape := ⟨5, ![1, 16, 2, 64, 256]⟩
abbrev S16x2x64x256 : Shape := ⟨4, ![16, 2, 64, 256]⟩
abbrev S1x1x64x256 : Shape := ⟨4, ![1, 1, 64, 256]⟩
abbrev S1x1x1x64x128 : Shape := ⟨5, ![1, 1, 1, 64, 128]⟩
abbrev S1x1x64x128 : Shape := ⟨4, ![1, 1, 64, 128]⟩
abbrev S256x128 : Shape := ⟨2, ![256, 128]⟩
abbrev S1x16x2x128x256 : Shape := ⟨5, ![1, 16, 2, 128, 256]⟩
abbrev S16x2x128x256 : Shape := ⟨4, ![16, 2, 128, 256]⟩
abbrev S1x1x128x256 : Shape := ⟨4, ![1, 1, 128, 256]⟩
abbrev S1x1x1x128x256 : Shape := ⟨5, ![1, 1, 1, 128, 256]⟩
abbrev S1x1x256x128 : Shape := ⟨4, ![1, 1, 256, 128]⟩

abbrev nBuf : Space → Nat
  | .hbm => 7
  | .vmem => 13
  | .smem => 2
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .bf16⟩
  | .hbm, ⟨3, _⟩ => ⟨S8x4x2x64x256, .f32⟩
  | .hbm, ⟨4, _⟩ => ⟨S8, .f32⟩
  | .hbm, ⟨5, _⟩ => ⟨S8, .f32⟩
  | .hbm, ⟨6, _⟩ => ⟨S8x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2x2x64x256, .f32⟩
  | .local _ .vmem, ⟨7, _⟩ => ⟨S1x2x2x64x256, .f32⟩
  | .local _ .vmem, ⟨8, _⟩ => ⟨S1x2048x512, .bf16⟩
  | .local _ .vmem, ⟨9, _⟩ => ⟨S1x2048x512, .bf16⟩
  | .local _ .vmem, ⟨10, _⟩ => ⟨S2x16x2x64x256, .f32⟩
  | .local _ .vmem, ⟨11, _⟩ => ⟨S2x16x2x256x128, .bf16⟩
  | .local _ .vmem, ⟨12, _⟩ => ⟨S2x16x2x128x256, .bf16⟩
  | .local _ .smem, ⟨0, _⟩ => ⟨S8, .f32⟩
  | .local _ .smem, ⟨1, _⟩ => ⟨S8, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 2], ![false, false]⟩

def k0_off1 (i : grid0.Coords) (c0_i32 : BitVec 32) : Fin 1 → Nat :=
  let c2_i32_0 : BitVec 32 := 2#32
  let c2_i32 : BitVec 32 := 2#32
  let arg1 : BitVec 32 := BitVec.ofNat 32 (i 1).val
  let v0 : BitVec 32 := Scalar.muli c2_i32 arg1
  let v1 : BitVec 32 := Scalar.addi v0 c0_i32
  let v2 : BitVec 32 := Scalar.muli c2_i32_0 v1
  let v4 : Index := Scalar.indexCast v2
  ![v4.toNat]
def k0_off2 (i : grid0.Coords) (c0_i32 : BitVec 32) : Fin 1 → Nat :=
  let c2_i32_0 : BitVec 32 := 2#32
  let c2_i32 : BitVec 32 := 2#32
  let arg1 : BitVec 32 := BitVec.ofNat 32 (i 1).val
  let v0 : BitVec 32 := Scalar.muli c2_i32 arg1
  let v1 : BitVec 32 := Scalar.addi v0 c0_i32
  let v2 : BitVec 32 := Scalar.muli c2_i32_0 v1
  let c1_i32 : BitVec 32 := 1#32
  let v15 : BitVec 32 := Scalar.addi v2 c1_i32
  let v16 : Index := Scalar.indexCast v15
  ![v16.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .smem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x2048x512 : Shape := ⟨3, ![8, 2048, 512]⟩
abbrev S8x2048x1024 : Shape := ⟨3, ![8, 2048, 1024]⟩
abbrev S8x4x2x64x256 : Shape := ⟨5, ![8, 4, 2, 64, 256]⟩
abbrev S8 : Shape := ⟨1, ![8]⟩
abbrev S8x2048x8x64 : Shape := ⟨4, ![8, 2048, 8, 64]⟩
abbrev S8x2048x8x128 : Shape := ⟨4, ![8, 2048, 8, 128]⟩
abbrev S8x8x64x256 : Shape := ⟨4, ![8, 8, 64, 256]⟩
abbrev S8x8x64x128 : Shape := ⟨4, ![8, 8, 64, 128]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x16x128x8x64 : Shape := ⟨5, ![8, 16, 128, 8, 64]⟩
abbrev S16x8x8x128x64 : Shape := ⟨5, ![16, 8, 8, 128, 64]⟩
abbrev S8x16x128x8x128 : Shape := ⟨5, ![8, 16, 128, 8, 128]⟩
abbrev S16x8x8x128x128 : Shape := ⟨5, ![16, 8, 8, 128, 128]⟩
abbrev S1x8x8x128x64 : Shape := ⟨5, ![1, 8, 8, 128, 64]⟩
abbrev S8x8x128x64 : Shape := ⟨4, ![8, 8, 128, 64]⟩
abbrev S1x8x8x128x128 : Shape := ⟨5, ![1, 8, 8, 128, 128]⟩
abbrev S8x8x128x128 : Shape := ⟨4, ![8, 8, 128, 128]⟩
abbrev S1x8x128x128 : Shape := ⟨4, ![1, 8, 128, 128]⟩
abbrev S1x8x128x1 : Shape := ⟨4, ![1, 8, 128, 1]⟩
abbrev S1x8x1x1 : Shape := ⟨4, ![1, 8, 1, 1]⟩

abbrev nBuf : Space → Nat
  | .hbm => 274
  | .vmem => 0
  | .smem => 0
  | _ => 0

abbrev hbmTy0_0 (i : Nat) : BufTy := match i % 128 with
  | 0 => ⟨S8x2048x512, .bf16⟩
  | 1 => ⟨S8x2048x512, .bf16⟩
  | 2 => ⟨S8x2048x1024, .bf16⟩
  | 3 => ⟨S8x4x2x64x256, .f32⟩
  | 4 => ⟨S8, .f32⟩
  | 5 => ⟨S8, .f32⟩
  | 6 => ⟨S8x2048x512, .f32⟩
  | 7 => ⟨S8x2048x8x64, .f32⟩
  | 8 => ⟨S8x2048x512, .f32⟩
  | 9 => ⟨S8x2048x8x64, .f32⟩
  | 10 => ⟨S8x2048x1024, .f32⟩
  | 11 => ⟨S8x2048x8x128, .f32⟩
  | 12 => ⟨S8x8x64x256, .f32⟩
  | 13 => ⟨S8x8x64x128, .f32⟩
  | 14 => ⟨S8x8x64x128, .f32⟩
  | 15 => ⟨S8, .f32⟩
  | 16 => ⟨S_, .f32⟩
  | 17 => ⟨S8, .f32⟩
  | 18 => ⟨S8, .f32⟩
  | 19 => ⟨S8, .f32⟩
  | 20 => ⟨S8, .f32⟩
  | 21 => ⟨S8, .i1⟩
  | 22 => ⟨S8, .f32⟩
  | 23 => ⟨S8, .f32⟩
  | 24 => ⟨S8, .f32⟩
  | 25 => ⟨S8, .f32⟩
  | 26 => ⟨S8, .f32⟩
  | 27 => ⟨S8, .f32⟩
  | 28 => ⟨S8, .f32⟩
  | 29 => ⟨S8, .f32⟩
  | 30 => ⟨S8, .f32⟩
  | 31 => ⟨S8, .f32⟩
  | 32 => ⟨S_, .f32⟩
  | 33 => ⟨S8, .f32⟩
  | 34 => ⟨S8, .f32⟩
  | 35 => ⟨S8, .f32⟩
  | 36 => ⟨S8, .f32⟩
  | 37 => ⟨S8, .i1⟩
  | 38 => ⟨S8, .f32⟩
  | 39 => ⟨S8, .f32⟩
  | 40 => ⟨S8, .f32⟩
  | 41 => ⟨S8, .f32⟩
  | 42 => ⟨S8, .f32⟩
  | 43 => ⟨S8, .f32⟩
  | 44 => ⟨S8, .f32⟩
  | 45 => ⟨S8, .f32⟩
  | 46 => ⟨S8, .f32⟩
  | 47 => ⟨S128, .f32⟩
  | 48 => ⟨S128x1, .f32⟩
  | 49 => ⟨S1x128, .f32⟩
  | 50 => ⟨S128x128, .f32⟩
  | 51 => ⟨S128x128, .f32⟩
  | 52 => ⟨S128x128, .f32⟩
  | 53 => ⟨S_, .f32⟩
  | 54 => ⟨S128x128, .f32⟩
  | 55 => ⟨S128x128, .i1⟩
  | 56 => ⟨S1x128x128, .i1⟩
  | 57 => ⟨S8x1x1, .f32⟩
  | 58 => ⟨S_, .f32⟩
  | 59 => ⟨S128x128, .f32⟩
  | 60 => ⟨S128x128, .f32⟩
  | 61 => ⟨S1x128x128, .f32⟩
  | 62 => ⟨S8x128x128, .f32⟩
  | 63 => ⟨S8x128x128, .f32⟩
  | 64 => ⟨S8x128x128, .f32⟩
  | 65 => ⟨S8x128x128, .f32⟩
  | 66 => ⟨S_, .f32⟩
  | 67 => ⟨S_, .f32⟩
  | 68 => ⟨S8x128x128, .i1⟩
  | 69 => ⟨S8x128x128, .f32⟩
  | 70 => ⟨S8x128x128, .f32⟩
  | 71 => ⟨S8x1, .f32⟩
  | 72 => ⟨S_, .f32⟩
  | 73 => ⟨S128, .f32⟩
  | 74 => ⟨S128, .f32⟩
  | 75 => ⟨S1x128, .f32⟩
  | 76 => ⟨S8x128, .f32⟩
  | 77 => ⟨S8x128, .f32⟩
  | 78 => ⟨S8x128, .f32⟩
  | 79 => ⟨S8x128, .f32⟩
  | 80 => ⟨S8x1, .f32⟩
  | 81 => ⟨S_, .f32⟩
  | 82 => ⟨S128, .f32⟩
  | 83 => ⟨S128, .f32⟩
  | 84 => ⟨S1x128, .f32⟩
  | 85 => ⟨S8x128, .f32⟩
  | 86 => ⟨S8x128, .f32⟩
  | 87 => ⟨S8x128, .f32⟩
  | 88 => ⟨S8x128, .f32⟩
  | 89 => ⟨S_, .f32⟩
  | 90 => ⟨S8, .f32⟩
  | 91 => ⟨S8, .f32⟩
  | 92 => ⟨S8, .f32⟩
  | 93 => ⟨S128, .f32⟩
  | 94 => ⟨S128x1, .f32⟩
  | 95 => ⟨S1x128, .f32⟩
  | 96 => ⟨S128x128, .f32⟩
  | 97 => ⟨S128x128, .f32⟩
  | 98 => ⟨S128x128, .f32⟩
  | 99 => ⟨S_, .f32⟩
  | 100 => ⟨S128x128, .f32⟩
  | 101 => ⟨S128x128, .i1⟩
  | 102 => ⟨S1x128x128, .i1⟩
  | 103 => ⟨S8x1x1, .f32⟩
  | 104 => ⟨S_, .f32⟩
  | 105 => ⟨S128x128, .f32⟩
  | 106 => ⟨S128x128, .f32⟩
  | 107 => ⟨S1x128x128, .f32⟩
  | 108 => ⟨S8x128x128, .f32⟩
  | 109 => ⟨S8x128x128, .f32⟩
  | 110 => ⟨S8x128x128, .f32⟩
  | 111 => ⟨S8x128x128, .f32⟩
  | 112 => ⟨S_, .f32⟩
  | 113 => ⟨S_, .f32⟩
  | 114 => ⟨S8x128x128, .i1⟩
  | 115 => ⟨S8x128x128, .f32⟩
  | 116 => ⟨S8x128x128, .f32⟩
  | 117 => ⟨S8x1, .f32⟩
  | 118 => ⟨S_, .f32⟩
  | 119 => ⟨S128, .f32⟩
  | 120 => ⟨S128, .f32⟩
  | 121 => ⟨S1x128, .f32⟩
  | 122 => ⟨S8x128, .f32⟩
  | 123 => ⟨S8x128, .f32⟩
  | 124 => ⟨S8x128, .f32⟩
  | 125 => ⟨S8x128, .f32⟩
  | 126 => ⟨S8x1, .f32⟩
  | 127 => ⟨S_, .f32⟩
  | _ => ⟨S8x2048x512, .bf16⟩

abbrev hbmTy0_1 (i : Nat) : BufTy := match i % 128 with
  | 0 => ⟨S128, .f32⟩
  | 1 => ⟨S128, .f32⟩
  | 2 => ⟨S1x128, .f32⟩
  | 3 => ⟨S8x128, .f32⟩
  | 4 => ⟨S8x128, .f32⟩
  | 5 => ⟨S8x128, .f32⟩
  | 6 => ⟨S8x128, .f32⟩
  | 7 => ⟨S_, .f32⟩
  | 8 => ⟨S8, .f32⟩
  | 9 => ⟨S8, .f32⟩
  | 10 => ⟨S8, .f32⟩
  | 11 => ⟨S8x16x128x8x64, .f32⟩
  | 12 => ⟨S16x8x8x128x64, .f32⟩
  | 13 => ⟨S8x16x128x8x64, .f32⟩
  | 14 => ⟨S16x8x8x128x64, .f32⟩
  | 15 => ⟨S8x16x128x8x128, .f32⟩
  | 16 => ⟨S16x8x8x128x128, .f32⟩
  | 17 => ⟨S8x2048x8x64, .f32⟩
  | 18 => ⟨S8x16x128x8x64, .f32⟩
  | 19 => ⟨S16x8x8x128x64, .f32⟩
  | 20 => ⟨S8x2048x8x64, .f32⟩
  | 21 => ⟨S8x16x128x8x64, .f32⟩
  | 22 => ⟨S16x8x8x128x64, .f32⟩
  | 23 => ⟨S8x2048x8x128, .f32⟩
  | 24 => ⟨S8x16x128x8x128, .f32⟩
  | 25 => ⟨S16x8x8x128x128, .f32⟩
  | 26 => ⟨S_, .f32⟩
  | 27 => ⟨S16x8x8x128x128, .f32⟩
  | 28 => ⟨S_, .f32⟩
  | 29 => ⟨S16x8x8x128x128, .f32⟩
  | 30 => ⟨S_, .i32⟩
  | 31 => ⟨S16x8x8x128x64, .f32⟩
  | 32 => ⟨S16x8x8x128x64, .f32⟩
  | 33 => ⟨S16x8x8x128x128, .f32⟩
  | 34 => ⟨S16x8x8x128x64, .f32⟩
  | 35 => ⟨S16x8x8x128x64, .f32⟩
  | 36 => ⟨S16x8x8x128x128, .f32⟩
  | 37 => ⟨S8x128x128, .f32⟩
  | 38 => ⟨S8x128, .f32⟩
  | 39 => ⟨S8, .f32⟩
  | 40 => ⟨S8x128, .f32⟩
  | 41 => ⟨S8x128x128, .f32⟩
  | 42 => ⟨S8x128, .f32⟩
  | 43 => ⟨S8, .f32⟩
  | 44 => ⟨S8x128, .f32⟩
  | 45 => ⟨S_, .i32⟩
  | 46 => ⟨S8x8x64x128, .f32⟩
  | 47 => ⟨S8x8x64x128, .f32⟩
  | 48 => ⟨S16x8x8x128x128, .f32⟩
  | 49 => ⟨S16x8x8x128x128, .f32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S1x8x8x128x64, .f32⟩
  | 57 => ⟨S8x8x128x64, .f32⟩
  | 58 => ⟨S_, .i32⟩
  | 59 => ⟨S_, .i32⟩
  | 60 => ⟨S_, .i32⟩
  | 61 => ⟨S_, .i32⟩
  | 62 => ⟨S1x8x8x128x64, .f32⟩
  | 63 => ⟨S8x8x128x64, .f32⟩
  | 64 => ⟨S_, .i32⟩
  | 65 => ⟨S_, .i32⟩
  | 66 => ⟨S_, .i32⟩
  | 67 => ⟨S_, .i32⟩
  | 68 => ⟨S1x8x8x128x128, .f32⟩
  | 69 => ⟨S8x8x128x128, .f32⟩
  | 70 => ⟨S_, .i32⟩
  | 71 => ⟨S_, .i32⟩
  | 72 => ⟨S_, .i32⟩
  | 73 => ⟨S_, .i32⟩
  | 74 => ⟨S1x8x8x128x64, .f32⟩
  | 75 => ⟨S8x8x128x64, .f32⟩
  | 76 => ⟨S_, .i32⟩
  | 77 => ⟨S_, .i32⟩
  | 78 => ⟨S_, .i32⟩
  | 79 => ⟨S_, .i32⟩
  | 80 => ⟨S1x8x8x128x64, .f32⟩
  | 81 => ⟨S8x8x128x64, .f32⟩
  | 82 => ⟨S_, .i32⟩
  | 83 => ⟨S_, .i32⟩
  | 84 => ⟨S_, .i32⟩
  | 85 => ⟨S_, .i32⟩
  | 86 => ⟨S1x8x8x128x128, .f32⟩
  | 87 => ⟨S8x8x128x128, .f32⟩
  | 88 => ⟨S8x8x128x128, .f32⟩
  | 89 => ⟨S1x8x128x128, .f32⟩
  | 90 => ⟨S8x8x128x128, .f32⟩
  | 91 => ⟨S8x8x128x128, .f32⟩
  | 92 => ⟨S8x8x128x128, .f32⟩
  | 93 => ⟨S1x8x128x1, .f32⟩
  | 94 => ⟨S8x8x128x64, .f32⟩
  | 95 => ⟨S8x8x128x64, .f32⟩
  | 96 => ⟨S8x8x128x128, .f32⟩
  | 97 => ⟨S8x8x128x128, .f32⟩
  | 98 => ⟨S1x8x1x1, .f32⟩
  | 99 => ⟨S8x8x64x128, .f32⟩
  | 100 => ⟨S8x8x64x128, .f32⟩
  | 101 => ⟨S1x8x128x1, .f32⟩
  | 102 => ⟨S8x8x128x64, .f32⟩
  | 103 => ⟨S8x8x128x64, .f32⟩
  | 104 => ⟨S8x8x64x128, .f32⟩
  | 105 => ⟨S8x8x64x128, .f32⟩
  | 106 => ⟨S8x8x128x128, .f32⟩
  | 107 => ⟨S1x8x128x128, .f32⟩
  | 108 => ⟨S8x8x128x128, .f32⟩
  | 109 => ⟨S8x8x128x128, .f32⟩
  | 110 => ⟨S8x8x128x128, .f32⟩
  | 111 => ⟨S1x8x128x1, .f32⟩
  | 112 => ⟨S8x8x128x64, .f32⟩
  | 113 => ⟨S8x8x128x64, .f32⟩
  | 114 => ⟨S8x8x128x128, .f32⟩
  | 115 => ⟨S8x8x128x128, .f32⟩
  | 116 => ⟨S1x8x1x1, .f32⟩
  | 117 => ⟨S8x8x64x128, .f32⟩
  | 118 => ⟨S8x8x64x128, .f32⟩
  | 119 => ⟨S1x8x128x1, .f32⟩
  | 120 => ⟨S8x8x128x64, .f32⟩
  | 121 => ⟨S8x8x128x64, .f32⟩
  | 122 => ⟨S8x8x64x128, .f32⟩
  | 123 => ⟨S8x8x64x128, .f32⟩
  | 124 => ⟨S1x8x8x128x128, .f32⟩
  | 125 => ⟨S_, .i32⟩
  | 126 => ⟨S_, .i32⟩
  | 127 => ⟨S_, .i32⟩
  | _ => ⟨S8x2048x512, .bf16⟩

abbrev hbmTy0_2 (i : Nat) : BufTy := match i % 128 with
  | 0 => ⟨S_, .i32⟩
  | 1 => ⟨S16x8x8x128x128, .f32⟩
  | 2 => ⟨S1x8x8x128x128, .f32⟩
  | 3 => ⟨S_, .i32⟩
  | 4 => ⟨S_, .i32⟩
  | 5 => ⟨S_, .i32⟩
  | 6 => ⟨S_, .i32⟩
  | 7 => ⟨S16x8x8x128x128, .f32⟩
  | 8 => ⟨S_, .i32⟩
  | 9 => ⟨S_, .i32⟩
  | 10 => ⟨S8x16x128x8x128, .f32⟩
  | 11 => ⟨S8x2048x8x128, .f32⟩
  | 12 => ⟨S8x16x128x8x128, .f32⟩
  | 13 => ⟨S8x2048x8x128, .f32⟩
  | 14 => ⟨S8x2048x8x128, .f32⟩
  | 15 => ⟨S8x2048x8x128, .f32⟩
  | 16 => ⟨S8x2048x1024, .f32⟩
  | 17 => ⟨S8x2048x1024, .bf16⟩
  | _ => ⟨S8x2048x512, .bf16⟩

abbrev hbmTy (i : Nat) : BufTy := match i / 128 with
  | 0 => hbmTy0_0 i
  | 1 => hbmTy0_1 i
  | 2 => hbmTy0_2 i
  | _ => ⟨S8x2048x512, .bf16⟩

abbrev bufTy : (tb : Table) → Fin (tcTables nBuf tb) → BufTy
  | .hbm, ⟨i, _⟩ => hbmTy i
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v9 : Ref sig .tc := ⟨.hbm, 30, rfl⟩
abbrev main_call1_v0 : Ref sig .tc := ⟨.hbm, 31, rfl⟩
abbrev main_call1_call0_cst : Ref sig .tc := ⟨.hbm, 32, rfl⟩
abbrev main_call1_call0_v0 : Ref sig .tc := ⟨.hbm, 33, rfl⟩
abbrev main_call1_call0_v1 : Ref sig .tc := ⟨.hbm, 34, rfl⟩
abbrev main_call1_call0_v2 : Ref sig .tc := ⟨.hbm, 35, rfl⟩
abbrev main_call1_call0_v3 : Ref sig .tc := ⟨.hbm, 36, rfl⟩
abbrev main_call1_call0_v4 : Ref sig .tc := ⟨.hbm, 37, rfl⟩
abbrev main_call1_call0_v5 : Ref sig .tc := ⟨.hbm, 38, rfl⟩
abbrev main_call1_call0_v6 : Ref sig .tc := ⟨.hbm, 39, rfl⟩
abbrev main_call1_call0_v7 : Ref sig .tc := ⟨.hbm, 40, rfl⟩
abbrev main_call1_call0_v8 : Ref sig .tc := ⟨.hbm, 41, rfl⟩
abbrev main_call1_call0_v9 : Ref sig .tc := ⟨.hbm, 42, rfl⟩
abbrev main_call1_call0_v10 : Ref sig .tc := ⟨.hbm, 43, rfl⟩
abbrev main_call1_call0_v11 : Ref sig .tc := ⟨.hbm, 44, rfl⟩
abbrev main_call1_v1 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst_0 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_1 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v28 : Ref sig .tc := ⟨.hbm, 70, rfl⟩
abbrev main_v29 : Ref sig .tc := ⟨.hbm, 71, rfl⟩
abbrev main_cst_2 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_3 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_4 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_5 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_6 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_7 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_v65 : Ref sig .tc := ⟨.hbm, 116, rfl⟩
abbrev main_v66 : Ref sig .tc := ⟨.hbm, 117, rfl⟩
abbrev main_cst_8 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_9 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_cst_10 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_cst_11 : Ref sig .tc := ⟨.hbm, 154, rfl⟩
abbrev main_v100 : Ref sig .tc := ⟨.hbm, 155, rfl⟩
abbrev main_cst_12 : Ref sig .tc := ⟨.hbm, 156, rfl⟩
abbrev main_v101 : Ref sig .tc := ⟨.hbm, 157, rfl⟩
abbrev main_c : Ref sig .tc := ⟨.hbm, 158, rfl⟩
abbrev main_v102_0 : Ref sig .tc := ⟨.hbm, 159, rfl⟩
abbrev main_v102_1 : Ref sig .tc := ⟨.hbm, 160, rfl⟩
abbrev main_v102_2 : Ref sig .tc := ⟨.hbm, 161, rfl⟩
abbrev main_v102_3 : Ref sig .tc := ⟨.hbm, 162, rfl⟩
abbrev main_v102_4 : Ref sig .tc := ⟨.hbm, 163, rfl⟩
abbrev main_v102_5 : Ref sig .tc := ⟨.hbm, 164, rfl⟩
abbrev main_v102_6 : Ref sig .tc := ⟨.hbm, 165, rfl⟩
abbrev main_v102_7 : Ref sig .tc := ⟨.hbm, 166, rfl⟩
abbrev main_v102_8 : Ref sig .tc := ⟨.hbm, 167, rfl⟩
abbrev main_v102_9 : Ref sig .tc := ⟨.hbm, 168, rfl⟩
abbrev main_v102_10 : Ref sig .tc := ⟨.hbm, 169, rfl⟩
abbrev main_v102_11 : Ref sig .tc := ⟨.hbm, 170, rfl⟩
abbrev main_v102_12 : Ref sig .tc := ⟨.hbm, 171, rfl⟩
abbrev main_v102_13 : Ref sig .tc := ⟨.hbm, 172, rfl⟩
abbrev main_v102_14 : Ref sig .tc := ⟨.hbm, 173, rfl⟩
abbrev main_v102_15 : Ref sig .tc := ⟨.hbm, 174, rfl⟩
abbrev main_v102_16 : Ref sig .tc := ⟨.hbm, 175, rfl⟩
abbrev main_v102_17 : Ref sig .tc := ⟨.hbm, 176, rfl⟩
abbrev main_v102_18 : Ref sig .tc := ⟨.hbm, 177, rfl⟩
abbrev main_while0c_c_31 : Ref sig .tc := ⟨.hbm, 178, rfl⟩
abbrev main_while0c_v111 : Ref sig .tc := ⟨.hbm, 179, rfl⟩
abbrev main_while0b_call7_c : Ref sig .tc := ⟨.hbm, 180, rfl⟩
abbrev main_while0b_call7_c_0 : Ref sig .tc := ⟨.hbm, 181, rfl⟩
abbrev main_while0b_call7_c_1 : Ref sig .tc := ⟨.hbm, 182, rfl⟩
abbrev main_while0b_call7_c_2 : Ref sig .tc := ⟨.hbm, 183, rfl⟩
abbrev main_while0b_call7_v0 : Ref sig .tc := ⟨.hbm, 184, rfl⟩
abbrev main_while0b_v111 : Ref sig .tc := ⟨.hbm, 185, rfl⟩
abbrev main_while0b_call8_c : Ref sig .tc := ⟨.hbm, 186, rfl⟩
abbrev main_while0b_call8_c_0 : Ref sig .tc := ⟨.hbm, 187, rfl⟩
abbrev main_while0b_call8_c_1 : Ref sig .tc := ⟨.hbm, 188, rfl⟩
abbrev main_while0b_call8_c_2 : Ref sig .tc := ⟨.hbm, 189, rfl⟩
abbrev main_while0b_call8_v0 : Ref sig .tc := ⟨.hbm, 190, rfl⟩
abbrev main_while0b_v112 : Ref sig .tc := ⟨.hbm, 191, rfl⟩
abbrev main_while0b_call9_c : Ref sig .tc := ⟨.hbm, 192, rfl⟩
abbrev main_while0b_call9_c_0 : Ref sig .tc := ⟨.hbm, 193, rfl⟩
abbrev main_while0b_call9_c_1 : Ref sig .tc := ⟨.hbm, 194, rfl⟩
abbrev main_while0b_call9_c_2 : Ref sig .tc := ⟨.hbm, 195, rfl⟩
abbrev main_while0b_call9_v0 : Ref sig .tc := ⟨.hbm, 196, rfl⟩
abbrev main_while0b_v113 : Ref sig .tc := ⟨.hbm, 197, rfl⟩
abbrev main_while0b_call10_c : Ref sig .tc := ⟨.hbm, 198, rfl⟩
abbrev main_while0b_call10_c_0 : Ref sig .tc := ⟨.hbm, 199, rfl⟩
abbrev main_while0b_call10_c_1 : Ref sig .tc := ⟨.hbm, 200, rfl⟩
abbrev main_while0b_call10_c_2 : Ref sig .tc := ⟨.hbm, 201, rfl⟩
abbrev main_while0b_call10_v0 : Ref sig .tc := ⟨.hbm, 202, rfl⟩
abbrev main_while0b_v114 : Ref sig .tc := ⟨.hbm, 203, rfl⟩
abbrev main_while0b_call11_c : Ref sig .tc := ⟨.hbm, 204, rfl⟩
abbrev main_while0b_call11_c_0 : Ref sig .tc := ⟨.hbm, 205, rfl⟩
abbrev main_while0b_call11_c_1 : Ref sig .tc := ⟨.hbm, 206, rfl⟩
abbrev main_while0b_call11_c_2 : Ref sig .tc := ⟨.hbm, 207, rfl⟩
abbrev main_while0b_call11_v0 : Ref sig .tc := ⟨.hbm, 208, rfl⟩
abbrev main_while0b_v115 : Ref sig .tc := ⟨.hbm, 209, rfl⟩
abbrev main_while0b_call12_c : Ref sig .tc := ⟨.hbm, 210, rfl⟩
abbrev main_while0b_call12_c_0 : Ref sig .tc := ⟨.hbm, 211, rfl⟩
abbrev main_while0b_call12_c_1 : Ref sig .tc := ⟨.hbm, 212, rfl⟩
abbrev main_while0b_call12_c_2 : Ref sig .tc := ⟨.hbm, 213, rfl⟩
abbrev main_while0b_call12_v0 : Ref sig .tc := ⟨.hbm, 214, rfl⟩
abbrev main_while0b_v116 : Ref sig .tc := ⟨.hbm, 215, rfl⟩
abbrev main_while0b_v117 : Ref sig .tc := ⟨.hbm, 216, rfl⟩
abbrev main_while0b_v118 : Ref sig .tc := ⟨.hbm, 217, rfl⟩
abbrev main_while0b_v119 : Ref sig .tc := ⟨.hbm, 218, rfl⟩
abbrev main_while0b_v120 : Ref sig .tc := ⟨.hbm, 219, rfl⟩
abbrev main_while0b_v121 : Ref sig .tc := ⟨.hbm, 220, rfl⟩
abbrev main_while0b_v122 : Ref sig .tc := ⟨.hbm, 221, rfl⟩
abbrev main_while0b_v123 : Ref sig .tc := ⟨.hbm, 222, rfl⟩
abbrev main_while0b_v124 : Ref sig .tc := ⟨.hbm, 223, rfl⟩
abbrev main_while0b_v125 : Ref sig .tc := ⟨.hbm, 224, rfl⟩
abbrev main_while0b_v126 : Ref sig .tc := ⟨.hbm, 225, rfl⟩
abbrev main_while0b_v127 : Ref sig .tc := ⟨.hbm, 226, rfl⟩
abbrev main_while0b_v128 : Ref sig .tc := ⟨.hbm, 227, rfl⟩
abbrev main_while0b_v129 : Ref sig .tc := ⟨.hbm, 228, rfl⟩
abbrev main_while0b_v130 : Ref sig .tc := ⟨.hbm, 229, rfl⟩
abbrev main_while0b_v131 : Ref sig .tc := ⟨.hbm, 230, rfl⟩
abbrev main_while0b_v132 : Ref sig .tc := ⟨.hbm, 231, rfl⟩
abbrev main_while0b_v133 : Ref sig .tc := ⟨.hbm, 232, rfl⟩
abbrev main_while0b_v134 : Ref sig .tc := ⟨.hbm, 233, rfl⟩
abbrev main_while0b_v135 : Ref sig .tc := ⟨.hbm, 234, rfl⟩
abbrev main_while0b_v136 : Ref sig .tc := ⟨.hbm, 235, rfl⟩
abbrev main_while0b_v137 : Ref sig .tc := ⟨.hbm, 236, rfl⟩
abbrev main_while0b_v138 : Ref sig .tc := ⟨.hbm, 237, rfl⟩
abbrev main_while0b_v139 : Ref sig .tc := ⟨.hbm, 238, rfl⟩
abbrev main_while0b_v140 : Ref sig .tc := ⟨.hbm, 239, rfl⟩
abbrev main_while0b_v141 : Ref sig .tc := ⟨.hbm, 240, rfl⟩
abbrev main_while0b_v142 : Ref sig .tc := ⟨.hbm, 241, rfl⟩
abbrev main_while0b_v143 : Ref sig .tc := ⟨.hbm, 242, rfl⟩
abbrev main_while0b_v144 : Ref sig .tc := ⟨.hbm, 243, rfl⟩
abbrev main_while0b_v145 : Ref sig .tc := ⟨.hbm, 244, rfl⟩
abbrev main_while0b_v146 : Ref sig .tc := ⟨.hbm, 245, rfl⟩
abbrev main_while0b_v147 : Ref sig .tc := ⟨.hbm, 246, rfl⟩
abbrev main_while0b_v148 : Ref sig .tc := ⟨.hbm, 247, rfl⟩
abbrev main_while0b_v149 : Ref sig .tc := ⟨.hbm, 248, rfl⟩
abbrev main_while0b_v150 : Ref sig .tc := ⟨.hbm, 249, rfl⟩
abbrev main_while0b_v151 : Ref sig .tc := ⟨.hbm, 250, rfl⟩
abbrev main_while0b_v152 : Ref sig .tc := ⟨.hbm, 251, rfl⟩
abbrev main_while0b_call13_v0 : Ref sig .tc := ⟨.hbm, 252, rfl⟩
abbrev main_while0b_call13_c : Ref sig .tc := ⟨.hbm, 253, rfl⟩
abbrev main_while0b_call13_c_0 : Ref sig .tc := ⟨.hbm, 254, rfl⟩
abbrev main_while0b_call13_c_1 : Ref sig .tc := ⟨.hbm, 255, rfl⟩
abbrev main_while0b_call13_c_2 : Ref sig .tc := ⟨.hbm, 256, rfl⟩
abbrev main_while0b_v153 : Ref sig .tc := ⟨.hbm, 257, rfl⟩
abbrev main_while0b_call14_v0 : Ref sig .tc := ⟨.hbm, 258, rfl⟩
abbrev main_while0b_call14_c : Ref sig .tc := ⟨.hbm, 259, rfl⟩
abbrev main_while0b_call14_c_0 : Ref sig .tc := ⟨.hbm, 260, rfl⟩
abbrev main_while0b_call14_c_1 : Ref sig .tc := ⟨.hbm, 261, rfl⟩
abbrev main_while0b_call14_c_2 : Ref sig .tc := ⟨.hbm, 262, rfl⟩
abbrev main_while0b_v154 : Ref sig .tc := ⟨.hbm, 263, rfl⟩
abbrev main_while0b_c_31 : Ref sig .tc := ⟨.hbm, 264, rfl⟩
abbrev main_while0b_v155 : Ref sig .tc := ⟨.hbm, 265, rfl⟩
abbrev main_v103 : Ref sig .tc := ⟨.hbm, 266, rfl⟩
abbrev main_v104 : Ref sig .tc := ⟨.hbm, 267, rfl⟩
abbrev main_v105 : Ref sig .tc := ⟨.hbm, 268, rfl⟩
abbrev main_v106 : Ref sig .tc := ⟨.hbm, 269, rfl⟩
abbrev main_v107 : Ref sig .tc := ⟨.hbm, 270, rfl⟩
abbrev main_v108 : Ref sig .tc := ⟨.hbm, 271, rfl⟩
abbrev main_v109 : Ref sig .tc := ⟨.hbm, 272, rfl⟩
abbrev main_v110 : Ref sig .tc := ⟨.hbm, 273, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S8x2048x512 : Shape := ⟨3, ![8, 2048, 512]⟩
abbrev S8x2048x1024 : Shape := ⟨3, ![8, 2048, 1024]⟩
abbrev S16x1x4096 : Shape := ⟨3, ![16, 1, 4096]⟩
abbrev S1x1024 : Shape := ⟨2, ![1, 1024]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x2816 : Shape := ⟨2, ![512, 2816]⟩
abbrev S12 : Shape := ⟨1, ![12]⟩
abbrev S1 : Shape := ⟨1, ![1]⟩
abbrev S_ : Shape := ⟨0, ![]⟩
abbrev S1024x768 : Shape := ⟨2, ![1024, 768]⟩
abbrev S768x1024 : Shape := ⟨2, ![768, 1024]⟩
abbrev S512x512 : Shape := ⟨2, ![512, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S512x256 : Shape := ⟨2, ![512, 256]⟩
abbrev S256x2816 : Shape := ⟨2, ![256, 2816]⟩

abbrev nBuf : Space → Nat
  | .hbm => 16
  | .vmem => 33
  | .smem => 0
  | _ => 0

abbrev bufTy : (tb : Table) → Fin (tcTables nBuf tb) → BufTy
  | .hbm, ⟨0, _⟩ => ⟨S8x2048x512, .bf16⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S8x2048x1024, .bf16⟩
  | .hbm, ⟨5, _⟩ => ⟨S8x2048x1024, .f32⟩
  | .hbm, ⟨6, _⟩ => ⟨S16x1x4096, .f32⟩
  | .hbm, ⟨7, _⟩ => ⟨S1x1024, .f32⟩
  | .hbm, ⟨8, _⟩ => ⟨S1x1024, .f32⟩
  | .hbm, ⟨9, _⟩ => ⟨S512x1024, .bf16⟩
  | .hbm, ⟨10, _⟩ => ⟨S1024x1024, .bf16⟩
  | .hbm, ⟨11, _⟩ => ⟨S1024x1024, .bf16⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S8x2048x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | .local _ .vmem, ⟨24, _⟩ => ⟨S512x2816, .bf16⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x2816, .bf16⟩
  | .local _ .vmem, ⟨31, _⟩ => ⟨S1024x2816, .bf16⟩
  | .local _ .vmem, ⟨32, _⟩ => ⟨S2816x1024, .bf16⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_2 : BitVec 32 := 0#32
  let v4 : BitVec 1 := Scalar.cmpi .ne v3 c0_i32_2
  v4

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v5 : BitVec 1 := Scalar.xori v2 v_true
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S8x2048x512 : Shape := ⟨3, ![8, 2048, 512]⟩
abbrev S8x2048x1024 : Shape := ⟨3, ![8, 2048, 1024]⟩
abbrev S16x1x4096 : Shape := ⟨3, ![16, 1, 4096]⟩
abbrev S1x1024 : Shape := ⟨2, ![1, 1024]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S8x1x4096 : Shape := ⟨3, ![8, 1, 4096]⟩
abbrev S8x1x1024 : Shape := ⟨3, ![8, 1, 1024]⟩
abbrev S8x2048x8x128 : Shape := ⟨4, ![8, 2048, 8, 128]⟩
abbrev S_ : Shape := ⟨0, ![]⟩
abbrev S8x2048x8 : Shape := ⟨3, ![8, 2048, 8]⟩
abbrev S8x2048x8x1 : Shape := ⟨4, ![8, 2048, 8, 1]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩

abbrev nBuf : Space → Nat
  | .hbm => 123
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S8x2048x1024, .bf16⟩
  | .hbm, ⟨5, _⟩ => ⟨S8x2048x1024, .f32⟩
  | .hbm, ⟨6, _⟩ => ⟨S16x1x4096, .f32⟩
  | .hbm, ⟨7, _⟩ => ⟨S1x1024, .f32⟩
  | .hbm, ⟨8, _⟩ => ⟨S1x1024, .f32⟩
  | .hbm, ⟨9, _⟩ => ⟨S512x1024, .bf16⟩
  | .hbm, ⟨10, _⟩ => ⟨S1024x1024, .bf16⟩
  | .hbm, ⟨11, _⟩ => ⟨S1024x1024, .bf16⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S8x2048x512, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S512x1024, .f32⟩
  | .hbm, ⟨21, _⟩ => ⟨S1024x1024, .f32⟩
  | .hbm, ⟨22, _⟩ => ⟨S1024x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S8x1x4096, .f32⟩
  | .hbm, ⟨27, _⟩ => ⟨S8x1x1024, .f32⟩
  | .hbm, ⟨28, _⟩ => ⟨S8x1x1024, .f32⟩
  | .hbm, ⟨29, _⟩ => ⟨S8x1x1024, .f32⟩
  | .hbm, ⟨30, _⟩ => ⟨S8x1x1024, .f32⟩
  | .hbm, ⟨31, _⟩ => ⟨S8x2048x1024, .f32⟩
  | .hbm, ⟨32, _⟩ => ⟨S8x2048x8x128, .f32⟩
  | .hbm, ⟨33, _⟩ => ⟨S_, .f32⟩
  | .hbm, ⟨34, _⟩ => ⟨S8x2048x8, .f32⟩
  | .hbm, ⟨35, _⟩ => ⟨S8x2048x8x1, .f32⟩
  | .hbm, ⟨36, _⟩ => ⟨S_, .f32⟩
  | .hbm, ⟨37, _⟩ => ⟨S8x2048x8x1, .f32⟩
  | .hbm, ⟨38, _⟩ => ⟨S8x2048x8x1, .f32⟩
  | .hbm, ⟨39, _⟩ => ⟨S8x2048x8x128, .f32⟩
  | .hbm, ⟨40, _⟩ => ⟨S8x2048x8x128, .f32⟩
  | .hbm, ⟨41, _⟩ => ⟨S8x2048x8x128, .f32⟩
  | .hbm, ⟨42, _⟩ => ⟨S_, .f32⟩
  | .hbm, ⟨43, _⟩ => ⟨S8x2048x8, .f32⟩
  | .hbm, ⟨44, _⟩ => ⟨S8x2048x8x1, .f32⟩
  | .hbm, ⟨45, _⟩ => ⟨S_, .f32⟩
  | .hbm, ⟨46, _⟩ => ⟨S8x2048x8x1, .f32⟩
  | .hbm, ⟨47, _⟩ => ⟨S8x2048x8x1, .f32⟩
  | .hbm, ⟨48, _⟩ => ⟨S8x2048x8x128, .f32⟩
  | .hbm, ⟨49, _⟩ => ⟨S8x2048x8x128, .f32⟩
  | .hbm, ⟨50, _⟩ => ⟨S_, .f32⟩
  | .hbm, ⟨51, _⟩ => ⟨S8x2048x8x1, .f32⟩
  | .hbm, ⟨52, _⟩ => ⟨S8x2048x8x1, .f32⟩
  | .hbm, ⟨53, _⟩ => ⟨S8x2048x8x1, .f32⟩
  | .hbm, ⟨54, _⟩ => ⟨S8x2048x8x128, .f32⟩
  | .hbm, ⟨55, _⟩ => ⟨S8x2048x8x128, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S1024, .f32⟩
  | .hbm, ⟨67, _⟩ => ⟨S8x2048x1024, .f32⟩
  | .hbm, ⟨68, _⟩ => ⟨S_, .f32⟩
  | .hbm, ⟨69, _⟩ => ⟨S8x2048, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S8x2048x1, .f32⟩
  | .hbm, ⟨78, _⟩ => ⟨S8x2048x1024, .f32⟩
  | .hbm, ⟨79, _⟩ => ⟨S8x2048x1024, .f32⟩
  | .hbm, ⟨80, _⟩ => ⟨S1x1x1024, .f32⟩
  | .hbm, ⟨81, _⟩ => ⟨S8x2048x1024, .f32⟩
  | .hbm, ⟨82, _⟩ => ⟨S8x2048x1024, .f32⟩
  | .hbm, ⟨83, _⟩ => ⟨S_, .f32⟩
  | .hbm, ⟨84, _⟩ => ⟨S8x1x1024, .f32⟩
  | .hbm, ⟨85, _⟩ => ⟨S8x1x1024, .f32⟩
  | .hbm, ⟨86, _⟩ => ⟨S8x2048x1024, .f32⟩
  | .hbm, ⟨87, _⟩ => ⟨S8x2048x1024, .f32⟩
  | .hbm, ⟨88, _⟩ => ⟨S8x2048x1024, .f32⟩
  | .hbm, ⟨89, _⟩ => ⟨S8x2048x1024, .f32⟩
  | .hbm, ⟨90, _⟩ => ⟨S8x2048x2816, .f32⟩
  | .hbm, ⟨91, _⟩ => ⟨S8x2048x2816, .f32⟩
  | .hbm, ⟨92, _⟩ => ⟨S8x2048x2816, .f32⟩
  | .hbm, ⟨93, _⟩ => ⟨S_, .f32⟩
  | .hbm, ⟨94, _⟩ => ⟨S8x2048x2816, .f32⟩
  | .hbm, ⟨95, _⟩ => ⟨S8x2048x2816, .f32⟩
  | .hbm, ⟨96, _⟩ => ⟨S_, .f32⟩
  | .hbm, ⟨97, _⟩ => ⟨S8x2048x2816, .f32⟩
  | .hbm, ⟨98, _⟩ => ⟨S8x2048x2816, .f32⟩
  | .hbm, ⟨99, _⟩ => ⟨S8x2048x2816, .f32⟩
  | .hbm, ⟨100, _⟩ => ⟨S8x2048x2816, .f32⟩
  | .hbm, ⟨101, _⟩ => ⟨S8x2048x2816, .f32⟩
  | .hbm, ⟨102, _⟩ => ⟨S8x2048x1024, .f32⟩
  | .hbm, ⟨103, _⟩ => ⟨S8x2048x1024, .f32⟩
  | .hbm, ⟨104, _⟩ => ⟨S8x2048x1024, .f32⟩
  | .hbm, ⟨105, _⟩ => ⟨S8x2048x1024, .f32⟩
  | .hbm, ⟨106, _⟩ => ⟨S1024, .f32⟩
  | .hbm, ⟨107, _⟩ => ⟨S8x2048x1024, .f32⟩
  | .hbm, ⟨108, _⟩ => ⟨S_, .f32⟩
  | .hbm, ⟨109, _⟩ => ⟨S8x2048, .f32⟩
  | .hbm, ⟨110, _⟩ => ⟨S8x2048x1, .f32⟩
  | .hbm, ⟨111, _⟩ => ⟨S_, .f32⟩
  | .hbm, ⟨112, _⟩ => ⟨S8x2048x1, .f32⟩
  | .hbm, ⟨113, _⟩ => ⟨S8x2048x1, .f32⟩
  | .hbm, ⟨114, _⟩ => ⟨S_, .f32⟩
  | .hbm, ⟨115, _⟩ => ⟨S8x2048x1, .f32⟩
  | .hbm, ⟨116, _⟩ => ⟨S8x2048x1, .f32⟩
  | .hbm, ⟨117, _⟩ => ⟨S8x2048x1, .f32⟩
  | .hbm, ⟨118, _⟩ => ⟨S8x2048x1024, .f32⟩
  | .hbm, ⟨119, _⟩ => ⟨S8x2048x1024, .f32⟩
  | .hbm, ⟨120, _⟩ => ⟨S1x1x1024, .f32⟩
  | .hbm, ⟨121, _⟩ => ⟨S8x2048x1024, .f32⟩
  | .hbm, ⟨122, _⟩ => ⟨S8x2048x1024, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_7 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call0_v0 : Ref sig .tc := ⟨.hbm, 91, rfl⟩
abbrev main_call0_v1 : Ref sig .tc := ⟨.hbm, 92, rfl⟩
abbrev main_call0_cst : Ref sig .tc := ⟨.hbm, 93, rfl⟩
abbrev main_call0_v2 : Ref sig .tc := ⟨.hbm, 94, rfl⟩
abbrev main_call0_v3 : Ref sig .tc := ⟨.hbm, 95, rfl⟩
abbrev main_call0_cst_0 : Ref sig .tc := ⟨.hbm, 96, rfl⟩
abbrev main_call0_v4 : Ref sig .tc := ⟨.hbm, 97, rfl⟩
abbrev main_call0_v5 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_8 : Ref sig .tc := ⟨.hbm, 108, rfl⟩
abbrev main_v76 : Ref sig .tc := ⟨.hbm, 109, rfl⟩
abbrev main_v77 : Ref sig .tc := ⟨.hbm, 110, rfl⟩
abbrev main_cst_9 : Ref sig .tc := ⟨.hbm, 111, rfl⟩
abbrev main_v78 : Ref sig .tc := ⟨.hbm, 112, rfl⟩
abbrev main_v79 : Ref sig .tc := ⟨.hbm, 113, rfl⟩
abbrev main_cst_10 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]
-- ==== Proof.Math.lean ====
/-
  The retention over the extended reals, in natural coordinates, with no program in it: one direction's state recurrence,
  the bidirectional output of one position, and the equality of that output with the sum of the two one-directional
  outputs, the backward one read over the time-reversed sequence.
-/
module

public import Idealize.ShloMosaic.Lib.Pointwise

@[expose] public section

noncomputable section

open Idealize.ShloMosaic
open scoped BigOperators

namespace Cert.Retention

/-- A whole number as an extended real. -/
def num (n : ℕ) : EReal := ((n : ℝ) : EReal)

/-- The entry of a vector at a natural coordinate, zero outside. -/
def at1 {a : ℕ} (f : (⟨1, ![a]⟩ : Shape).Idx → EReal) (x : ℕ) : EReal :=
  if h : x < a then f (ix1 ⟨x, h⟩) else 0

/-- The entry of a rank-3 array at natural coordinates, zero outside. -/
def at3 {a b c : ℕ} (f : (⟨3, ![a, b, c]⟩ : Shape).Idx → EReal) (x y z : ℕ) : EReal :=
  if h : x < a ∧ y < b ∧ z < c then f (ix3 ⟨x, h.1⟩ ⟨y, h.2.1⟩ ⟨z, h.2.2⟩) else 0

/-- The entry of a rank-5 array at natural coordinates, zero outside. -/
def at5 {a b c d e : ℕ} (f : (⟨5, ![a, b, c, d, e]⟩ : Shape).Idx → EReal) (x y z w u : ℕ) : EReal :=
  if h : x < a ∧ y < b ∧ z < c ∧ w < d ∧ u < e then
    f (ix5 ⟨x, h.1⟩ ⟨y, h.2.1⟩ ⟨z, h.2.2.1⟩ ⟨w, h.2.2.2.1⟩ ⟨u, h.2.2.2.2⟩) else 0

/-- An entry of a vector is its entry at the coordinate's value. -/
theorem eq_at1 {a : ℕ} (f : (⟨1, ![a]⟩ : Shape).Idx → EReal) (x : Fin a) : f (ix1 x) = at1 f x.val := by
  rw [at1, dif_pos x.isLt]

/-- An entry of a rank-3 array is its entry at the coordinates' values. -/
theorem eq_at3 {a b c : ℕ} (f : (⟨3, ![a, b, c]⟩ : Shape).Idx → EReal) (x : Fin a) (y : Fin b) (z : Fin c) :
    f (ix3 x y z) = at3 f x.val y.val z.val := by
  rw [at3, dif_pos ⟨x.isLt, y.isLt, z.isLt⟩]

/-- An entry of a rank-5 array is its entry at the coordinates' values. -/
theorem eq_at5 {a b c d e : ℕ} (f : (⟨5, ![a, b, c, d, e]⟩ : Shape).Idx → EReal) (x : Fin a) (y : Fin b) (z : Fin c)
    (w : Fin d) (u : Fin e) : f (ix5 x y z w u) = at5 f x.val y.val z.val w.val u.val := by
  rw [at5, dif_pos ⟨x.isLt, y.isLt, z.isLt, w.isLt, u.isLt⟩]

/-- An entry of a vector, at an index whose coordinate is known. -/
theorem at1_of {a : ℕ} (f : (⟨1, ![a]⟩ : Shape).Idx → EReal) (i : (⟨1, ![a]⟩ : Shape).Idx) {x : ℕ} (hx : (i 0 : ℕ) = x) :
    f i = at1 f x := by
  subst hx
  rw [← eq_at1 f (i 0)]
  congr 1
  funext b
  match b with
  | ⟨0, _⟩ => rfl

/-- An entry of a rank-3 array, at an index whose coordinates are known. -/
theorem at3_of {a b c : ℕ} (f : (⟨3, ![a, b, c]⟩ : Shape).Idx → EReal) (i : (⟨3, ![a, b, c]⟩ : Shape).Idx) {x y z : ℕ}
    (hx : (i 0 : ℕ) = x) (hy : (i 1 : ℕ) = y) (hz : (i 2 : ℕ) = z) : f i = at3 f x y z := by
  subst hx hy hz
  rw [← eq_at3 f (i 0) (i 1) (i 2)]
  congr 1
  funext b
  match b with
  | ⟨0, _⟩ => rfl
  | ⟨1, _⟩ => rfl
  | ⟨2, _⟩ => rfl

/-- An entry of a rank-5 array, at an index whose coordinates are known. -/
theorem at5_of {a b c d e : ℕ} (f : (⟨5, ![a, b, c, d, e]⟩ : Shape).Idx → EReal) (i : (⟨5, ![a, b, c, d, e]⟩ : Shape).Idx)
    {x y z w u : ℕ} (hx : (i 0 : ℕ) = x) (hy : (i 1 : ℕ) = y) (hz : (i 2 : ℕ) = z) (hw : (i 3 : ℕ) = w)
    (hu : (i 4 : ℕ) = u) : f i = at5 f x y z w u := by
  subst hx hy hz hw hu
  rw [← eq_at5 f (i 0) (i 1) (i 2) (i 3) (i 4)]
  congr 1
  funext b
  match b with
  | ⟨0, _⟩ => rfl
  | ⟨1, _⟩ => rfl
  | ⟨2, _⟩ => rfl
  | ⟨3, _⟩ => rfl
  | ⟨4, _⟩ => rfl

/-! ## Whole numbers -/

/-- The sum of two whole numbers. -/
theorem num_add (a b : ℕ) : num a + num b = num (a + b) := by
  unfold num; rw [← EReal.coe_add]; push_cast; rfl

/-- The difference of two whole numbers is the coerced difference of their reals. -/
theorem num_sub_coe (a b : ℕ) : num a - num b = (((a : ℝ) - (b : ℝ) : ℝ) : EReal) := by
  unfold num; rw [← EReal.coe_sub]

/-- The difference of two whole numbers, the smaller from the larger. -/
theorem num_sub {a b : ℕ} (h : b ≤ a) : num a - num b = num (a - b) := by
  rw [num_sub_coe]; unfold num; rw [Nat.cast_sub h]

/-- A difference of whole numbers is at least zero exactly when it is taken the right way round. -/
theorem num_sub_nonneg (a b : ℕ) : (0 : EReal) ≤ num a - num b ↔ b ≤ a := by
  rw [num_sub_coe, ← EReal.coe_zero, EReal.coe_le_coe_iff, sub_nonneg, Nat.cast_le]

/-- A difference of whole numbers is above zero exactly when the first is the larger. -/
theorem num_sub_pos (a b : ℕ) : (0 : EReal) < num a - num b ↔ b < a := by
  rw [num_sub_coe, ← EReal.coe_zero, EReal.coe_lt_coe_iff, sub_pos, Nat.cast_lt]

/-- The positive part of a difference taken the right way round. -/
theorem max_num_sub {a b : ℕ} (h : b ≤ a) : max (num a - num b) 0 = num (a - b) := by
  rw [max_eq_left ((num_sub_nonneg a b).mpr h), num_sub h]

/-- The negative of a difference of whole numbers. -/
theorem neg_num_sub (a b : ℕ) : -(num a - num b) = num b - num a := by
  rw [num_sub_coe, num_sub_coe, ← EReal.coe_neg, neg_sub]

/-- A small position as a float. -/
theorem float_pos (n : ℕ) (hn : n < 2048) : (FloatOps.sitofp (F := Ideal) FTy.f32 (BitVec.ofNat 32 n) : EReal) = num n := by
  show (((BitVec.ofNat 32 n).toInt : ℝ) : EReal) = ((n : ℝ) : EReal)
  have h : (BitVec.ofNat 32 n).toInt = (n : ℤ) := by
    rw [BitVec.toInt_eq_toNat_of_lt (by rw [BitVec.toNat_ofNat, Nat.mod_eq_of_lt (by omega)]; omega), BitVec.toNat_ofNat,
      Nat.mod_eq_of_lt (by omega)]
  rw [h]
  norm_cast

/-- The float 127. -/
theorem float_127 : Ideal.ofBits FTy.f32 1123942400#32 = num 127 := by
  simp [Ideal.ofBits, Ideal.ieee, num]
  rw [← EReal.coe_mul]
  norm_num

/-- The float 128. -/
theorem float_128 : Ideal.ofBits FTy.f32 1124073472#32 = num 128 := by
  simp [Ideal.ofBits, Ideal.ieee, num]
  rw [← EReal.coe_mul]
  norm_num

/-! ## The logarithm of a head's decay -/

/-- The logarithm of the logistic function: `min t 0 - log (1 + exp (-|t|))`. -/
def logSig (t : EReal) : EReal := min t 0 - Ideal.log1p (Ideal.exp (-(max t (-t))))

/-- The same, as the negative of the softplus of the negative. -/
theorem logSig_eq (t : EReal) :
    -(max (-t) 0 + Ideal.log1p (Ideal.exp (-(max (-t) (- -t))))) = logSig t := by
  have hL : ∃ l : ℝ, Ideal.log1p (Ideal.exp (-(max t (-t)))) = (l : EReal) := by
    induction t with
    | bot => exact ⟨0, by simp [Ideal.log1p, ← EReal.coe_one]⟩
    | top => exact ⟨0, by simp [Ideal.log1p, ← EReal.coe_one]⟩
    | coe r =>
      refine ⟨Real.log (1 + Real.exp (-(max r (-r)))), ?_⟩
      rw [← EReal.coe_neg, show max (r : EReal) ((-r : ℝ) : EReal) = ((max r (-r) : ℝ) : EReal) from (EReal.coe_strictMono.monotone.map_max).symm, ← EReal.coe_neg, Ideal.exp_coe, Ideal.log1p, ← EReal.coe_one, ← EReal.coe_add,
        Ideal.log_coe, if_neg (not_le.mpr (by positivity))]
  obtain ⟨l, hl⟩ := hL
  unfold logSig
  have hm : max (-t) 0 = -(min t 0) := by
    rw [← neg_zero, EReal.max_neg_neg, neg_zero]
  rw [hm, neg_neg, max_comm (-t) t, hl, EReal.neg_add (Or.inr (EReal.coe_ne_top l)) (Or.inr (EReal.coe_ne_bot l)), neg_neg]

/-! ## One direction -/

/-- One entry of one direction's state before chunk `j`: the keys `k` and values `v` of its row and column by position,
    the decay's logarithm `l`, the first state `s0`. -/
def dirState (k v : ℕ → EReal) (l s0 : EReal) : ℕ → EReal
  | 0 => s0
  | j + 1 => dirState k v l s0 j * Ideal.exp (l * num 128)
      + ∑ r : Fin 128, (k (128 * j + r) * Ideal.exp (l * num (127 - r))) * v (128 * j + r)

/-! ## Both directions -/

/-- What the retention is computed from: queries, keys and values by batch, position and column, states by batch, pair of
    heads, head of the pair, row and column, and the logarithms of the two decays by head. -/
structure Data where
  q : ℕ → ℕ → ℕ → EReal
  k : ℕ → ℕ → ℕ → EReal
  v : ℕ → ℕ → ℕ → EReal
  st : ℕ → ℕ → ℕ → ℕ → ℕ → EReal
  lf : ℕ → EReal
  lb : ℕ → EReal

namespace Data

variable (D : Data) (b h : ℕ)

/-- What chunk `j` adds to entry `(d, x)` of the forward state. -/
def addF (j d x : ℕ) : EReal :=
  ∑ r : Fin 128, D.k b (128 * j + r) (64 * h + d) * (D.v b (128 * j + r) (128 * h + x) * Ideal.exp (D.lf h * num (127 - r)))

/-- What chunk `j` adds to entry `(d, x)` of the backward state. -/
def addB (j d x : ℕ) : EReal :=
  ∑ r : Fin 128, D.k b (128 * j + r) (64 * h + d) * (D.v b (128 * j + r) (128 * h + x) * Ideal.exp (D.lb h * num r))

/-- Entry `(d, x)` of the forward state before chunk `j`. -/
def stF (d x : ℕ) : ℕ → EReal
  | 0 => D.st b (h / 2) (h % 2) d x
  | j + 1 => stF d x j * Ideal.exp (D.lf h * num 128) + D.addF b h j d x

/-- Entry `(d, x)` of the backward state before the `n`-th chunk from the end. -/
def stB (d x : ℕ) : ℕ → EReal
  | 0 => D.st b (h / 2) (h % 2) d (128 + x)
  | n + 1 => stB d x n * Ideal.exp (D.lb h * num 128) + D.addB b h (15 - n) d x

/-- The product of the query at position `r` of chunk `j` and the key at position `s`. -/
def score (j r s : ℕ) : EReal := ∑ d : Fin 64, D.q b (128 * j + r) (64 * h + d) * D.k b (128 * j + s) (64 * h + d)

/-- The decay between two positions of a chunk: the forward one on and below the diagonal, the backward one above. -/
def mask (r s : ℕ) : EReal :=
  if s ≤ r then Ideal.exp (D.lf h * num (r - s)) else Ideal.exp (D.lb h * num (s - r))

/-- The retention's output at position `r` of chunk `j`, column `x` of head `h`. -/
def out (j r x : ℕ) : EReal :=
  (∑ s : Fin 128, (D.score b h j r s * D.mask h r s) * D.v b (128 * j + s) (128 * h + x))
    + ((∑ d : Fin 64, (D.q b (128 * j + r) (64 * h + d) * Ideal.exp (D.lf h * num (r + 1))) * D.stF b h d x j)
      + ∑ d : Fin 64, (D.q b (128 * j + r) (64 * h + d) * Ideal.exp (D.lb h * num (128 - r))) * D.stB b h d x (15 - j))

/-- The forward direction's output. -/
def outF (j r x : ℕ) : EReal :=
  (∑ s : Fin 128, (D.score b h j r s * (if (s : ℕ) ≤ r then Ideal.exp (D.lf h * num (r - s)) else 0)) * D.v b (128 * j + s) (128 * h + x))
    + ∑ d : Fin 64, (D.q b (128 * j + r) (64 * h + d) * Ideal.exp (D.lf h * num (r + 1)))
        * dirState (fun t => D.k b t (64 * h + d)) (fun t => D.v b t (128 * h + x)) (D.lf h) (D.st b (h / 2) (h % 2) d x) j

/-- The backward direction's output at position `r` of chunk `i` of the reversed sequence. -/
def outB (i r x : ℕ) : EReal :=
  (∑ s : Fin 128, ((∑ d : Fin 64, D.q b (2047 - (128 * i + r)) (64 * h + d) * D.k b (2047 - (128 * i + s)) (64 * h + d))
      * (if (s : ℕ) < r then Ideal.exp (D.lb h * num (r - s)) else 0)) * D.v b (2047 - (128 * i + s)) (128 * h + x))
    + ∑ d : Fin 64, (D.q b (2047 - (128 * i + r)) (64 * h + d) * Ideal.exp (D.lb h * num (r + 1)))
        * dirState (fun t => D.k b (2047 - t) (64 * h + d)) (fun t => D.v b (2047 - t) (128 * h + x)) (D.lb h)
            (D.st b (h / 2) (h % 2) d (128 + x)) i

/-- The forward state is the one-directional recurrence. -/
theorem stF_eq (d x : ℕ) : ∀ j, D.stF b h d x j
    = dirState (fun t => D.k b t (64 * h + d)) (fun t => D.v b t (128 * h + x)) (D.lf h) (D.st b (h / 2) (h % 2) d x) j
  | 0 => rfl
  | j + 1 => by
    rw [stF, dirState, stF_eq d x j, addF]
    congr 1
    exact Finset.sum_congr rfl fun r _ => by rw [mul_comm (D.v _ _ _), ← mul_assoc]

/-- The backward state is the one-directional recurrence over the reversed sequence. -/
theorem stB_eq (d x : ℕ) : ∀ n, n ≤ 16 → D.stB b h d x n
    = dirState (fun t => D.k b (2047 - t) (64 * h + d)) (fun t => D.v b (2047 - t) (128 * h + x)) (D.lb h)
        (D.st b (h / 2) (h % 2) d (128 + x)) n
  | 0, _ => rfl
  | n + 1, hn => by
    rw [stB, dirState, stB_eq d x n (by omega), addB]
    congr 1
    refine Fintype.sum_equiv Fin.revPerm _ _ fun r => ?_
    have hr := r.isLt
    have e1 : (Fin.revPerm r).val = 127 - r.val := by
      rw [Fin.revPerm_apply, Fin.val_rev]; omega
    have e2 : 2047 - (128 * n + (127 - r.val)) = 128 * (15 - n) + r.val := by omega
    have e3 : 127 - (127 - r.val) = r.val := by omega
    rw [e1, e2, e3, mul_comm (D.v _ _ _), ← mul_assoc]

/-- The bidirectional output is the forward output plus the backward output at the mirrored position. -/
theorem out_eq {j r : ℕ} (hj : j < 16) (hr : r < 128) (x : ℕ) :
    D.outF b h j r x + D.outB b h (15 - j) (127 - r) x = D.out b h j r x := by
  unfold outF outB out
  have eq1 : 2047 - (128 * (15 - j) + (127 - r)) = 128 * j + r := by omega
  have eq2 : 127 - r + 1 = 128 - r := by omega
  rw [eq1, eq2, add_add_add_comm]
  congr 1
  · conv_lhs => arg 2; rw [← Equiv.sum_comp Fin.revPerm]
    rw [← Finset.sum_add_distrib]
    refine Finset.sum_congr rfl fun s _ => ?_
    have hs := s.isLt
    have e1 : (Fin.revPerm s).val = 127 - s.val := by
      rw [Fin.revPerm_apply, Fin.val_rev]; omega
    have e2 : 2047 - (128 * (15 - j) + (127 - s.val)) = 128 * j + s.val := by omega
    have e3 : 127 - r - (127 - s.val) = s.val - r := by omega
    have e4 : 127 - s.val < 127 - r ↔ ¬ s.val ≤ r := by omega
    simp only [e1, e2, e3, e4, score, mask]
    by_cases hc : s.val ≤ r
    · rw [if_pos hc, if_pos hc, if_neg (not_not.mpr hc), mul_zero, zero_mul, add_zero]
    · rw [if_neg hc, if_neg hc, if_pos hc, mul_zero, zero_mul, zero_add]
  · congr 1
    · exact Finset.sum_congr rfl fun d _ => by rw [D.stF_eq]
    · exact Finset.sum_congr rfl fun d _ => by rw [D.stB_eq b h d x _ (by omega)]

/-! ## The same retention from other arguments -/

variable (E : Data) (b' h' : ℕ)

/-- Arguments of two retentions that agree on one head of one batch element. -/
structure Agree : Prop where
  /-- The queries agree. -/
  q : ∀ t < 2048, ∀ d < 64, D.q b t (64 * h + d) = E.q b' t (64 * h' + d)
  /-- The keys agree. -/
  k : ∀ t < 2048, ∀ d < 64, D.k b t (64 * h + d) = E.k b' t (64 * h' + d)
  /-- The values agree. -/
  v : ∀ t < 2048, ∀ x < 128, D.v b t (128 * h + x) = E.v b' t (128 * h' + x)
  /-- The initial states agree. -/
  st : ∀ d < 64, ∀ x < 256, D.st b (h / 2) (h % 2) d x = E.st b' (h' / 2) (h' % 2) d x
  /-- The forward decays agree. -/
  lf : D.lf h = E.lf h'
  /-- The backward decays agree. -/
  lb : D.lb h = E.lb h'

variable {D b h E b' h'} (H : Agree D b h E b' h')
include H

/-- Agreeing arguments give the same forward states. -/
theorem stF_congr {d x : ℕ} (hd : d < 64) (hx : x < 128) : ∀ j, j ≤ 16 → D.stF b h d x j = E.stF b' h' d x j
  | 0, _ => H.st d hd x (by omega)
  | j + 1, hj => by
    have : D.addF b h j d x = E.addF b' h' j d x := Finset.sum_congr rfl fun r _ => by
      rw [H.k _ (by omega) d hd, H.v _ (by omega) x hx, H.lf]
    rw [stF, stF, stF_congr hd hx j (by omega), this, H.lf]

/-- Agreeing arguments give the same backward states. -/
theorem stB_congr {d x : ℕ} (hd : d < 64) (hx : x < 128) : ∀ n, n ≤ 16 → D.stB b h d x n = E.stB b' h' d x n
  | 0, _ => H.st d hd (128 + x) (by omega)
  | n + 1, hn => by
    have : D.addB b h (15 - n) d x = E.addB b' h' (15 - n) d x := Finset.sum_congr rfl fun r _ => by
      rw [H.k _ (by omega) d hd, H.v _ (by omega) x hx, H.lb]
    rw [stB, stB, stB_congr hd hx n (by omega), this, H.lb]

/-- Agreeing arguments give the same output. -/
theorem out_congr {j r x : ℕ} (hj : j < 16) (hr : r < 128) (hx : x < 128) : D.out b h j r x = E.out b' h' j r x := by
  unfold out score mask
  rw [H.lf, H.lb]
  refine congrArg₂ (· + ·) (Finset.sum_congr rfl fun s _ => ?_)
    (congrArg₂ (· + ·) (Finset.sum_congr rfl fun d _ => ?_) (Finset.sum_congr rfl fun d _ => ?_))
  · rw [H.v _ (by omega) x hx, Finset.sum_congr rfl fun (d : Fin 64) _ => show
      D.q b (128 * j + r) (64 * h + d) * D.k b (128 * j + s) (64 * h + d) = E.q b' (128 * j + r) (64 * h' + d) * E.k b' (128 * j + s) (64 * h' + d) by
        rw [H.q _ (by omega) d d.isLt, H.k _ (by omega) d d.isLt]]
  · rw [H.q _ (by omega) d d.isLt, stF_congr H d.isLt hx j (by omega)]
  · rw [H.q _ (by omega) d d.isLt, stB_congr H d.isLt hx (15 - j) (by omega)]

end Data

/-- The retention's data, from its six argument arrays. -/
def argData (q k : (⟨3, ![8, 2048, 512]⟩ : Shape).Idx → EReal) (v : (⟨3, ![8, 2048, 1024]⟩ : Shape).Idx → EReal)
    (st : (⟨5, ![8, 4, 2, 64, 256]⟩ : Shape).Idx → EReal) (lf lb : (⟨1, ![8]⟩ : Shape).Idx → EReal) : Data where
  q := at3 q
  k := at3 k
  v := at3 v
  st := at5 st
  lf h := logSig (at1 lf h)
  lb h := logSig (at1 lb h)

end Cert.Retention

end
-- ==== Proof.KerPieces.lean ====
module

public import proofs.«01_k».proof.Proof.Math
public import proofs.«01_k».proof.Proof.Gen.KernelIdeal.Value

/-! The kernel's three scratch buffers and its result, each as one family of stores over the pair of heads `p`, the chunk
`j` and the head `hh` of the pair. The run's own lists are these families. -/

@[expose] public section

set_option maxRecDepth 16384

noncomputable section

namespace Cert.KernelIdeal.Pieces

open Idealize.ShloMosaic Idealize.ShloMosaic.TcCoe Idealize.SL.Sem
open Cert.KernelIdeal Cert.KernelIdeal.Gen

variable (c : Dev nD) (i : grid0.Coords)
  (arg2 : Memref sig Kind.tc Space.vmem S1x2048x256 EltTy.bf16) (harg2 : arg2.IsWhole)
  (arg3 : Memref sig Kind.tc Space.vmem S1x2048x256 EltTy.bf16) (harg3 : arg3.IsWhole)
  (arg4 : Memref sig Kind.tc Space.vmem S1x2048x512 EltTy.bf16) (harg4 : arg4.IsWhole)
  (arg5 : Memref sig Kind.tc Space.vmem S1x2x2x64x256 EltTy.f32) (harg5 : arg5.IsWhole)
  (arg6 : Memref sig Kind.tc Space.smem S8 EltTy.f32) (harg6 : arg6.IsWhole)
  (arg7 : Memref sig Kind.tc Space.smem S8 EltTy.f32) (harg7 : arg7.IsWhole)
  (arg8 : Memref sig Kind.tc Space.vmem S1x2048x512 EltTy.bf16) (harg8 : arg8.IsWhole)
  (arg9 : Memref sig Kind.tc Space.vmem S2x16x2x64x256 EltTy.f32) (harg9 : arg9.IsWhole)
  (arg10 : Memref sig Kind.tc Space.vmem S2x16x2x256x128 EltTy.bf16) (harg10 : arg10.IsWhole)
  (arg11 : Memref sig Kind.tc Space.vmem S2x16x2x128x256 EltTy.bf16) (harg11 : arg11.IsWhole)
  (x0 x1 : Vec Ideal S1x2048x256 .bf16) (x2 : Vec Ideal S1x2048x512 .bf16) (x3 : Vec Ideal S1x2x2x64x256 .f32)
  (x4 x5 : Vec Ideal S8 .f32)

/-- A chunk of the pair's queries. -/
def qBlk (p : Fin 2) (j : Fin 16) : Vec Ideal S1x128x128 .bf16 :=
  View.readAt (Elt Ideal) arg2.view (Rect.unit (s := S1x2048x256) ![0, 128 * (j : ℕ), 128 * (p : ℕ)] S1x128x128.size
    (by intro a; fin_cases a <;> simp <;> omega)).toLoadRect (harg2.unread x0)

/-- A chunk of the pair's keys. -/
def kBlk (p : Fin 2) (j : Fin 16) : Vec Ideal S1x128x128 .bf16 :=
  View.readAt (Elt Ideal) arg3.view (Rect.unit (s := S1x2048x256) ![0, 128 * (j : ℕ), 128 * (p : ℕ)] S1x128x128.size
    (by intro a; fin_cases a <;> simp <;> omega)).toLoadRect (harg3.unread x1)

/-- A chunk of one head's values. -/
def vBlk (p : Fin 2) (j : Fin 16) (hh : Fin 2) : Vec Ideal S1x128x128 .bf16 :=
  View.readAt (Elt Ideal) arg4.view (Rect.unit (s := S1x2048x512) ![0, 128 * (j : ℕ), 256 * (p : ℕ) + 128 * (hh : ℕ)] S1x128x128.size
    (by intro a; fin_cases a <;> simp <;> omega)).toLoadRect (harg4.unread x2)

/-- One head's initial state, of the direction whose columns start at `off`. -/
def sBlk (p hh off : Fin 2) : Vec Ideal S1x1x1x64x128 .f32 :=
  View.readAt (Elt Ideal) arg5.view (Rect.unit (s := S1x2x2x64x256) ![0, (p : ℕ), (hh : ℕ), 0, 128 * (off : ℕ)] S1x1x1x64x128.size
    (by intro a; fin_cases a <;> simp <;> omega)).toLoadRect (harg5.unread x3)

/-- The forward decay parameter of a head, as the kernel loads it. -/
def decF : Fin 2 → Fin 2 → Elt Ideal .f32
  | 0, 0 => kernelRun0_A.sl.r c i arg6 harg6 x4
  | 0, 1 => kernelRun0_A.sl.r_1 c i arg6 harg6 x4
  | 1, 0 => kernelRun0_A.sl.r_185 c i arg6 harg6 x4
  | 1, 1 => kernelRun0_A.sl.r_186 c i arg6 harg6 x4

/-- The backward decay parameter of a head, as the kernel loads it. -/
def decB : Fin 2 → Fin 2 → Elt Ideal .f32
  | 0, 0 => kernelRun0_A.sl.r_2 c i arg7 harg7 x5
  | 0, 1 => kernelRun0_A.sl.r_3 c i arg7 harg7 x5
  | 1, 0 => kernelRun0_A.sl.r_187 c i arg7 harg7 x5
  | 1, 1 => kernelRun0_A.sl.r_192 c i arg7 harg7 x5

/-- The forward log decay of a head along the lanes. -/
def lgF (p hh : Fin 2) : FVec Ideal S1x128 .f32 := k0_pay2 (decF c i arg6 harg6 x4 p hh)

/-- The backward log decay of a head along the lanes. -/
def lgB (p hh : Fin 2) : FVec Ideal S1x128 .f32 := k0_pay2 (decB c i arg7 harg7 x5 p hh)

/-- A head's chunk contribution to both states, from its log decays, keys and values. -/
def genA (lf lb : FVec Ideal S1x128 .f32) (k v : Vec Ideal S1x128x128 .bf16) : Fin 2 → Vec Ideal S1x1x64x256 .f32
  | 0 => k0_pay25 (k0_pay10 lf) (k0_pay11 lb) (k0_pay22 k) (k0_pay23 v)
  | 1 => k0_pay30 (k0_pay28 (k0_pay10 lf) (k0_pay11 lb) v) (k0_pay29 (k0_pay22 k)) kernelRun0_A.sl.cst_58

/-- Where a pair's chunk and head sit in the first scratch buffer, without the leading coordinate. -/
def aRect (j : Fin 16) (hh : Fin 2) : Rect S16x2x64x256 :=
  Rect.unit ![(j : ℕ), (hh : ℕ), 0, 0] S1x1x64x256.size (by intro a; fin_cases a <;> simp <;> omega)

/-- One pair's part of the first scratch buffer. -/
def aPart (p : Fin 2) : Rect S2x16x2x64x256 :=
  Rect.unit ![(p : ℕ), 0, 0, 0, 0] S1x16x2x64x256.size (by intro a; fin_cases a <;> simp <;> omega)

/-- The store of a chunk contribution. -/
def aPiece (p : Fin 2) (j : Fin 16) (hh : Fin 2) : View.Piece (Elt Ideal) S2x16x2x64x256 .f32 :=
  ⟨(aPart p).within ((aRect j hh).consLift ![1, 16, 2, 64, 256] rfl (fun _ => rfl)) (fun _ => rfl),
    Rect.payAlong (r := aRect j hh) ((aRect j hh).numel_consLift ![1, 16, 2, 64, 256] rfl (fun _ => rfl))
      (genA (lgF c i arg6 harg6 x4 p hh) (lgB c i arg7 harg7 x5 p hh) (kBlk arg3 harg3 x1 p j) (vBlk arg4 harg4 x2 p j hh) hh)⟩

/-- The stores of one pair's chunk contributions, the last first. -/
def aList (p : Fin 2) : List (View.Piece (Elt Ideal) S2x16x2x64x256 .f32) :=
  (List.finRange 16).reverse.flatMap fun j =>
    [aPiece c i arg3 harg3 arg4 harg4 arg6 harg6 arg7 harg7 x1 x2 x4 x5 p j 1,
      aPiece c i arg3 harg3 arg4 harg4 arg6 harg6 arg7 harg7 x1 x2 x4 x5 p j 0]

/-- The stores before a pair's chunk contributions are read, the last first. -/
def aRun : Fin 2 → List (View.Piece (Elt Ideal) S2x16x2x64x256 .f32)
  | 0 => kernelRun0_A.sl.HS0_32 (F := Ideal) c i arg3 harg3 arg4 harg4 arg6 harg6 arg7 harg7 x1 x2 x4 x5
  | 1 => kernelRun0_A.sl.HS0_64 (F := Ideal) c i arg3 harg3 arg4 harg4 arg6 harg6 arg7 harg7 x1 x2 x4 x5

/-- The run's stores of the first pair's chunk contributions are the family's. -/
theorem aRun_zero : aRun c i arg3 harg3 arg4 harg4 arg6 harg6 arg7 harg7 x1 x2 x4 x5 0
    = aList c i arg3 harg3 arg4 harg4 arg6 harg6 arg7 harg7 x1 x2 x4 x5 0 := by
  sl_kernel_rfl

/-- The run's stores of both pairs' chunk contributions are the family's. -/
theorem aRun_one : aRun c i arg3 harg3 arg4 harg4 arg6 harg6 arg7 harg7 x1 x2 x4 x5 1
    = aList c i arg3 harg3 arg4 harg4 arg6 harg6 arg7 harg7 x1 x2 x4 x5 1
      ++ aList c i arg3 harg3 arg4 harg4 arg6 harg6 arg7 harg7 x1 x2 x4 x5 0 := by
  sl_kernel_rfl

/-- Where a chunk contribution is loaded from, without the leading coordinate. -/
def aBox (j : Fin 16) (hh off : Fin 2) : LoadRect S16x2x64x256 :=
  (Rect.unit (s := S16x2x64x256) ![(j : ℕ), (hh : ℕ), 0, 128 * (off : ℕ)] S1x1x64x128.size
    (by intro a; fin_cases a <;> simp <;> omega)).toLoadRect

/-- A chunk contribution to one direction's state, loaded back. -/
def aLoad (p : Fin 2) (j : Fin 16) (hh off : Fin 2) : Vec Ideal S1x1x64x128 .f32 :=
  LoadRect.valAlong (lr := aBox j hh off) ((aBox j hh off).numel_consLift ![1, 16, 2, 64, 256] rfl (fun _ => rfl))
    (arg9.view.readCov (aRun c i arg3 harg3 arg4 harg4 arg6 harg6 arg7 harg7 x1 x2 x4 x5 p)
      ((aPart p).withinL ((aBox j hh off).consLift ![1, 16, 2, 64, 256] rfl (fun _ => rfl)) (fun _ => rfl)))

/-- A head's forward state before chunk `n`. -/
def sfVec (p hh : Fin 2) : ℕ → FVec Ideal S64x128 .f32
  | 0 => k0_pay150 (sBlk arg5 harg5 x3 p hh 0)
  | n + 1 => k0_pay154 (sfVec p hh n) (k0_pay151 (lgF c i arg6 harg6 x4 p hh))
      (aLoad c i arg3 harg3 arg4 harg4 arg6 harg6 arg7 harg7 arg9 x1 x2 x4 x5 p (Fin.ofNat 16 n) hh 0)

/-- A head's backward state after `n` chunks from the last. -/
def sbVec (p hh : Fin 2) : ℕ → FVec Ideal S64x128 .f32
  | 0 => k0_pay150 (sBlk arg5 harg5 x3 p hh 1)
  | n + 1 => k0_pay154 (sbVec p hh n) (k0_pay151 (lgB c i arg7 harg7 x5 p hh))
      (aLoad c i arg3 harg3 arg4 harg4 arg6 harg6 arg7 harg7 arg9 x1 x2 x4 x5 p (Fin.ofNat 16 (15 - n)) hh 1)

/-- The store of a head's values of a chunk. -/
def vPiece (p : Fin 2) (j : Fin 16) (hh : Fin 2) : View.Piece (Elt Ideal) S2x16x2x256x128 .bf16 :=
  ⟨Rect.unit ![(p : ℕ), (j : ℕ), (hh : ℕ), 0, 0] S1x1x1x128x128.size (by intro a; fin_cases a <;> simp <;> omega),
    k0_pay24 (k0_pay23 (vBlk arg4 harg4 x2 p j hh))⟩

/-- The store of a head's forward state before a chunk. -/
def sfPiece (p : Fin 2) (j : Fin 16) (hh : Fin 2) : View.Piece (Elt Ideal) S2x16x2x256x128 .bf16 :=
  ⟨Rect.unit ![(p : ℕ), (j : ℕ), (hh : ℕ), 128, 0] S1x1x1x64x128.size (by intro a; fin_cases a <;> simp <;> omega),
    k0_pay153 (truncf .bf16 (sfVec c i arg3 harg3 arg4 harg4 arg5 harg5 arg6 harg6 arg7 harg7 arg9 x1 x2 x3 x4 x5 p hh j)
      bitsLt_bf16_f32)⟩

/-- The store of a head's backward state at a chunk. -/
def sbPiece (p : Fin 2) (j : Fin 16) (hh : Fin 2) : View.Piece (Elt Ideal) S2x16x2x256x128 .bf16 :=
  ⟨Rect.unit ![(p : ℕ), (j : ℕ), (hh : ℕ), 192, 0] S1x1x1x64x128.size (by intro a; fin_cases a <;> simp <;> omega),
    k0_pay153 (truncf .bf16 (sbVec c i arg3 harg3 arg4 harg4 arg5 harg5 arg6 harg6 arg7 harg7 arg9 x1 x2 x3 x4 x5 p hh (15 - j))
      bitsLt_bf16_f32)⟩

/-- One head's stores of states, the last first: backward, then forward. -/
def sList (p hh : Fin 2) : List (View.Piece (Elt Ideal) S2x16x2x256x128 .bf16) :=
  (List.finRange 16).map (fun j => sbPiece c i arg3 harg3 arg4 harg4 arg5 harg5 arg6 harg6 arg7 harg7 arg9 x1 x2 x3 x4 x5 p j hh)
    ++ (List.finRange 16).reverse.map fun j =>
      sfPiece c i arg3 harg3 arg4 harg4 arg5 harg5 arg6 harg6 arg7 harg7 arg9 x1 x2 x3 x4 x5 p j hh

/-- The stores of one pair's right factors, the last first. -/
def rList (p : Fin 2) : List (View.Piece (Elt Ideal) S2x16x2x256x128 .bf16) :=
  sList c i arg3 harg3 arg4 harg4 arg5 harg5 arg6 harg6 arg7 harg7 arg9 x1 x2 x3 x4 x5 p 1
    ++ sList c i arg3 harg3 arg4 harg4 arg5 harg5 arg6 harg6 arg7 harg7 arg9 x1 x2 x3 x4 x5 p 0
    ++ (List.finRange 16).reverse.flatMap fun j => [vPiece arg4 harg4 x2 p j 1, vPiece arg4 harg4 x2 p j 0]

/-- The stores before a pair's right factors are read, the last first. -/
def rRun : Fin 2 → List (View.Piece (Elt Ideal) S2x16x2x256x128 .bf16)
  | 0 => kernelRun0_A.sl.HS1_96 (F := Ideal) c i arg3 harg3 arg4 harg4 arg5 harg5 arg6 harg6 arg7 harg7 arg9 x1 x2 x3 x4 x5
  | 1 => kernelRun0_A.sl.HS1_192 (F := Ideal) c i arg3 harg3 arg4 harg4 arg5 harg5 arg6 harg6 arg7 harg7 arg9 x1 x2 x3 x4 x5

/-- A head's left factor of a chunk: decayed scores, then the queries decayed for both states. -/
def genL (lf lb : FVec Ideal S1x128 .f32) (q k : Vec Ideal S1x128x128 .bf16) : Fin 2 → Vec Ideal S1x1x1x128x256 .bf16
  | 0 => k0_pay318 kernelRun0_A.sl.v3 (k0_pay14 kernelRun0_A.sl.v3 lf lb) (k0_pay20 lf lb k0_pay9) (k0_pay310 q) (k0_pay311 k)
      k0_pay312 (k0_pay313 kernelRun0_A.sl.v3 k) (k0_pay314 kernelRun0_A.sl.v3)
  | 1 => k0_pay320 (k0_pay319 kernelRun0_A.sl.v3 (k0_pay14 kernelRun0_A.sl.v3 lf lb) (k0_pay20 lf lb k0_pay9) (k0_pay310 q)
      (k0_pay311 k) k0_pay312 (k0_pay313 kernelRun0_A.sl.v3 k) (k0_pay314 kernelRun0_A.sl.v3))

/-- The store of a left factor. -/
def lPiece (p : Fin 2) (j : Fin 16) (hh : Fin 2) : View.Piece (Elt Ideal) S2x16x2x128x256 .bf16 :=
  ⟨Rect.unit ![(p : ℕ), (j : ℕ), (hh : ℕ), 0, 0] S1x1x1x128x256.size (by intro a; fin_cases a <;> simp <;> omega),
    genL (lgF c i arg6 harg6 x4 p hh) (lgB c i arg7 harg7 x5 p hh) (qBlk arg2 harg2 x0 p j) (kBlk arg3 harg3 x1 p j) hh⟩

/-- The stores of one pair's left factors, the last first. -/
def lList (p : Fin 2) : List (View.Piece (Elt Ideal) S2x16x2x128x256 .bf16) :=
  (List.finRange 16).reverse.flatMap fun j =>
    [lPiece c i arg2 harg2 arg3 harg3 arg6 harg6 arg7 harg7 x0 x1 x4 x5 p j 1,
      lPiece c i arg2 harg2 arg3 harg3 arg6 harg6 arg7 harg7 x0 x1 x4 x5 p j 0]

/-- The stores before a pair's left factors are read, the last first. -/
def lRun : Fin 2 → List (View.Piece (Elt Ideal) S2x16x2x128x256 .bf16)
  | 0 => kernelRun0_A.sl.HS2_32 (F := Ideal) c i arg2 harg2 arg3 harg3 arg6 harg6 arg7 harg7 x0 x1 x4 x5
  | 1 => kernelRun0_A.sl.HS2_64 (F := Ideal) c i arg2 harg2 arg3 harg3 arg6 harg6 arg7 harg7 x0 x1 x4 x5

/-- The run's stores of the first pair's left factors are the family's. -/
theorem lRun_zero : lRun c i arg2 harg2 arg3 harg3 arg6 harg6 arg7 harg7 x0 x1 x4 x5 0
    = lList c i arg2 harg2 arg3 harg3 arg6 harg6 arg7 harg7 x0 x1 x4 x5 0 := by
  sl_kernel_rfl

/-- The run's stores of both pairs' left factors are the family's. -/
theorem lRun_one : lRun c i arg2 harg2 arg3 harg3 arg6 harg6 arg7 harg7 x0 x1 x4 x5 1
    = lList c i arg2 harg2 arg3 harg3 arg6 harg6 arg7 harg7 x0 x1 x4 x5 1
      ++ lList c i arg2 harg2 arg3 harg3 arg6 harg6 arg7 harg7 x0 x1 x4 x5 0 := by
  sl_kernel_rfl

/-- The run's stores of the first pair's right factors are the family's. -/
theorem rRun_zero : rRun c i arg3 harg3 arg4 harg4 arg5 harg5 arg6 harg6 arg7 harg7 arg9 x1 x2 x3 x4 x5 0
    = rList c i arg3 harg3 arg4 harg4 arg5 harg5 arg6 harg6 arg7 harg7 arg9 x1 x2 x3 x4 x5 0 := by
  sl_kernel_rfl

/-- The run's stores of both pairs' right factors are the family's. -/
theorem rRun_one : rRun c i arg3 harg3 arg4 harg4 arg5 harg5 arg6 harg6 arg7 harg7 arg9 x1 x2 x3 x4 x5 1
    = rList c i arg3 harg3 arg4 harg4 arg5 harg5 arg6 harg6 arg7 harg7 arg9 x1 x2 x3 x4 x5 1
      ++ rList c i arg3 harg3 arg4 harg4 arg5 harg5 arg6 harg6 arg7 harg7 arg9 x1 x2 x3 x4 x5 0 := by
  sl_kernel_rfl

/-- A head's left factor of a chunk, loaded back. -/
def lLoad (p : Fin 2) (j : Fin 16) (hh : Fin 2) : Vec Ideal S1x1x128x256 .bf16 :=
  LoadRect.valAlong (lr := (Rect.unit (s := S16x2x128x256) ![(j : ℕ), (hh : ℕ), 0, 0] S1x1x128x256.size
      (by intro a; fin_cases a <;> simp <;> omega)).toLoadRect)
    (LoadRect.numel_consLift _ ![1, 16, 2, 128, 256] rfl (fun _ => rfl))
    (arg11.view.readCov (lRun c i arg2 harg2 arg3 harg3 arg6 harg6 arg7 harg7 x0 x1 x4 x5 p)
      ((Rect.unit (s := S2x16x2x128x256) ![(p : ℕ), 0, 0, 0, 0] S1x16x2x128x256.size
        (by intro a; fin_cases a <;> simp <;> omega)).withinL
        ((Rect.unit (s := S16x2x128x256) ![(j : ℕ), (hh : ℕ), 0, 0] S1x1x128x256.size
          (by intro a; fin_cases a <;> simp <;> omega)).toLoadRect.consLift ![1, 16, 2, 128, 256] rfl (fun _ => rfl))
        (fun _ => rfl)))

/-- A head's right factor of a chunk, loaded back. -/
def rLoad (p : Fin 2) (j : Fin 16) (hh : Fin 2) : Vec Ideal S1x1x256x128 .bf16 :=
  LoadRect.valAlong (lr := (Rect.unit (s := S16x2x256x128) ![(j : ℕ), (hh : ℕ), 0, 0] S1x1x256x128.size
      (by intro a; fin_cases a <;> simp <;> omega)).toLoadRect)
    (LoadRect.numel_consLift _ ![1, 16, 2, 256, 128] rfl (fun _ => rfl))
    (arg10.view.readCov (rRun c i arg3 harg3 arg4 harg4 arg5 harg5 arg6 harg6 arg7 harg7 arg9 x1 x2 x3 x4 x5 p)
      ((Rect.unit (s := S2x16x2x256x128) ![(p : ℕ), 0, 0, 0, 0] S1x16x2x256x128.size
        (by intro a; fin_cases a <;> simp <;> omega)).withinL
        ((Rect.unit (s := S16x2x256x128) ![(j : ℕ), (hh : ℕ), 0, 0] S1x1x256x128.size
          (by intro a; fin_cases a <;> simp <;> omega)).toLoadRect.consLift ![1, 16, 2, 256, 128] rfl (fun _ => rfl))
        (fun _ => rfl)))

/-- The store of a head's result of a chunk. -/
def oPiece (p : Fin 2) (j : Fin 16) (hh : Fin 2) : View.Piece (Elt Ideal) S1x2048x512 .bf16 :=
  ⟨Rect.unit ![0, 128 * (j : ℕ), 256 * (p : ℕ) + 128 * (hh : ℕ)] S1x128x128.size (by intro a; fin_cases a <;> simp <;> omega),
    k0_pay1 (lLoad c i arg2 harg2 arg3 harg3 arg6 harg6 arg7 harg7 arg11 x0 x1 x4 x5 p j hh)
      (rLoad c i arg3 harg3 arg4 harg4 arg5 harg5 arg6 harg6 arg7 harg7 arg9 arg10 x1 x2 x3 x4 x5 p j hh)⟩

/-- The stores of the block's results, the last first. -/
def oList : List (View.Piece (Elt Ideal) S1x2048x512 .bf16) :=
  [(1 : Fin 2), 0].flatMap fun p => (List.finRange 16).reverse.flatMap fun j => [(1 : Fin 2), 0].map fun hh =>
    oPiece c i arg2 harg2 arg3 harg3 arg4 harg4 arg5 harg5 arg6 harg6 arg7 harg7 arg9 arg10 arg11 x0 x1 x2 x3 x4 x5 p j hh

/-- The run's stores of its results are the family's. -/
theorem run_eq : (kernelRun0_A (F := Ideal) c i arg2 harg2 arg3 harg3 arg4 harg4 arg5 harg5 arg6 harg6 arg7 harg7 arg8 harg8
      arg9 harg9 arg10 harg10 arg11 harg11 x0 x1 x2 x3 x4 x5).1
    = oList c i arg2 harg2 arg3 harg3 arg4 harg4 arg5 harg5 arg6 harg6 arg7 harg7 arg9 arg10 arg11 x0 x1 x2 x3 x4 x5 := by
  sl_kernel_rfl

end Cert.KernelIdeal.Pieces
-- ==== Proof.KerGen.lean ====
module

public import proofs.«01_k».proof.Proof.KerPieces

/-! What each family's payload is, entry by entry, from the blocks it is computed from. -/

@[expose] public section

set_option maxRecDepth 16384

noncomputable section

namespace Cert.KernelIdeal.Pieces

open Idealize.ShloMosaic Idealize.ShloMosaic.TcCoe Idealize.SL.Sem
open Cert.KernelIdeal Cert.KernelIdeal.Gen Cert.Retention

/-- A lane below the half, as the kernel tests it. -/
theorem lane_lt (x : Fin 128) : IntOp.cmpi CmpIPredicate.slt (BitVec.ofNat 32 (x : ℕ)) 64#32 = if (x : ℕ) < 64 then 1#1 else 0#1 := by
  revert x; decide

/-- A lane from the half on, as the kernel tests it. -/
theorem lane_ge (x : Fin 128) : IntOp.cmpi CmpIPredicate.sge (BitVec.ofNat 32 (x : ℕ)) 64#32 = if (x : ℕ) < 64 then 0#1 else 1#1 := by
  revert x; decide

/-- A selection by the test of a lane below the half. -/
theorem select_lt {α : Type} (x : ℕ) (hx : x < 128) (a b : α) :
    Scalar.select (IntOp.cmpi CmpIPredicate.slt (BitVec.ofNat 32 x) 64#32) a b = if x < 64 then a else b := by
  rw [show IntOp.cmpi CmpIPredicate.slt (BitVec.ofNat 32 x) 64#32 = if x < 64 then 1#1 else 0#1 from lane_lt ⟨x, hx⟩]
  split <;> rfl

/-- A selection by the test of a lane from the half on. -/
theorem select_ge {α : Type} (x : ℕ) (hx : x < 128) (a b : α) :
    Scalar.select (IntOp.cmpi CmpIPredicate.sge (BitVec.ofNat 32 x) 64#32) a b = if x < 64 then b else a := by
  rw [show IntOp.cmpi CmpIPredicate.sge (BitVec.ofNat 32 x) 64#32 = if x < 64 then 0#1 else 1#1 from lane_ge ⟨x, hx⟩]
  split <;> rfl

/-- A sum over the lanes, half by half. -/
theorem sum_lanes (f : Fin 128 → EReal) :
    ∑ x, f x = ∑ d : Fin 64, f ⟨d, by omega⟩ + ∑ d : Fin 64, f ⟨64 + d, by omega⟩ :=
  Fin.sum_univ_add (a := 64) (b := 64) f

/-- The log decay of a head is the same on every lane. -/
theorem log_decay (t : Elt Ideal .f32) (x : Fin 128) :
    (k0_pay2 (F := Ideal) t : Vec Ideal S1x128 .f32) (ix2 (0 : Fin 1) x) = logSig t := by
  pointwise [k0_pay2]
  show min t 0 - Ideal.log1p (Ideal.exp (0 - max t (-t))) = _
  rw [zero_sub, logSig]

/-- A head's queries, once on each half of the lanes. -/
def genQ (q : Vec Ideal S1x128x128 .bf16) : Fin 2 → FVec Ideal S128x128 .f32
  | 0 => select (broadcastTo S128x128 (shapeCast S1x128 (cmpi .slt kernelRun0_A.sl.v3 (broadcast S1x128 64#32)) shapeCasts_S1x128_S1x128)
      broadcasts_S1x128_S128x128) (k0_pay316 (k0_pay310 q)) (k0_pay317 (k0_pay310 q))
  | 1 => select (broadcastTo S128x128 (shapeCast S1x128 (cmpi .slt kernelRun0_A.sl.v3 (broadcast S1x128 64#32)) shapeCasts_S1x128_S1x128)
      broadcasts_S1x128_S128x128) (k0_pay317 (k0_pay310 q)) (k0_pay316 (k0_pay310 q))

section
variable {lf lb : FVec Ideal S1x128 .f32} {Lf Lb : EReal} (hf : ∀ x : Fin 128, lf (ix2 (0 : Fin 1) x) = Lf)
  (hb : ∀ x : Fin 128, lb (ix2 (0 : Fin 1) x) = Lb) (q k v : Vec Ideal S1x128x128 .bf16)

include hf hb

/-- An entry of a chunk contribution. -/
theorem genA_apply (hh : Fin 2) (d : Fin 64) (x : Fin 256) :
    (genA lf lb k v hh : Vec Ideal S1x1x64x256 .f32) (ix4 (0 : Fin 1) (0 : Fin 1) d x)
      = ∑ r : Fin 128, k (ix3 (0 : Fin 1) r ⟨64 * (hh : ℕ) + d, by omega⟩)
          * (if h : (x : ℕ) < 128 then v (ix3 (0 : Fin 1) r ⟨x, h⟩) * Ideal.exp (Lf * num (127 - r))
             else v (ix3 (0 : Fin 1) r ⟨x - 128, by omega⟩) * Ideal.exp (Lb * num r)) := by
  have e : ∀ r : Fin 128, (num 127 - num r : EReal) = num (127 - r) := fun r => num_sub (by omega)
  have e' : ∀ r : Fin 128, (FloatOps.sitofp (F := Ideal) FTy.f32 (BitVec.ofNat 32 (r : ℕ)) : EReal) = num r := fun r =>
    float_pos _ (by omega)
  fin_cases hh
  · show (genA lf lb k v 0 : Vec Ideal S1x1x64x256 .f32) (ix4 (0 : Fin 1) (0 : Fin 1) d x) = _
    pointwise [genA, k0_pay25, k0_pay10, k0_pay11, k0_pay9, k0_pay22, k0_pay23]
    simp only [hf, hb, e', float_127, e]
  · show (genA lf lb k v 1 : Vec Ideal S1x1x64x256 .f32) (ix4 (0 : Fin 1) (0 : Fin 1) d x) = _
    pointwise [genA, k0_pay30, k0_pay28, k0_pay29, k0_pay26, kernelRun0_A.sl.cst_58, k0_pay10, k0_pay11, k0_pay9, k0_pay22, k0_pay23]
    simp only [hf, hb, e', float_127, e]

/-- The decay between two positions of a chunk, as the kernel computes it. -/
theorem mask_apply (r x : Fin 128) :
    (k0_pay20 lf lb k0_pay9 : Vec Ideal S128x128 .f32) (ix2 r x)
      = if (x : ℕ) ≤ r then Ideal.exp (Lf * num (r - x)) else Ideal.exp (Lb * num (x - r)) := by
  pointwise [k0_pay20, k0_pay19, k0_pay9]
  rw [hf, hb, float_pos _ (by omega : (r : ℕ) < 2048), float_pos _ (by omega : (x : ℕ) < 2048)]
  by_cases h : (x : ℕ) ≤ r
  · rw [if_pos h, if_pos ((num_sub_nonneg _ _).mpr h), max_num_sub h]
  · rw [if_neg h, if_neg (fun h' => h ((num_sub_nonneg _ _).mp h')), zero_sub, neg_num_sub, max_num_sub (by omega)]

/-- The decay of a query for the forward state, on the lanes below the half. -/
theorem qdec_low (r : Fin 128) (d : Fin 64) :
    (k0_pay14 kernelRun0_A.sl.v3 lf lb : Vec Ideal S128x128 .f32) (ix2 r (⟨d, by omega⟩ : Fin 128)) = Ideal.exp (Lf * num (r + 1)) := by
  pointwise [k0_pay14, k0_pay9, kernelRun0_A.sl.v3]
  rw [select_lt _ (by omega), if_pos d.isLt, hf, float_pos _ (by omega : (r : ℕ) < 2048), ← num_add]
  simp [num]

/-- The decay of a query for the backward state, on the lanes from the half on. -/
theorem qdec_high (r : Fin 128) (d : Fin 64) :
    (k0_pay14 kernelRun0_A.sl.v3 lf lb : Vec Ideal S128x128 .f32) (ix2 r (⟨64 + d, by omega⟩ : Fin 128)) = Ideal.exp (Lb * num (128 - r)) := by
  pointwise [k0_pay14, k0_pay9, kernelRun0_A.sl.v3]
  rw [select_lt _ (by omega), if_neg (by omega), hb, float_pos _ (by omega : (r : ℕ) < 2048), float_128, num_sub (by omega)]

omit hf hb in
/-- A head's scores: the other head's lanes of the keys are zero. -/
theorem score_apply (hh : Fin 2) (r x : Fin 128) :
    (k0_pay315 (k0_pay310 q) (k0_pay311 k) k0_pay312 (k0_pay313 kernelRun0_A.sl.v3 k) (k0_pay314 kernelRun0_A.sl.v3) :
        Vec Ideal S128x256 .f32) (ix2 r (⟨128 * (hh : ℕ) + x, by omega⟩ : Fin 256))
      = ∑ d : Fin 64, q (ix3 (0 : Fin 1) r ⟨64 * (hh : ℕ) + d, by omega⟩) * k (ix3 (0 : Fin 1) x ⟨64 * (hh : ℕ) + d, by omega⟩) := by
  fin_cases hh
  · pointwise [k0_pay310, k0_pay311, k0_pay312, k0_pay313, k0_pay314, k0_pay315, kernelRun0_A.sl.v3]
    simp only [select_lt _ (Fin.is_lt _)]
    rw [sum_lanes]
    simp only [Fin.is_lt, if_true, if_neg (not_lt.mpr (Nat.le_add_right 64 _)), Finset.sum_const_zero, add_zero]
  · pointwise [k0_pay310, k0_pay311, k0_pay312, k0_pay313, k0_pay314, k0_pay315, kernelRun0_A.sl.v3]
    simp only [select_ge _ (Fin.is_lt _)]
    rw [sum_lanes]
    simp only [Fin.is_lt, if_true, if_neg (not_lt.mpr (Nat.le_add_right 64 _)), Finset.sum_const_zero, zero_add]

omit hf hb in
/-- A head's queries, on the lanes below the half. -/
theorem twice_low (hh : Fin 2) (r : Fin 128) (d : Fin 64) : (genQ q hh : Vec Ideal S128x128 .f32) (ix2 r (⟨d, by omega⟩ : Fin 128))
    = q (ix3 (0 : Fin 1) r ⟨64 * (hh : ℕ) + d, by omega⟩) := by
  fin_cases hh
  · pointwise [genQ, k0_pay316, k0_pay317, k0_pay310, kernelRun0_A.sl.v3]
    rw [select_lt _ (by omega), if_pos d.isLt]
  · pointwise [genQ, k0_pay316, k0_pay317, k0_pay310, kernelRun0_A.sl.v3]
    rw [select_lt _ (by omega), if_pos d.isLt]
    congr 2
    exact Fin.ext (by show ((d : ℕ) + 128 - 64) % 128 = 64 + d; omega)

omit hf hb in
/-- A head's queries, on the lanes from the half on. -/
theorem twice_high (hh : Fin 2) (r : Fin 128) (d : Fin 64) :
    (genQ q hh : Vec Ideal S128x128 .f32) (ix2 r (⟨64 + d, by omega⟩ : Fin 128))
      = q (ix3 (0 : Fin 1) r ⟨64 * (hh : ℕ) + d, by omega⟩) := by
  fin_cases hh
  · pointwise [genQ, k0_pay316, k0_pay317, k0_pay310, kernelRun0_A.sl.v3]
    rw [select_lt _ (by omega), if_neg (by omega)]
    congr 2
    exact Fin.ext (by show (64 + (d : ℕ) + 128 - 64) % 128 = d; omega)
  · pointwise [genQ, k0_pay316, k0_pay317, k0_pay310, kernelRun0_A.sl.v3]
    rw [select_lt _ (by omega), if_neg (by omega)]

omit hf hb in
/-- A left factor is the decayed scores beside the decayed queries. -/
theorem genL_parts (hh : Fin 2) (r : Fin 128) (x : Fin 256) :
    (genL lf lb q k hh : Vec Ideal S1x1x1x128x256 .bf16) (ix5 (0 : Fin 1) (0 : Fin 1) (0 : Fin 1) r x)
      = if h : (x : ℕ) < 128 then
          (k0_pay315 (k0_pay310 q) (k0_pay311 k) k0_pay312 (k0_pay313 kernelRun0_A.sl.v3 k) (k0_pay314 kernelRun0_A.sl.v3) :
              Vec Ideal S128x256 .f32) (ix2 r (⟨128 * (hh : ℕ) + x, by omega⟩ : Fin 256))
            * (k0_pay20 lf lb k0_pay9 : Vec Ideal S128x128 .f32) (ix2 r (⟨x, h⟩ : Fin 128))
        else (genQ q hh : Vec Ideal S128x128 .f32) (ix2 r (⟨x - 128, by omega⟩ : Fin 128))
          * (k0_pay14 kernelRun0_A.sl.v3 lf lb : Vec Ideal S128x128 .f32) (ix2 r (⟨x - 128, by omega⟩ : Fin 128)) := by
  fin_cases hh
  · show (genL lf lb q k 0 : Vec Ideal S1x1x1x128x256 .bf16) (ix5 (0 : Fin 1) (0 : Fin 1) (0 : Fin 1) r x) = (_ : EReal)
    pointwise [genL, k0_pay318, genQ]
  · show (genL lf lb q k 1 : Vec Ideal S1x1x1x128x256 .bf16) (ix5 (0 : Fin 1) (0 : Fin 1) (0 : Fin 1) r x) = (_ : EReal)
    pointwise [genL, k0_pay319, k0_pay320, genQ]

/-- A left factor's columns below 128 are the decayed scores. -/
theorem genL_score (hh : Fin 2) (r x : Fin 128) :
    (genL lf lb q k hh : Vec Ideal S1x1x1x128x256 .bf16) (ix5 (0 : Fin 1) (0 : Fin 1) (0 : Fin 1) r (⟨x, by omega⟩ : Fin 256))
      = (∑ d : Fin 64, q (ix3 (0 : Fin 1) r ⟨64 * (hh : ℕ) + d, by omega⟩) * k (ix3 (0 : Fin 1) x ⟨64 * (hh : ℕ) + d, by omega⟩))
          * (if (x : ℕ) ≤ r then Ideal.exp (Lf * num (r - x)) else Ideal.exp (Lb * num (x - r))) := by
  rw [genL_parts, dif_pos (show (x : ℕ) < 128 from x.isLt), ← mask_apply hf hb, ← score_apply]

/-- A left factor's columns from 128 to 191 are the queries decayed for the forward state. -/
theorem genL_fwd (hh : Fin 2) (r : Fin 128) (d : Fin 64) :
    (genL lf lb q k hh : Vec Ideal S1x1x1x128x256 .bf16) (ix5 (0 : Fin 1) (0 : Fin 1) (0 : Fin 1) r (⟨128 + d, by omega⟩ : Fin 256))
      = q (ix3 (0 : Fin 1) r ⟨64 * (hh : ℕ) + d, by omega⟩) * Ideal.exp (Lf * num (r + 1)) := by
  rw [genL_parts, dif_neg (show ¬ 128 + (d : ℕ) < 128 by omega), ← qdec_low hf hb r d, ← twice_low q hh r d]
  simp only [Nat.add_sub_cancel_left]

/-- A left factor's columns from 192 on are the queries decayed for the backward state. -/
theorem genL_bwd (hh : Fin 2) (r : Fin 128) (d : Fin 64) :
    (genL lf lb q k hh : Vec Ideal S1x1x1x128x256 .bf16) (ix5 (0 : Fin 1) (0 : Fin 1) (0 : Fin 1) r (⟨192 + d, by omega⟩ : Fin 256))
      = q (ix3 (0 : Fin 1) r ⟨64 * (hh : ℕ) + d, by omega⟩) * Ideal.exp (Lb * num (128 - r)) := by
  rw [genL_parts, dif_neg (show ¬ 192 + (d : ℕ) < 128 by omega), ← qdec_high hf hb r d, ← twice_high q hh r d]
  simp only [show ∀ n, 192 + n - 128 = 64 + n from fun n => by omega]

end

end Cert.KernelIdeal.Pieces
-- ==== Proof.KerScratch.lean ====
module

public import proofs.«01_k».proof.Proof.KerGen

/-! What the kernel's first scratch buffer holds, and the two states it computes from it. -/

@[expose] public section

set_option maxRecDepth 16384

noncomputable section

namespace Cert.KernelIdeal.Pieces

open Idealize.ShloMosaic Idealize.ShloMosaic.TcCoe Idealize.SL.Sem
open Cert.KernelIdeal Cert.KernelIdeal.Gen Cert.Retention

variable (c : Dev nD) (i : grid0.Coords)
  (arg2 : Memref sig Kind.tc Space.vmem S1x2048x256 EltTy.bf16) (harg2 : arg2.IsWhole)
  (arg3 : Memref sig Kind.tc Space.vmem S1x2048x256 EltTy.bf16) (harg3 : arg3.IsWhole)
  (arg4 : Memref sig Kind.tc Space.vmem S1x2048x512 EltTy.bf16) (harg4 : arg4.IsWhole)
  (arg5 : Memref sig Kind.tc Space.vmem S1x2x2x64x256 EltTy.f32) (harg5 : arg5.IsWhole)
  (arg6 : Memref sig Kind.tc Space.smem S8 EltTy.f32) (harg6 : arg6.IsWhole)
  (arg7 : Memref sig Kind.tc Space.smem S8 EltTy.f32) (harg7 : arg7.IsWhole)
  (arg9 : Memref sig Kind.tc Space.vmem S2x16x2x64x256 EltTy.f32)
  (x0 x1 : Vec Ideal S1x2048x256 .bf16) (x2 : Vec Ideal S1x2048x512 .bf16) (x3 : Vec Ideal S1x2x2x64x256 .f32)
  (x4 x5 : Vec Ideal S8 .f32)

/-- The arguments of one grid point: its blocks, and the decays of its four heads. -/
def loc : Data where
  q := at3 x0
  k := at3 x1
  v := at3 x2
  st := at5 x3
  lf h := logSig (at1 x4 (4 * (i 1 : ℕ) + h))
  lb h := logSig (at1 x5 (4 * (i 1 : ℕ) + h))

/-- An entry of a chunk of queries. -/
theorem qBlk_apply (p : Fin 2) (j : Fin 16) (r x : Fin 128) :
    qBlk arg2 harg2 x0 p j (ix3 (0 : Fin 1) r x) = at3 x0 0 (128 * j + r) (128 * p + x) := by
  rw [qBlk, View.readAt_eq_ld, Memref.IsWhole.read_unread]
  exact at3_of x0 _ (by show 0 + 1 * 0 = 0; rfl) (by show 128 * (j : ℕ) + 1 * (r : ℕ) = _; omega)
    (by show 128 * (p : ℕ) + 1 * (x : ℕ) = _; omega)

/-- An entry of a chunk of keys. -/
theorem kBlk_apply (p : Fin 2) (j : Fin 16) (r x : Fin 128) :
    kBlk arg3 harg3 x1 p j (ix3 (0 : Fin 1) r x) = at3 x1 0 (128 * j + r) (128 * p + x) := by
  rw [kBlk, View.readAt_eq_ld, Memref.IsWhole.read_unread]
  exact at3_of x1 _ (by show 0 + 1 * 0 = 0; rfl) (by show 128 * (j : ℕ) + 1 * (r : ℕ) = _; omega)
    (by show 128 * (p : ℕ) + 1 * (x : ℕ) = _; omega)

/-- An entry of a chunk of values. -/
theorem vBlk_apply (p : Fin 2) (j : Fin 16) (hh : Fin 2) (r x : Fin 128) :
    vBlk arg4 harg4 x2 p j hh (ix3 (0 : Fin 1) r x) = at3 x2 0 (128 * j + r) (128 * (2 * p + hh) + x) := by
  rw [vBlk, View.readAt_eq_ld, Memref.IsWhole.read_unread]
  exact at3_of x2 _ (by show 0 + 1 * 0 = 0; rfl) (by show 128 * (j : ℕ) + 1 * (r : ℕ) = _; omega)
    (by show 256 * (p : ℕ) + 128 * (hh : ℕ) + 1 * (x : ℕ) = _; omega)

/-- An entry of an initial state. -/
theorem sBlk_apply (p hh off : Fin 2) (d : Fin 64) (x : Fin 128) :
    sBlk arg5 harg5 x3 p hh off (ix5 (0 : Fin 1) (0 : Fin 1) (0 : Fin 1) d x) = at5 x3 0 p hh d (128 * off + x) := by
  rw [sBlk, View.readAt_eq_ld, Memref.IsWhole.read_unread]
  exact at5_of x3 _ (by show 0 + 1 * 0 = 0; rfl) (by show (p : ℕ) + 1 * 0 = _; omega) (by show (hh : ℕ) + 1 * 0 = _; omega)
    (by show 0 + 1 * (d : ℕ) = _; omega) (by show 128 * (off : ℕ) + 1 * (x : ℕ) = _; omega)

/-- A scalar load of a decay parameter. -/
theorem dec_apply (a : Memref sig Kind.tc Space.smem S8 EltTy.f32) (ha : a.IsWhole) (x : Vec Ideal S8 .f32) (r : Rect S8)
    (hp : 0 < r.toLoadRect.shape.numel) (n : ℕ) (hn : r.off 0 = n) :
    View.readAt (Elt Ideal) a.view r.toLoadRect (ha.unread x) (Shape.Idx.first hp) = at1 x n := by
  rw [View.readAt_eq_ld, Memref.IsWhole.read_unread]
  exact at1_of x _ (by show r.off 0 + r.stride 0 * 0 = n; omega)

/-- Where the decays of each pair's first head lie. -/
theorem off1_apply : ∀ i : grid0.Coords, ∀ p : Fin 2, k0_off1 i (BitVec.ofNat 32 p.val) 0 = 4 * (i 1 : ℕ) + (2 * p + 0) := by
  decide +kernel

/-- Where the decays of each pair's second head lie. -/
theorem off2_apply : ∀ i : grid0.Coords, ∀ p : Fin 2, k0_off2 i (BitVec.ofNat 32 p.val) 0 = 4 * (i 1 : ℕ) + (2 * p + 1) := by
  decide +kernel

/-- The forward decay parameters. -/
theorem decF_apply (p hh : Fin 2) : decF c i arg6 harg6 x4 p hh = at1 x4 (4 * (i 1 : ℕ) + (2 * p + hh)) := by
  match p, hh with
  | 0, 0 => exact dec_apply _ _ _ _ _ _ (off1_apply i 0)
  | 0, 1 => exact dec_apply _ _ _ _ _ _ (off2_apply i 0)
  | 1, 0 => exact dec_apply _ _ _ _ _ _ (off1_apply i 1)
  | 1, 1 => exact dec_apply _ _ _ _ _ _ (off2_apply i 1)

/-- The backward decay parameters. -/
theorem decB_apply (p hh : Fin 2) : decB c i arg7 harg7 x5 p hh = at1 x5 (4 * (i 1 : ℕ) + (2 * p + hh)) := by
  match p, hh with
  | 0, 0 => exact dec_apply _ _ _ _ _ _ (off1_apply i 0)
  | 0, 1 => exact dec_apply _ _ _ _ _ _ (off2_apply i 0)
  | 1, 0 => exact dec_apply _ _ _ _ _ _ (off1_apply i 1)
  | 1, 1 => exact dec_apply _ _ _ _ _ _ (off2_apply i 1)

/-- The forward log decay of a head. -/
theorem lgF_apply (p hh : Fin 2) (x : Fin 128) :
    lgF c i arg6 harg6 x4 p hh (ix2 (0 : Fin 1) x) = (loc i x0 x1 x2 x3 x4 x5).lf (2 * p + hh) := by
  rw [lgF, log_decay, decF_apply]; rfl

/-- The backward log decay of a head. -/
theorem lgB_apply (p hh : Fin 2) (x : Fin 128) :
    lgB c i arg7 harg7 x5 p hh (ix2 (0 : Fin 1) x) = (loc i x0 x1 x2 x3 x4 x5).lb (2 * p + hh) := by
  rw [lgB, log_decay, decB_apply]; rfl

/-- What the first scratch buffer holds at pair `y 0`, chunk `y 1`, head `y 2`: its contribution to both states. -/
def contrib (y : S2x16x2x64x256.Idx) : EReal :=
  if (y 4 : ℕ) < 128 then (loc i x0 x1 x2 x3 x4 x5).addF 0 (2 * (y 0 : ℕ) + (y 2 : ℕ)) (y 1 : ℕ) (y 3 : ℕ) (y 4 : ℕ)
  else (loc i x0 x1 x2 x3 x4 x5).addB 0 (2 * (y 0 : ℕ) + (y 2 : ℕ)) (y 1 : ℕ) (y 3 : ℕ) ((y 4 : ℕ) - 128)

/-- What the first scratch buffer holds at an entry whose coordinates are known. -/
theorem contrib_at (y : S2x16x2x64x256.Idx) {p j hh d x : ℕ} (h0 : (y 0 : ℕ) = p) (h1 : (y 1 : ℕ) = j) (h2 : (y 2 : ℕ) = hh)
    (h3 : (y 3 : ℕ) = d) (h4 : (y 4 : ℕ) = x) : contrib i x0 x1 x2 x3 x4 x5 y
      = if x < 128 then (loc i x0 x1 x2 x3 x4 x5).addF 0 (2 * p + hh) j d x
        else (loc i x0 x1 x2 x3 x4 x5).addB 0 (2 * p + hh) j d (x - 128) := by
  subst h0 h1 h2 h3 h4; rfl

/-- Each store of a chunk contribution is a part of what the buffer holds. -/
theorem aPiece_apply (p : Fin 2) (j : Fin 16) (hh : Fin 2)
    (x : (aPiece c i arg3 harg3 arg4 harg4 arg6 harg6 arg7 harg7 x1 x2 x4 x5 p j hh).1.shape.Idx) :
    (aPiece c i arg3 harg3 arg4 harg4 arg6 harg6 arg7 harg7 x1 x2 x4 x5 p j hh).2 x
      = contrib i x0 x1 x2 x3 x4 x5 ((aPiece c i arg3 harg3 arg4 harg4 arg6 harg6 arg7 harg7 x1 x2 x4 x5 p j hh).1.emb x) := by
  have h3 : (x 3 : ℕ) < 64 := (x 3).isLt
  have h4 : (x 4 : ℕ) < 256 := (x 4).isLt
  have hx1 : (x 1 : ℕ) < 1 := (x 1).isLt
  have hx2 : (x 2 : ℕ) < 1 := (x 2).isLt
  have hx0 : (x 0 : ℕ) < 1 := (x 0).isLt
  refine ((aRect j hh).payAlong_consLift ![1, 16, 2, 64, 256] rfl (fun _ => rfl) _ _ x
    (ix4 (0 : Fin 1) (0 : Fin 1) (⟨x 3, h3⟩ : Fin 64) (⟨x 4, h4⟩ : Fin 256)) ?_).trans ?_
  · intro b
    fin_cases b
    · show 0 = (x 1 : ℕ); omega
    · show 0 = (x 2 : ℕ); omega
    · rfl
    · rfl
  · refine (genA_apply (lgF_apply c i arg6 harg6 x0 x1 x2 x3 x4 x5 p hh) (lgB_apply c i arg7 harg7 x0 x1 x2 x3 x4 x5 p hh) _ _ hh _ _).trans ?_
    have e0 : ((aPiece c i arg3 harg3 arg4 harg4 arg6 harg6 arg7 harg7 x1 x2 x4 x5 p j hh).1.emb x 0 : ℕ) = p := by
      show (p : ℕ) + 0 + 1 * (x 0 : ℕ) = p; omega
    have e1 : ((aPiece c i arg3 harg3 arg4 harg4 arg6 harg6 arg7 harg7 x1 x2 x4 x5 p j hh).1.emb x 1 : ℕ) = j := by
      show 0 + (j : ℕ) + 1 * (x 1 : ℕ) = j; omega
    have e2 : ((aPiece c i arg3 harg3 arg4 harg4 arg6 harg6 arg7 harg7 x1 x2 x4 x5 p j hh).1.emb x 2 : ℕ) = hh := by
      show 0 + (hh : ℕ) + 1 * (x 2 : ℕ) = hh; omega
    have e3 : ((aPiece c i arg3 harg3 arg4 harg4 arg6 harg6 arg7 harg7 x1 x2 x4 x5 p j hh).1.emb x 3 : ℕ) = x 3 := by
      show 0 + 0 + 1 * (x 3 : ℕ) = x 3; omega
    have e4 : ((aPiece c i arg3 harg3 arg4 harg4 arg6 harg6 arg7 harg7 x1 x2 x4 x5 p j hh).1.emb x 4 : ℕ) = x 4 := by
      show 0 + 0 + 1 * (x 4 : ℕ) = x 4; omega
    rw [contrib, e0, e1, e2, e3, e4]
    by_cases h : (x 4 : ℕ) < 128
    · rw [if_pos h, Data.addF]
      refine Finset.sum_congr rfl fun r _ => ?_
      rw [dif_pos h, kBlk_apply, vBlk_apply, show 128 * (p : ℕ) + ((⟨64 * (hh : ℕ) + (x 3 : ℕ), by omega⟩ : Fin 128) : ℕ)
        = 64 * (2 * (p : ℕ) + hh) + (x 3 : ℕ) by show 128 * (p : ℕ) + (64 * (hh : ℕ) + (x 3 : ℕ)) = _; omega]
      rfl
    · rw [if_neg h, Data.addB]
      refine Finset.sum_congr rfl fun r _ => ?_
      rw [dif_neg h, kBlk_apply, vBlk_apply, show 128 * (p : ℕ) + ((⟨64 * (hh : ℕ) + (x 3 : ℕ), by omega⟩ : Fin 128) : ℕ)
        = 64 * (2 * (p : ℕ) + hh) + (x 3 : ℕ) by show 128 * (p : ℕ) + (64 * (hh : ℕ) + (x 3 : ℕ)) = _; omega]
      rfl

/-- Every store into the first scratch buffer up to the end of a pair is a chunk contribution. -/
theorem mem_aRun (p : Fin 2) (g) (hg : g ∈ aRun c i arg3 harg3 arg4 harg4 arg6 harg6 arg7 harg7 x1 x2 x4 x5 p) :
    ∃ p' j hh, g = aPiece c i arg3 harg3 arg4 harg4 arg6 harg6 arg7 harg7 x1 x2 x4 x5 p' j hh := by
  have key : ∀ p', g ∈ aList c i arg3 harg3 arg4 harg4 arg6 harg6 arg7 harg7 x1 x2 x4 x5 p' →
      ∃ p' j hh, g = aPiece c i arg3 harg3 arg4 harg4 arg6 harg6 arg7 harg7 x1 x2 x4 x5 p' j hh := by
    intro p' h
    simp only [aList, List.mem_flatMap] at h
    obtain ⟨j, _, h⟩ := h
    rcases List.mem_cons.mp h with h | h
    · exact ⟨p', j, 1, h⟩
    · exact ⟨p', j, 0, List.mem_singleton.mp h⟩
  match p with
  | 0 => rw [aRun_zero] at hg; exact key 0 hg
  | 1 => rw [aRun_one] at hg; exact (List.mem_append.mp hg).elim (key 1) (key 0)

/-- At the end of a pair all its chunk contributions are stored. -/
theorem aPiece_mem (p : Fin 2) (j : Fin 16) (hh : Fin 2) : aPiece c i arg3 harg3 arg4 harg4 arg6 harg6 arg7 harg7 x1 x2 x4 x5 p j hh
    ∈ aRun c i arg3 harg3 arg4 harg4 arg6 harg6 arg7 harg7 x1 x2 x4 x5 p := by
  have key : ∀ p', aPiece c i arg3 harg3 arg4 harg4 arg6 harg6 arg7 harg7 x1 x2 x4 x5 p' j hh
      ∈ aList c i arg3 harg3 arg4 harg4 arg6 harg6 arg7 harg7 x1 x2 x4 x5 p' := by
    intro p'
    simp only [aList, List.mem_flatMap]
    refine ⟨j, by simp, ?_⟩
    match hh with
    | 0 => simp
    | 1 => simp
  match p with
  | 0 => rw [aRun_zero]; exact key 0
  | 1 => rw [aRun_one]; exact List.mem_append_left _ (key 1)

/-- The first scratch buffer at the end of a pair, at an entry of that pair. -/
theorem aRun_canon (p : Fin 2) (y : S2x16x2x64x256.Idx) (hy : (y 0 : ℕ) = p) :
    View.canon (aRun c i arg3 harg3 arg4 harg4 arg6 harg6 arg7 harg7 x1 x2 x4 x5 p) y = contrib i x0 x1 x2 x3 x4 x5 y := by
  have h1 : (y 1 : ℕ) < 16 := (y 1).isLt
  have h2 : (y 2 : ℕ) < 2 := (y 2).isLt
  have h3 : (y 3 : ℕ) < 64 := (y 3).isLt
  have h4 : (y 4 : ℕ) < 256 := (y 4).isLt
  refine View.canon_apply_of_pieces (contrib i x0 x1 x2 x3 x4 x5) _ ?_ y
    ⟨_, aPiece_mem c i arg3 harg3 arg4 harg4 arg6 harg6 arg7 harg7 x1 x2 x4 x5 p ⟨y 1, h1⟩ ⟨y 2, h2⟩, ?_⟩
  · intro g hg x
    obtain ⟨p', j, hh, rfl⟩ := mem_aRun _ _ _ _ _ _ _ _ _ _ _ _ _ _ _ _ hg
    exact aPiece_apply c i arg3 harg3 arg4 harg4 arg6 harg6 arg7 harg7 x0 x1 x2 x3 x4 x5 p' j hh x
  · refine (aPiece c i arg3 harg3 arg4 harg4 arg6 harg6 arg7 harg7 x1 x2 x4 x5 p ⟨y 1, h1⟩ ⟨y 2, h2⟩).1.mem_set.mpr fun b => ?_
    match b with
    | 0 => exact ⟨0, Nat.one_pos, by show (y 0 : ℕ) = (p : ℕ) + 0 + 1 * 0; omega⟩
    | 1 => exact ⟨0, Nat.one_pos, by show (y 1 : ℕ) = 0 + (y 1 : ℕ) + 1 * 0; omega⟩
    | 2 => exact ⟨0, Nat.one_pos, by show (y 2 : ℕ) = 0 + (y 2 : ℕ) + 1 * 0; omega⟩
    | 3 => exact ⟨y 3, h3, by show (y 3 : ℕ) = 0 + 0 + 1 * (y 3 : ℕ); omega⟩
    | 4 => exact ⟨y 4, h4, by show (y 4 : ℕ) = 0 + 0 + 1 * (y 4 : ℕ); omega⟩

/-- A load of a chunk contribution reads what the buffer holds. -/
theorem aLoad_apply (p : Fin 2) (j : Fin 16) (hh off : Fin 2) (d : Fin 64) (x : Fin 128) :
    aLoad c i arg3 harg3 arg4 harg4 arg6 harg6 arg7 harg7 arg9 x1 x2 x4 x5 p j hh off (ix4 (0 : Fin 1) (0 : Fin 1) d x)
      = if off = 0 then (loc i x0 x1 x2 x3 x4 x5).addF 0 (2 * p + hh) j d x
        else (loc i x0 x1 x2 x3 x4 x5).addB 0 (2 * p + hh) j d x := by
  have e := Shape.reshapeEquiv_cons_one (d := (aBox j hh off).size)
    ((aBox j hh off).numel_consLift ![1, 16, 2, 64, 256] rfl (fun _ => rfl)) (ix4 (0 : Fin 1) (0 : Fin 1) d x)
  refine (congrArg (arg9.view.readCov (aRun c i arg3 harg3 arg4 harg4 arg6 harg6 arg7 harg7 x1 x2 x4 x5 p)
      ((aPart p).withinL ((aBox j hh off).consLift ![1, 16, 2, 64, 256] rfl (fun _ => rfl)) (fun _ => rfl))) e).trans ?_
  rw [View.readCov_eq_canon']
  refine (aRun_canon c i arg3 harg3 arg4 harg4 arg6 harg6 arg7 harg7 x0 x1 x2 x3 x4 x5 p _ ?_).trans ?_
  · show (p : ℕ) + 0 + 1 * 0 = p; omega
  · refine (contrib_at i x0 x1 x2 x3 x4 x5 _ (p := p) (j := j) (hh := hh) (d := d) (x := 128 * off + x)
      (by show (p : ℕ) + 0 + 1 * 0 = p; omega) (by show 0 + (j : ℕ) + 1 * 0 = j; omega)
      (by show 0 + (hh : ℕ) + 1 * 0 = hh; omega) (by show 0 + 0 + 1 * (d : ℕ) = d; omega)
      (by show 0 + 128 * (off : ℕ) + 1 * (x : ℕ) = _; omega)).trans ?_
    match off with
    | 0 => rw [if_pos (by show 128 * 0 + (x : ℕ) < 128; omega), if_pos rfl, show 128 * ((0 : Fin 2) : ℕ) + (x : ℕ) = x by
        show 128 * 0 + (x : ℕ) = x; omega]
    | 1 => rw [if_neg (by show ¬ 128 * 1 + (x : ℕ) < 128; omega), if_neg (by decide), show 128 * ((1 : Fin 2) : ℕ) + (x : ℕ) - 128 = x by
        show 128 * 1 + (x : ℕ) - 128 = x; omega]

/-- An initial state, reshaped. -/
theorem start_apply (s : Vec Ideal S1x1x1x64x128 .f32) (d : Fin 64) (x : Fin 128) :
    (k0_pay150 s : FVec Ideal S64x128 .f32) (ix2 d x) = s (ix5 (0 : Fin 1) (0 : Fin 1) (0 : Fin 1) d x) := by
  pointwise [k0_pay150]

/-- One step of a state: it decays over a chunk and takes the chunk's contribution. -/
theorem step_apply (s : FVec Ideal S64x128 .f32) (e : FVec Ideal S1x128 .f32) (a : Vec Ideal S1x1x64x128 .f32) (d : Fin 64)
    (x : Fin 128) : (k0_pay154 s (k0_pay151 e) a : FVec Ideal S64x128 .f32) (ix2 d x)
      = s (ix2 d x) * Ideal.exp (e (ix2 (0 : Fin 1) x) * num 128) + a (ix4 (0 : Fin 1) (0 : Fin 1) d x) := by
  pointwise [k0_pay154, k0_pay151]
  rw [float_128]

/-- The forward state before chunk `n`. -/
theorem sfVec_apply (p hh : Fin 2) (n : ℕ) (hn : n ≤ 16) (d : Fin 64) (x : Fin 128) :
    sfVec c i arg3 harg3 arg4 harg4 arg5 harg5 arg6 harg6 arg7 harg7 arg9 x1 x2 x3 x4 x5 p hh n (ix2 d x)
      = (loc i x0 x1 x2 x3 x4 x5).stF 0 (2 * p + hh) d x n := by
  induction n with
  | zero =>
    rw [sfVec, start_apply, sBlk_apply, Data.stF, show (2 * (p : ℕ) + hh) / 2 = p by omega, show (2 * (p : ℕ) + hh) % 2 = hh by omega]
    show _ = at5 x3 0 p hh d x
    congr 1
    show 128 * 0 + (x : ℕ) = x; omega
  | succ n ih =>
    rw [sfVec, step_apply, ih (by omega), aLoad_apply c i arg3 harg3 arg4 harg4 arg6 harg6 arg7 harg7 arg9 x0 x1 x2 x3 x4 x5, if_pos rfl,
      lgF_apply c i arg6 harg6 x0 x1 x2 x3 x4 x5, Data.stF]
    rw [show ((Fin.ofNat 16 n : Fin 16) : ℕ) = n from Nat.mod_eq_of_lt (by omega)]

/-- The backward state after `n` chunks from the last. -/
theorem sbVec_apply (p hh : Fin 2) (n : ℕ) (hn : n ≤ 16) (d : Fin 64) (x : Fin 128) :
    sbVec c i arg3 harg3 arg4 harg4 arg5 harg5 arg6 harg6 arg7 harg7 arg9 x1 x2 x3 x4 x5 p hh n (ix2 d x)
      = (loc i x0 x1 x2 x3 x4 x5).stB 0 (2 * p + hh) d x n := by
  induction n with
  | zero =>
    rw [sbVec, start_apply, sBlk_apply, Data.stB, show (2 * (p : ℕ) + hh) / 2 = p by omega, show (2 * (p : ℕ) + hh) % 2 = hh by omega]
    show _ = at5 x3 0 p hh d (128 + x)
    congr 1
  | succ n ih =>
    rw [sbVec, step_apply, ih (by omega), aLoad_apply c i arg3 harg3 arg4 harg4 arg6 harg6 arg7 harg7 arg9 x0 x1 x2 x3 x4 x5,
      if_neg (by decide), lgB_apply c i arg7 harg7 x0 x1 x2 x3 x4 x5, Data.stB]
    rw [show ((Fin.ofNat 16 (15 - n) : Fin 16) : ℕ) = 15 - n from Nat.mod_eq_of_lt (by omega)]

end Cert.KernelIdeal.Pieces
-- ==== Proof.KerFactors.lean ====
module

public import proofs.«01_k».proof.Proof.KerScratch

/-! The two factors of each output product: what the second and third scratch buffers hold and what is loaded back. -/

@[expose] public section

set_option maxRecDepth 16384

noncomputable section

namespace Cert.KernelIdeal.Pieces

open Idealize.ShloMosaic Idealize.ShloMosaic.TcCoe Idealize.SL.Sem
open Cert.KernelIdeal Cert.KernelIdeal.Gen Cert.Retention

variable (c : Dev nD) (i : grid0.Coords)
  (arg2 : Memref sig Kind.tc Space.vmem S1x2048x256 EltTy.bf16) (harg2 : arg2.IsWhole)
  (arg3 : Memref sig Kind.tc Space.vmem S1x2048x256 EltTy.bf16) (harg3 : arg3.IsWhole)
  (arg4 : Memref sig Kind.tc Space.vmem S1x2048x512 EltTy.bf16) (harg4 : arg4.IsWhole)
  (arg5 : Memref sig Kind.tc Space.vmem S1x2x2x64x256 EltTy.f32) (harg5 : arg5.IsWhole)
  (arg6 : Memref sig Kind.tc Space.smem S8 EltTy.f32) (harg6 : arg6.IsWhole)
  (arg7 : Memref sig Kind.tc Space.smem S8 EltTy.f32) (harg7 : arg7.IsWhole)
  (arg9 : Memref sig Kind.tc Space.vmem S2x16x2x64x256 EltTy.f32)
  (arg10 : Memref sig Kind.tc Space.vmem S2x16x2x256x128 EltTy.bf16)
  (arg11 : Memref sig Kind.tc Space.vmem S2x16x2x128x256 EltTy.bf16)
  (x0 x1 : Vec Ideal S1x2048x256 .bf16) (x2 : Vec Ideal S1x2048x512 .bf16) (x3 : Vec Ideal S1x2x2x64x256 .f32)
  (x4 x5 : Vec Ideal S8 .f32)

/-- An index of a rank-5 shape whose first three sizes are one. -/
theorem ix5_ones {a b : ℕ} (x : (⟨5, ![1, 1, 1, a, b]⟩ : Shape).Idx) :
    x = ix5 (0 : Fin 1) (0 : Fin 1) (0 : Fin 1) (x 3 : Fin a) (x 4 : Fin b) := by
  funext n
  match n with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl

/-- A head's right factor of a chunk: the values, then the forward state, then the backward state. -/
def rightAt (p j hh w x : ℕ) : EReal :=
  if w < 128 then (loc i x0 x1 x2 x3 x4 x5).v 0 (128 * j + w) (128 * (2 * p + hh) + x)
  else if w < 192 then (loc i x0 x1 x2 x3 x4 x5).stF 0 (2 * p + hh) (w - 128) x j
  else (loc i x0 x1 x2 x3 x4 x5).stB 0 (2 * p + hh) (w - 192) x (15 - j)

/-- What the second scratch buffer holds. -/
def right (y : S2x16x2x256x128.Idx) : EReal := rightAt i x0 x1 x2 x3 x4 x5 (y 0 : ℕ) (y 1 : ℕ) (y 2 : ℕ) (y 3 : ℕ) (y 4 : ℕ)

/-- What the second scratch buffer holds at an entry whose coordinates are known. -/
theorem right_at (y : S2x16x2x256x128.Idx) {p j hh w x : ℕ} (h0 : (y 0 : ℕ) = p) (h1 : (y 1 : ℕ) = j) (h2 : (y 2 : ℕ) = hh)
    (h3 : (y 3 : ℕ) = w) (h4 : (y 4 : ℕ) = x) : right i x0 x1 x2 x3 x4 x5 y = rightAt i x0 x1 x2 x3 x4 x5 p j hh w x := by
  subst h0 h1 h2 h3 h4; rfl

/-- The store of a chunk's values is a part of what the buffer holds. -/
theorem vPiece_apply (p : Fin 2) (j : Fin 16) (hh : Fin 2) (x : (vPiece arg4 harg4 x2 p j hh).1.shape.Idx) :
    (vPiece arg4 harg4 x2 p j hh).2 x = right i x0 x1 x2 x3 x4 x5 ((vPiece arg4 harg4 x2 p j hh).1.emb x) := by
  have h (s : Vec Ideal S1x128x128 .bf16) (r y : Fin 128) :
      (k0_pay24 (k0_pay23 s) : Vec Ideal S1x1x1x128x128 .bf16) (ix5 (0 : Fin 1) (0 : Fin 1) (0 : Fin 1) r y) = s (ix3 (0 : Fin 1) r y) := by
    pointwise [k0_pay24, k0_pay23]
  obtain ⟨r, hr⟩ : ∃ r : Fin 128, r = x 3 := ⟨x 3, rfl⟩
  obtain ⟨y, hy⟩ : ∃ y : Fin 128, y = x 4 := ⟨x 4, rfl⟩
  have hx : x = ix5 (0 : Fin 1) (0 : Fin 1) (0 : Fin 1) r y := by subst hr hy; exact ix5_ones x
  subst hx
  refine (h _ r y).trans ((vBlk_apply _ _ _ _ _ _ _ _).trans ?_)
  rw [right_at i x0 x1 x2 x3 x4 x5 _ (p := p) (j := j) (hh := hh) (w := r) (x := y)
    (by show (p : ℕ) + 1 * 0 = p; omega) (by show (j : ℕ) + 1 * 0 = j; omega) (by show (hh : ℕ) + 1 * 0 = hh; omega)
    (by show 0 + 1 * (r : ℕ) = r; omega) (by show 0 + 1 * (y : ℕ) = y; omega), rightAt, if_pos r.isLt]
  rfl

/-- The store of a forward state is a part of what the buffer holds. -/
theorem sfPiece_apply (p : Fin 2) (j : Fin 16) (hh : Fin 2) (x : (sfPiece c i arg3 harg3 arg4 harg4 arg5 harg5 arg6 harg6 arg7 harg7 arg9 x1 x2 x3 x4 x5 p j hh).1.shape.Idx) :
    (sfPiece c i arg3 harg3 arg4 harg4 arg5 harg5 arg6 harg6 arg7 harg7 arg9 x1 x2 x3 x4 x5 p j hh).2 x = right i x0 x1 x2 x3 x4 x5 ((sfPiece c i arg3 harg3 arg4 harg4 arg5 harg5 arg6 harg6 arg7 harg7 arg9 x1 x2 x3 x4 x5 p j hh).1.emb x) := by
  have h (s : FVec Ideal S64x128 .f32) (d : Fin 64) (y : Fin 128) :
      (k0_pay153 (truncf .bf16 s bitsLt_bf16_f32) : Vec Ideal S1x1x1x64x128 .bf16) (ix5 (0 : Fin 1) (0 : Fin 1) (0 : Fin 1) d y) = s (ix2 d y) := by
    pointwise [k0_pay153]
  obtain ⟨d, hd⟩ : ∃ r : Fin 64, r = x 3 := ⟨x 3, rfl⟩
  obtain ⟨y, hy⟩ : ∃ y : Fin 128, y = x 4 := ⟨x 4, rfl⟩
  have hx : x = ix5 (0 : Fin 1) (0 : Fin 1) (0 : Fin 1) d y := by subst hd hy; exact ix5_ones x
  subst hx
  refine (h _ d y).trans ((sfVec_apply c i arg3 harg3 arg4 harg4 arg5 harg5 arg6 harg6 arg7 harg7 arg9 x0 x1 x2 x3 x4 x5 p hh j (by omega) d y).trans ?_)
  rw [right_at i x0 x1 x2 x3 x4 x5 _ (p := p) (j := j) (hh := hh) (w := 128 + d) (x := y)
    (by show (p : ℕ) + 1 * 0 = p; omega) (by show (j : ℕ) + 1 * 0 = j; omega) (by show (hh : ℕ) + 1 * 0 = hh; omega)
    (by show 128 + 1 * (d : ℕ) = _; omega) (by show 0 + 1 * (y : ℕ) = y; omega), rightAt, if_neg (by omega), if_pos (by omega),
    Nat.add_sub_cancel_left]

/-- The store of a backward state is a part of what the buffer holds. -/
theorem sbPiece_apply (p : Fin 2) (j : Fin 16) (hh : Fin 2) (x : (sbPiece c i arg3 harg3 arg4 harg4 arg5 harg5 arg6 harg6 arg7 harg7 arg9 x1 x2 x3 x4 x5 p j hh).1.shape.Idx) :
    (sbPiece c i arg3 harg3 arg4 harg4 arg5 harg5 arg6 harg6 arg7 harg7 arg9 x1 x2 x3 x4 x5 p j hh).2 x = right i x0 x1 x2 x3 x4 x5 ((sbPiece c i arg3 harg3 arg4 harg4 arg5 harg5 arg6 harg6 arg7 harg7 arg9 x1 x2 x3 x4 x5 p j hh).1.emb x) := by
  have h (s : FVec Ideal S64x128 .f32) (d : Fin 64) (y : Fin 128) :
      (k0_pay153 (truncf .bf16 s bitsLt_bf16_f32) : Vec Ideal S1x1x1x64x128 .bf16) (ix5 (0 : Fin 1) (0 : Fin 1) (0 : Fin 1) d y) = s (ix2 d y) := by
    pointwise [k0_pay153]
  obtain ⟨d, hd⟩ : ∃ r : Fin 64, r = x 3 := ⟨x 3, rfl⟩
  obtain ⟨y, hy⟩ : ∃ y : Fin 128, y = x 4 := ⟨x 4, rfl⟩
  have hx : x = ix5 (0 : Fin 1) (0 : Fin 1) (0 : Fin 1) d y := by subst hd hy; exact ix5_ones x
  subst hx
  refine (h _ d y).trans ((sbVec_apply c i arg3 harg3 arg4 harg4 arg5 harg5 arg6 harg6 arg7 harg7 arg9 x0 x1 x2 x3 x4 x5 p hh (15 - j) (by omega) d y).trans ?_)
  rw [right_at i x0 x1 x2 x3 x4 x5 _ (p := p) (j := j) (hh := hh) (w := 192 + d) (x := y)
    (by show (p : ℕ) + 1 * 0 = p; omega) (by show (j : ℕ) + 1 * 0 = j; omega) (by show (hh : ℕ) + 1 * 0 = hh; omega)
    (by show 192 + 1 * (d : ℕ) = _; omega) (by show 0 + 1 * (y : ℕ) = y; omega), rightAt, if_neg (by omega), if_neg (by omega),
    Nat.add_sub_cancel_left]

/-- Every store of one pair into the second scratch buffer is a part of what it holds. -/
theorem rList_apply (p : Fin 2) (g) (hg : g ∈ rList c i arg3 harg3 arg4 harg4 arg5 harg5 arg6 harg6 arg7 harg7 arg9 x1 x2 x3 x4 x5 p) (x : g.1.shape.Idx) : g.2 x = right i x0 x1 x2 x3 x4 x5 (g.1.emb x) := by
  have key : ∀ hh, g ∈ sList c i arg3 harg3 arg4 harg4 arg5 harg5 arg6 harg6 arg7 harg7 arg9 x1 x2 x3 x4 x5 p hh → g.2 x = right i x0 x1 x2 x3 x4 x5 (g.1.emb x) := by
    intro hh h
    rcases List.mem_append.mp h with h | h
    · obtain ⟨j, _, rfl⟩ := List.mem_map.mp h
      exact sbPiece_apply c i arg3 harg3 arg4 harg4 arg5 harg5 arg6 harg6 arg7 harg7 arg9 x0 x1 x2 x3 x4 x5 p j hh x
    · obtain ⟨j, _, rfl⟩ := List.mem_map.mp h
      exact sfPiece_apply c i arg3 harg3 arg4 harg4 arg5 harg5 arg6 harg6 arg7 harg7 arg9 x0 x1 x2 x3 x4 x5 p j hh x
  rcases List.mem_append.mp hg with h | h
  · exact (List.mem_append.mp h).elim (key 1) (key 0)
  · obtain ⟨j, _, h⟩ := List.mem_flatMap.mp h
    rcases List.mem_cons.mp h with h | h
    · subst h; exact vPiece_apply i arg4 harg4 x0 x1 x2 x3 x4 x5 p j 1 x
    · obtain rfl := List.mem_singleton.mp h; exact vPiece_apply i arg4 harg4 x0 x1 x2 x3 x4 x5 p j 0 x

/-- A state's store is among its pair's. -/
theorem state_mem (p : Fin 2) (j : Fin 16) (hh : Fin 2) : sfPiece c i arg3 harg3 arg4 harg4 arg5 harg5 arg6 harg6 arg7 harg7 arg9 x1 x2 x3 x4 x5 p j hh ∈ rList c i arg3 harg3 arg4 harg4 arg5 harg5 arg6 harg6 arg7 harg7 arg9 x1 x2 x3 x4 x5 p ∧ sbPiece c i arg3 harg3 arg4 harg4 arg5 harg5 arg6 harg6 arg7 harg7 arg9 x1 x2 x3 x4 x5 p j hh ∈ rList c i arg3 harg3 arg4 harg4 arg5 harg5 arg6 harg6 arg7 harg7 arg9 x1 x2 x3 x4 x5 p := by
  have key : ∀ g, g ∈ sList c i arg3 harg3 arg4 harg4 arg5 harg5 arg6 harg6 arg7 harg7 arg9 x1 x2 x3 x4 x5 p hh → g ∈ rList c i arg3 harg3 arg4 harg4 arg5 harg5 arg6 harg6 arg7 harg7 arg9 x1 x2 x3 x4 x5 p := by
    intro g h
    match hh with
    | 0 => exact List.mem_append_left _ (List.mem_append_right _ h)
    | 1 => exact List.mem_append_left _ (List.mem_append_left _ h)
  exact ⟨key _ (List.mem_append_right _ (List.mem_map.mpr ⟨j, by simp, rfl⟩)),
    key _ (List.mem_append_left _ (List.mem_map.mpr ⟨j, by simp, rfl⟩))⟩

/-- A chunk's values are among its pair's stores. -/
theorem value_mem (p : Fin 2) (j : Fin 16) (hh : Fin 2) : vPiece arg4 harg4 x2 p j hh ∈ rList c i arg3 harg3 arg4 harg4 arg5 harg5 arg6 harg6 arg7 harg7 arg9 x1 x2 x3 x4 x5 p := by
  refine List.mem_append_right _ (List.mem_flatMap.mpr ⟨j, by simp, ?_⟩)
  match hh with
  | 0 => exact List.mem_cons_of_mem _ (List.mem_singleton.mpr rfl)
  | 1 => exact List.mem_cons_self

/-- The second scratch buffer when a pair's right factors are read, at an entry of that pair. -/
theorem rRun_canon (p : Fin 2) (y : S2x16x2x256x128.Idx) (hy : (y 0 : ℕ) = p) :
    View.canon (rRun c i arg3 harg3 arg4 harg4 arg5 harg5 arg6 harg6 arg7 harg7 arg9 x1 x2 x3 x4 x5 p) y = right i x0 x1 x2 x3 x4 x5 y := by
  have h1 : (y 1 : ℕ) < 16 := (y 1).isLt
  have h2 : (y 2 : ℕ) < 2 := (y 2).isLt
  have h3 : (y 3 : ℕ) < 256 := (y 3).isLt
  have h4 : (y 4 : ℕ) < 128 := (y 4).isLt
  have hall : ∀ g ∈ rRun c i arg3 harg3 arg4 harg4 arg5 harg5 arg6 harg6 arg7 harg7 arg9 x1 x2 x3 x4 x5 p, ∀ x, g.2 x = right i x0 x1 x2 x3 x4 x5 (g.1.emb x) := by
    intro g hg x
    match p with
    | 0 => rw [rRun_zero] at hg; exact rList_apply c i arg3 harg3 arg4 harg4 arg5 harg5 arg6 harg6 arg7 harg7 arg9 x0 x1 x2 x3 x4 x5 0 g hg x
    | 1 =>
      rw [rRun_one] at hg
      exact (List.mem_append.mp hg).elim
        (fun h => rList_apply c i arg3 harg3 arg4 harg4 arg5 harg5 arg6 harg6 arg7 harg7 arg9 x0 x1 x2 x3 x4 x5 1 g h x)
        (fun h => rList_apply c i arg3 harg3 arg4 harg4 arg5 harg5 arg6 harg6 arg7 harg7 arg9 x0 x1 x2 x3 x4 x5 0 g h x)
  have hin : ∀ g ∈ rList c i arg3 harg3 arg4 harg4 arg5 harg5 arg6 harg6 arg7 harg7 arg9 x1 x2 x3 x4 x5 p, g ∈ rRun c i arg3 harg3 arg4 harg4 arg5 harg5 arg6 harg6 arg7 harg7 arg9 x1 x2 x3 x4 x5 p := by
    intro g hg
    match p with
    | 0 => rw [rRun_zero]; exact hg
    | 1 => rw [rRun_one]; exact List.mem_append_left _ hg
  refine View.canon_apply_of_pieces (Val := Elt Ideal) (e := .bf16) (right i x0 x1 x2 x3 x4 x5) _ ?_ y ?_
  · exact hall
  by_cases hv : (y 3 : ℕ) < 128
  · refine ⟨_, hin _ (value_mem c i arg3 harg3 arg4 harg4 arg5 harg5 arg6 harg6 arg7 harg7 arg9 x1 x2 x3 x4 x5 p ⟨y 1, h1⟩ ⟨y 2, h2⟩),
      (vPiece arg4 harg4 x2 p ⟨y 1, h1⟩ ⟨y 2, h2⟩).1.mem_set.mpr fun b => ?_⟩
    match b with
    | 0 => exact ⟨0, Nat.one_pos, by show (y 0 : ℕ) = (p : ℕ) + 1 * 0; omega⟩
    | 1 => exact ⟨0, Nat.one_pos, by show (y 1 : ℕ) = (y 1 : ℕ) + 1 * 0; omega⟩
    | 2 => exact ⟨0, Nat.one_pos, by show (y 2 : ℕ) = (y 2 : ℕ) + 1 * 0; omega⟩
    | 3 => exact ⟨y 3, hv, by show (y 3 : ℕ) = 0 + 1 * (y 3 : ℕ); omega⟩
    | 4 => exact ⟨y 4, h4, by show (y 4 : ℕ) = 0 + 1 * (y 4 : ℕ); omega⟩
  by_cases hs : (y 3 : ℕ) < 192
  · refine ⟨_, hin _ (state_mem c i arg3 harg3 arg4 harg4 arg5 harg5 arg6 harg6 arg7 harg7 arg9 x1 x2 x3 x4 x5 p ⟨y 1, h1⟩ ⟨y 2, h2⟩).1, (sfPiece c i arg3 harg3 arg4 harg4 arg5 harg5 arg6 harg6 arg7 harg7 arg9 x1 x2 x3 x4 x5 p ⟨y 1, h1⟩ ⟨y 2, h2⟩).1.mem_set.mpr fun b => ?_⟩
    match b with
    | 0 => exact ⟨0, Nat.one_pos, by show (y 0 : ℕ) = (p : ℕ) + 1 * 0; omega⟩
    | 1 => exact ⟨0, Nat.one_pos, by show (y 1 : ℕ) = (y 1 : ℕ) + 1 * 0; omega⟩
    | 2 => exact ⟨0, Nat.one_pos, by show (y 2 : ℕ) = (y 2 : ℕ) + 1 * 0; omega⟩
    | 3 => exact ⟨(y 3 : ℕ) - 128, by show (y 3 : ℕ) - 128 < 64; omega, by show (y 3 : ℕ) = 128 + 1 * ((y 3 : ℕ) - 128); omega⟩
    | 4 => exact ⟨y 4, h4, by show (y 4 : ℕ) = 0 + 1 * (y 4 : ℕ); omega⟩
  · refine ⟨_, hin _ (state_mem c i arg3 harg3 arg4 harg4 arg5 harg5 arg6 harg6 arg7 harg7 arg9 x1 x2 x3 x4 x5 p ⟨y 1, h1⟩ ⟨y 2, h2⟩).2, (sbPiece c i arg3 harg3 arg4 harg4 arg5 harg5 arg6 harg6 arg7 harg7 arg9 x1 x2 x3 x4 x5 p ⟨y 1, h1⟩ ⟨y 2, h2⟩).1.mem_set.mpr fun b => ?_⟩
    match b with
    | 0 => exact ⟨0, Nat.one_pos, by show (y 0 : ℕ) = (p : ℕ) + 1 * 0; omega⟩
    | 1 => exact ⟨0, Nat.one_pos, by show (y 1 : ℕ) = (y 1 : ℕ) + 1 * 0; omega⟩
    | 2 => exact ⟨0, Nat.one_pos, by show (y 2 : ℕ) = (y 2 : ℕ) + 1 * 0; omega⟩
    | 3 => exact ⟨(y 3 : ℕ) - 192, by show (y 3 : ℕ) - 192 < 64; omega, by show (y 3 : ℕ) = 192 + 1 * ((y 3 : ℕ) - 192); omega⟩
    | 4 => exact ⟨y 4, h4, by show (y 4 : ℕ) = 0 + 1 * (y 4 : ℕ); omega⟩

/-- A right factor, loaded back. -/
theorem rLoad_apply (p : Fin 2) (j : Fin 16) (hh : Fin 2) (w : Fin 256) (x : Fin 128) :
    rLoad c i arg3 harg3 arg4 harg4 arg5 harg5 arg6 harg6 arg7 harg7 arg9 arg10 x1 x2 x3 x4 x5 p j hh
      (ix4 (0 : Fin 1) (0 : Fin 1) w x) = rightAt i x0 x1 x2 x3 x4 x5 p j hh w x := by
  have e := Shape.reshapeEquiv_cons_one (d := S1x1x256x128.size)
    (LoadRect.numel_consLift (Rect.unit (s := S16x2x256x128) ![(j : ℕ), (hh : ℕ), 0, 0] S1x1x256x128.size
      (by intro a; fin_cases a <;> simp <;> omega)).toLoadRect ![1, 16, 2, 256, 128] rfl (fun _ => rfl))
    (ix4 (0 : Fin 1) (0 : Fin 1) w x)
  rw [rLoad]
  refine (congrArg _ e).trans ?_
  rw [View.readCov_eq_canon']
  refine (rRun_canon c i arg3 harg3 arg4 harg4 arg5 harg5 arg6 harg6 arg7 harg7 arg9 x0 x1 x2 x3 x4 x5 p _ ?_).trans ?_
  · show (p : ℕ) + 0 + 1 * 0 = p; omega
  · exact right_at i x0 x1 x2 x3 x4 x5 _ (by show (p : ℕ) + 0 + 1 * 0 = p; omega) (by show 0 + (j : ℕ) + 1 * 0 = j; omega)
      (by show 0 + (hh : ℕ) + 1 * 0 = hh; omega) (by show 0 + 0 + 1 * (w : ℕ) = w; omega)
      (by show 0 + 0 + 1 * (x : ℕ) = x; omega)

/-- A head's left factor of a chunk: the decayed scores, then the queries decayed for the forward and the backward state. -/
def leftAt (p j hh r w : ℕ) : EReal :=
  if w < 128 then (loc i x0 x1 x2 x3 x4 x5).score 0 (2 * p + hh) j r w * (loc i x0 x1 x2 x3 x4 x5).mask (2 * p + hh) r w
  else if w < 192 then (loc i x0 x1 x2 x3 x4 x5).q 0 (128 * j + r) (64 * (2 * p + hh) + (w - 128)) * Ideal.exp ((loc i x0 x1 x2 x3 x4 x5).lf (2 * p + hh) * num (r + 1))
  else (loc i x0 x1 x2 x3 x4 x5).q 0 (128 * j + r) (64 * (2 * p + hh) + (w - 192)) * Ideal.exp ((loc i x0 x1 x2 x3 x4 x5).lb (2 * p + hh) * num (128 - r))

/-- What the third scratch buffer holds. -/
def left (y : S2x16x2x128x256.Idx) : EReal := leftAt i x0 x1 x2 x3 x4 x5 (y 0 : ℕ) (y 1 : ℕ) (y 2 : ℕ) (y 3 : ℕ) (y 4 : ℕ)

/-- What the third scratch buffer holds at an entry whose coordinates are known. -/
theorem left_at (y : S2x16x2x128x256.Idx) {p j hh r w : ℕ} (h0 : (y 0 : ℕ) = p) (h1 : (y 1 : ℕ) = j) (h2 : (y 2 : ℕ) = hh)
    (h3 : (y 3 : ℕ) = r) (h4 : (y 4 : ℕ) = w) : left i x0 x1 x2 x3 x4 x5 y = leftAt i x0 x1 x2 x3 x4 x5 p j hh r w := by
  subst h0 h1 h2 h3 h4; rfl

/-- A generated left factor is the family's. -/
theorem genL_apply (p : Fin 2) (j : Fin 16) (hh : Fin 2) (r : Fin 128) (w : Fin 256) :
    (genL (lgF c i arg6 harg6 x4 p hh) (lgB c i arg7 harg7 x5 p hh) (qBlk arg2 harg2 x0 p j) (kBlk arg3 harg3 x1 p j) hh :
      Vec Ideal S1x1x1x128x256 .bf16) (ix5 (0 : Fin 1) (0 : Fin 1) (0 : Fin 1) r w) = leftAt i x0 x1 x2 x3 x4 x5 p j hh r w := by
  have hf := lgF_apply c i arg6 harg6 x0 x1 x2 x3 x4 x5 p hh
  have hb := lgB_apply c i arg7 harg7 x0 x1 x2 x3 x4 x5 p hh
  have hq (d : Fin 64) : qBlk arg2 harg2 x0 p j (ix3 (0 : Fin 1) r ⟨64 * (hh : ℕ) + d, by omega⟩)
      = (loc i x0 x1 x2 x3 x4 x5).q 0 (128 * j + r) (64 * (2 * p + hh) + d) := by
    rw [qBlk_apply]
    show at3 x0 0 _ (128 * (p : ℕ) + (64 * (hh : ℕ) + d)) = at3 x0 0 _ _
    congr 1; omega
  have hk (s : Fin 128) (d : Fin 64) : kBlk arg3 harg3 x1 p j (ix3 (0 : Fin 1) s ⟨64 * (hh : ℕ) + d, by omega⟩)
      = (loc i x0 x1 x2 x3 x4 x5).k 0 (128 * j + s) (64 * (2 * p + hh) + d) := by
    rw [kBlk_apply]
    show at3 x1 0 _ (128 * (p : ℕ) + (64 * (hh : ℕ) + d)) = at3 x1 0 _ _
    congr 1; omega
  by_cases h : (w : ℕ) < 128
  · obtain ⟨w, hw⟩ := w
    refine (genL_score hf hb _ _ hh r ⟨w, h⟩).trans ?_
    rw [leftAt, if_pos h, Data.mask, Data.score]
    simp only [hq, hk]
  by_cases h' : (w : ℕ) < 192
  · obtain ⟨d, rfl⟩ : ∃ d : Fin 64, w = ⟨128 + d, Nat.lt_of_lt_of_le (Nat.add_lt_add_left d.isLt 128) (by decide)⟩ := ⟨⟨w - 128, by omega⟩, Fin.ext (by show (w : ℕ) = 128 + (w - 128); omega)⟩
    refine (genL_fwd hf hb _ _ hh r d).trans ?_
    rw [leftAt, if_neg h, if_pos h', hq]
    show _ = (loc i x0 x1 x2 x3 x4 x5).q 0 _ (64 * (2 * (p : ℕ) + hh) + (128 + (d : ℕ) - 128)) * _
    rw [Nat.add_sub_cancel_left]
  · obtain ⟨d, rfl⟩ : ∃ d : Fin 64, w = ⟨192 + d, Nat.lt_of_lt_of_le (Nat.add_lt_add_left d.isLt 192) (by decide)⟩ := ⟨⟨w - 192, by omega⟩, Fin.ext (by show (w : ℕ) = 192 + (w - 192); omega)⟩
    refine (genL_bwd hf hb _ _ hh r d).trans ?_
    rw [leftAt, if_neg h, if_neg h', hq]
    show _ = (loc i x0 x1 x2 x3 x4 x5).q 0 _ (64 * (2 * (p : ℕ) + hh) + (192 + (d : ℕ) - 192)) * _
    rw [Nat.add_sub_cancel_left]

/-- The store of a left factor is a part of what the buffer holds. -/
theorem lPiece_apply (p : Fin 2) (j : Fin 16) (hh : Fin 2) (x : (lPiece c i arg2 harg2 arg3 harg3 arg6 harg6 arg7 harg7 x0 x1 x4 x5 p j hh).1.shape.Idx) :
    (lPiece c i arg2 harg2 arg3 harg3 arg6 harg6 arg7 harg7 x0 x1 x4 x5 p j hh).2 x = left i x0 x1 x2 x3 x4 x5 ((lPiece c i arg2 harg2 arg3 harg3 arg6 harg6 arg7 harg7 x0 x1 x4 x5 p j hh).1.emb x) := by
  obtain ⟨r, hr⟩ : ∃ r : Fin 128, r = x 3 := ⟨x 3, rfl⟩
  obtain ⟨w, hw⟩ : ∃ w : Fin 256, w = x 4 := ⟨x 4, rfl⟩
  have hx : x = ix5 (0 : Fin 1) (0 : Fin 1) (0 : Fin 1) r w := by subst hr hw; exact ix5_ones x
  subst hx
  refine (genL_apply c i arg2 harg2 arg3 harg3 arg6 harg6 arg7 harg7 x0 x1 x2 x3 x4 x5 p j hh r w).trans ?_
  exact (left_at i x0 x1 x2 x3 x4 x5 _ (by show (p : ℕ) + 1 * 0 = p; omega) (by show (j : ℕ) + 1 * 0 = j; omega)
    (by show (hh : ℕ) + 1 * 0 = hh; omega) (by show 0 + 1 * (r : ℕ) = r; omega) (by show 0 + 1 * (w : ℕ) = w; omega)).symm

/-- Every store of one pair into the third scratch buffer is a part of what it holds. -/
theorem lList_apply (p : Fin 2) (g) (hg : g ∈ lList c i arg2 harg2 arg3 harg3 arg6 harg6 arg7 harg7 x0 x1 x4 x5 p) (x : g.1.shape.Idx) : g.2 x = left i x0 x1 x2 x3 x4 x5 (g.1.emb x) := by
  obtain ⟨j, _, h⟩ := List.mem_flatMap.mp hg
  rcases List.mem_cons.mp h with h | h
  · subst h; exact lPiece_apply c i arg2 harg2 arg3 harg3 arg6 harg6 arg7 harg7 x0 x1 x2 x3 x4 x5 p j 1 x
  · obtain rfl := List.mem_singleton.mp h; exact lPiece_apply c i arg2 harg2 arg3 harg3 arg6 harg6 arg7 harg7 x0 x1 x2 x3 x4 x5 p j 0 x

/-- A left factor is among its pair's stores. -/
theorem lPiece_mem (p : Fin 2) (j : Fin 16) (hh : Fin 2) : lPiece c i arg2 harg2 arg3 harg3 arg6 harg6 arg7 harg7 x0 x1 x4 x5 p j hh ∈ lList c i arg2 harg2 arg3 harg3 arg6 harg6 arg7 harg7 x0 x1 x4 x5 p := by
  refine List.mem_flatMap.mpr ⟨j, by simp, ?_⟩
  match hh with
  | 0 => exact List.mem_cons_of_mem _ (List.mem_singleton.mpr rfl)
  | 1 => exact List.mem_cons_self

/-- The third scratch buffer when a pair's left factors are read, at an entry of that pair. -/
theorem lRun_canon (p : Fin 2) (y : S2x16x2x128x256.Idx) (hy : (y 0 : ℕ) = p) :
    View.canon (lRun c i arg2 harg2 arg3 harg3 arg6 harg6 arg7 harg7 x0 x1 x4 x5 p) y = left i x0 x1 x2 x3 x4 x5 y := by
  have h1 : (y 1 : ℕ) < 16 := (y 1).isLt
  have h2 : (y 2 : ℕ) < 2 := (y 2).isLt
  have h3 : (y 3 : ℕ) < 128 := (y 3).isLt
  have h4 : (y 4 : ℕ) < 256 := (y 4).isLt
  have hall : ∀ g ∈ lRun c i arg2 harg2 arg3 harg3 arg6 harg6 arg7 harg7 x0 x1 x4 x5 p, ∀ x, g.2 x = left i x0 x1 x2 x3 x4 x5 (g.1.emb x) := by
    intro g hg x
    match p with
    | 0 => rw [lRun_zero] at hg; exact lList_apply c i arg2 harg2 arg3 harg3 arg6 harg6 arg7 harg7 x0 x1 x2 x3 x4 x5 0 g hg x
    | 1 =>
      rw [lRun_one] at hg
      exact (List.mem_append.mp hg).elim
        (fun h => lList_apply c i arg2 harg2 arg3 harg3 arg6 harg6 arg7 harg7 x0 x1 x2 x3 x4 x5 1 g h x)
        (fun h => lList_apply c i arg2 harg2 arg3 harg3 arg6 harg6 arg7 harg7 x0 x1 x2 x3 x4 x5 0 g h x)
  have hin : ∀ g ∈ lList c i arg2 harg2 arg3 harg3 arg6 harg6 arg7 harg7 x0 x1 x4 x5 p, g ∈ lRun c i arg2 harg2 arg3 harg3 arg6 harg6 arg7 harg7 x0 x1 x4 x5 p := by
    intro g hg
    match p with
    | 0 => rw [lRun_zero]; exact hg
    | 1 => rw [lRun_one]; exact List.mem_append_left _ hg
  refine View.canon_apply_of_pieces (Val := Elt Ideal) (e := .bf16) (left i x0 x1 x2 x3 x4 x5) _ ?_ y
    ⟨_, hin _ (lPiece_mem c i arg2 harg2 arg3 harg3 arg6 harg6 arg7 harg7 x0 x1 x4 x5 p ⟨y 1, h1⟩ ⟨y 2, h2⟩), (lPiece c i arg2 harg2 arg3 harg3 arg6 harg6 arg7 harg7 x0 x1 x4 x5 p ⟨y 1, h1⟩ ⟨y 2, h2⟩).1.mem_set.mpr fun b => ?_⟩
  · exact hall
  match b with
  | 0 => exact ⟨0, Nat.one_pos, by show (y 0 : ℕ) = (p : ℕ) + 1 * 0; omega⟩
  | 1 => exact ⟨0, Nat.one_pos, by show (y 1 : ℕ) = (y 1 : ℕ) + 1 * 0; omega⟩
  | 2 => exact ⟨0, Nat.one_pos, by show (y 2 : ℕ) = (y 2 : ℕ) + 1 * 0; omega⟩
  | 3 => exact ⟨y 3, h3, by show (y 3 : ℕ) = 0 + 1 * (y 3 : ℕ); omega⟩
  | 4 => exact ⟨y 4, h4, by show (y 4 : ℕ) = 0 + 1 * (y 4 : ℕ); omega⟩

/-- A left factor, loaded back. -/
theorem lLoad_apply (p : Fin 2) (j : Fin 16) (hh : Fin 2) (r : Fin 128) (w : Fin 256) :
    lLoad c i arg2 harg2 arg3 harg3 arg6 harg6 arg7 harg7 arg11 x0 x1 x4 x5 p j hh
      (ix4 (0 : Fin 1) (0 : Fin 1) r w) = leftAt i x0 x1 x2 x3 x4 x5 p j hh r w := by
  have e := Shape.reshapeEquiv_cons_one (d := S1x1x128x256.size)
    (LoadRect.numel_consLift (Rect.unit (s := S16x2x128x256) ![(j : ℕ), (hh : ℕ), 0, 0] S1x1x128x256.size
      (by intro a; fin_cases a <;> simp <;> omega)).toLoadRect ![1, 16, 2, 128, 256] rfl (fun _ => rfl))
    (ix4 (0 : Fin 1) (0 : Fin 1) r w)
  rw [lLoad]
  refine (congrArg _ e).trans ?_
  rw [View.readCov_eq_canon']
  refine (lRun_canon c i arg2 harg2 arg3 harg3 arg6 harg6 arg7 harg7 x0 x1 x2 x3 x4 x5 p _ ?_).trans ?_
  · show (p : ℕ) + 0 + 1 * 0 = p; omega
  · exact left_at i x0 x1 x2 x3 x4 x5 _ (by show (p : ℕ) + 0 + 1 * 0 = p; omega) (by show 0 + (j : ℕ) + 1 * 0 = j; omega)
      (by show 0 + (hh : ℕ) + 1 * 0 = hh; omega) (by show 0 + 0 + 1 * (r : ℕ) = r; omega)
      (by show 0 + 0 + 1 * (w : ℕ) = w; omega)

/-- The product of a left and a right factor is the retention's output. -/
theorem factors_eq (p j hh r x : ℕ) :
    ∑ w : Fin 256, leftAt i x0 x1 x2 x3 x4 x5 p j hh r w * rightAt i x0 x1 x2 x3 x4 x5 p j hh w x = (loc i x0 x1 x2 x3 x4 x5).out 0 (2 * p + hh) j r x := by
  rw [show (∑ w : Fin 256, leftAt i x0 x1 x2 x3 x4 x5 p j hh r w * rightAt i x0 x1 x2 x3 x4 x5 p j hh w x)
      = ∑ w : Fin (128 + (64 + 64)), leftAt i x0 x1 x2 x3 x4 x5 p j hh r w * rightAt i x0 x1 x2 x3 x4 x5 p j hh w x from rfl, Fin.sum_univ_add, Fin.sum_univ_add, Data.out]
  refine congrArg₂ (· + ·) ?_ (congrArg₂ (· + ·) ?_ ?_)
  · refine Finset.sum_congr rfl fun s _ => ?_
    simp only [Fin.val_castAdd, leftAt, rightAt, if_pos s.isLt]
  · refine Finset.sum_congr rfl fun d _ => ?_
    simp only [Fin.val_castAdd, Fin.val_natAdd, leftAt, rightAt]
    rw [if_neg (by omega), if_pos (by omega), if_neg (by omega), if_pos (by omega), Nat.add_sub_cancel_left]
  · refine Finset.sum_congr rfl fun d _ => ?_
    simp only [Fin.val_natAdd, leftAt, rightAt]
    rw [if_neg (by omega), if_neg (by omega), if_neg (by omega), if_neg (by omega),
      show 128 + (64 + (d : ℕ)) - 192 = d by omega]

/-- The store of a result is the retention's output at its positions. -/
theorem oProduct_apply (p : Fin 2) (j : Fin 16) (hh : Fin 2) (r x : Fin 128) :
    (k0_pay1 (lLoad c i arg2 harg2 arg3 harg3 arg6 harg6 arg7 harg7 arg11 x0 x1 x4 x5 p j hh)
      (rLoad c i arg3 harg3 arg4 harg4 arg5 harg5 arg6 harg6 arg7 harg7 arg9 arg10 x1 x2 x3 x4 x5 p j hh) : Vec Ideal S1x128x128 .bf16)
      (ix3 (0 : Fin 1) r x) = (loc i x0 x1 x2 x3 x4 x5).out 0 (2 * p + hh) j r x := by
  have h (a : Vec Ideal S1x1x128x256 .bf16) (b : Vec Ideal S1x1x256x128 .bf16) : (k0_pay1 a b : Vec Ideal S1x128x128 .bf16) (ix3 (0 : Fin 1) r x)
      = ∑ e : Fin 256, a (ix4 (0 : Fin 1) (0 : Fin 1) r e) * b (ix4 (0 : Fin 1) (0 : Fin 1) e x) := by
    pointwise [k0_pay1]
  rw [h, ← factors_eq]
  refine Finset.sum_congr rfl fun w _ => ?_
  rw [lLoad_apply c i arg2 harg2 arg3 harg3 arg6 harg6 arg7 harg7 arg11 x0 x1 x2 x3 x4 x5, rLoad_apply c i arg3 harg3 arg4 harg4 arg5 harg5 arg6 harg6 arg7 harg7 arg9 arg10 x0 x1 x2 x3 x4 x5]

end Cert.KernelIdeal.Pieces
-- ==== Proof.KerValue.lean ====
module

public import proofs.«01_k».proof.Proof.KerFactors
public import proofs.«01_k».proof.Proof.Gen.KernelIdeal.Value

/-! The kernel's result array: the retention's output at every position. -/

@[expose] public section

set_option maxRecDepth 16384

noncomputable section

namespace Cert.KernelIdeal.Pieces

open Idealize.ShloMosaic Idealize.ShloMosaic.TcCoe Idealize.SL.Sem
open Cert.KernelIdeal Cert.KernelIdeal.Gen Cert.Retention

section Block

variable (c : Dev nD) (i : grid0.Coords)
  (arg2 : Memref sig Kind.tc Space.vmem S1x2048x256 EltTy.bf16) (harg2 : arg2.IsWhole)
  (arg3 : Memref sig Kind.tc Space.vmem S1x2048x256 EltTy.bf16) (harg3 : arg3.IsWhole)
  (arg4 : Memref sig Kind.tc Space.vmem S1x2048x512 EltTy.bf16) (harg4 : arg4.IsWhole)
  (arg5 : Memref sig Kind.tc Space.vmem S1x2x2x64x256 EltTy.f32) (harg5 : arg5.IsWhole)
  (arg6 : Memref sig Kind.tc Space.smem S8 EltTy.f32) (harg6 : arg6.IsWhole)
  (arg7 : Memref sig Kind.tc Space.smem S8 EltTy.f32) (harg7 : arg7.IsWhole)
  (arg8 : Memref sig Kind.tc Space.vmem S1x2048x512 EltTy.bf16) (harg8 : arg8.IsWhole)
  (arg9 : Memref sig Kind.tc Space.vmem S2x16x2x64x256 EltTy.f32) (harg9 : arg9.IsWhole)
  (arg10 : Memref sig Kind.tc Space.vmem S2x16x2x256x128 EltTy.bf16) (harg10 : arg10.IsWhole)
  (arg11 : Memref sig Kind.tc Space.vmem S2x16x2x128x256 EltTy.bf16) (harg11 : arg11.IsWhole)
  (x0 x1 : Vec Ideal S1x2048x256 .bf16) (x2 : Vec Ideal S1x2048x512 .bf16) (x3 : Vec Ideal S1x2x2x64x256 .f32)
  (x4 x5 : Vec Ideal S8 .f32)

/-- One grid point's block of results. -/
def blockOut (y : S1x2048x512.Idx) : EReal :=
  (loc i x0 x1 x2 x3 x4 x5).out 0 ((y 2 : ℕ) / 128) ((y 1 : ℕ) / 128) ((y 1 : ℕ) % 128) ((y 2 : ℕ) % 128)

/-- One grid point's result at an entry whose coordinates are known. -/
theorem blockOut_at (y : S1x2048x512.Idx) {h j r x : ℕ} (hr : r < 128) (hx : x < 128) (h1 : (y 1 : ℕ) = 128 * j + r)
    (h2 : (y 2 : ℕ) = 128 * h + x) : blockOut i x0 x1 x2 x3 x4 x5 y = (loc i x0 x1 x2 x3 x4 x5).out 0 h j r x := by
  rw [blockOut, h1, h2, show (128 * h + x) / 128 = h by omega, show (128 * j + r) / 128 = j by omega,
    show (128 * j + r) % 128 = r by omega, show (128 * h + x) % 128 = x by omega]

/-- An index of a rank-3 shape whose first size is one. -/
theorem ix3_one {a b : ℕ} (x : (⟨3, ![1, a, b]⟩ : Shape).Idx) : x = ix3 (0 : Fin 1) (x 1 : Fin a) (x 2 : Fin b) := by
  funext n
  match n with
  | ⟨0, _⟩ => exact Subsingleton.elim (α := Fin 1) _ _
  | ⟨1, _⟩ => rfl
  | ⟨2, _⟩ => rfl

/-- The store of a result is a part of the block. -/
theorem oPiece_apply (p : Fin 2) (j : Fin 16) (hh : Fin 2) (x : (oPiece c i arg2 harg2 arg3 harg3 arg4 harg4 arg5 harg5 arg6 harg6 arg7 harg7 arg9 arg10 arg11 x0 x1 x2 x3 x4 x5 p j hh).1.shape.Idx) :
    (oPiece c i arg2 harg2 arg3 harg3 arg4 harg4 arg5 harg5 arg6 harg6 arg7 harg7 arg9 arg10 arg11 x0 x1 x2 x3 x4 x5 p j hh).2 x = blockOut i x0 x1 x2 x3 x4 x5 ((oPiece c i arg2 harg2 arg3 harg3 arg4 harg4 arg5 harg5 arg6 harg6 arg7 harg7 arg9 arg10 arg11 x0 x1 x2 x3 x4 x5 p j hh).1.emb x) := by
  obtain ⟨r, hr⟩ : ∃ r : Fin 128, r = x 1 := ⟨x 1, rfl⟩
  obtain ⟨w, hw⟩ : ∃ w : Fin 128, w = x 2 := ⟨x 2, rfl⟩
  have hx : x = ix3 (0 : Fin 1) r w := by subst hr hw; exact ix3_one x
  subst hx
  refine (oProduct_apply c i arg2 harg2 arg3 harg3 arg4 harg4 arg5 harg5 arg6 harg6 arg7 harg7 arg9 arg10 arg11 x0 x1 x2 x3 x4 x5 p j hh r w).trans ?_
  exact (blockOut_at i x0 x1 x2 x3 x4 x5 _ r.isLt w.isLt (by show 128 * (j : ℕ) + 1 * (r : ℕ) = _; omega)
    (by show 256 * (p : ℕ) + 128 * (hh : ℕ) + 1 * (w : ℕ) = _; omega)).symm

/-- Every result of the block is stored. -/
theorem oPiece_mem (p : Fin 2) (j : Fin 16) (hh : Fin 2) : oPiece c i arg2 harg2 arg3 harg3 arg4 harg4 arg5 harg5 arg6 harg6 arg7 harg7 arg9 arg10 arg11 x0 x1 x2 x3 x4 x5 p j hh ∈ oList c i arg2 harg2 arg3 harg3 arg4 harg4 arg5 harg5 arg6 harg6 arg7 harg7 arg9 arg10 arg11 x0 x1 x2 x3 x4 x5 := by
  have h2 : ∀ p : Fin 2, p ∈ [(1 : Fin 2), 0] := by decide
  exact List.mem_flatMap.mpr ⟨p, h2 p, List.mem_flatMap.mpr ⟨j, by simp, List.mem_map.mpr ⟨hh, h2 hh, rfl⟩⟩⟩

/-- What one grid point leaves in its output block. -/
theorem block_eq (y : S1x2048x512.Idx) : out0_A_6 (F := Ideal) c i arg2 harg2 arg3 harg3 arg4 harg4 arg5 harg5 arg6 harg6
    arg7 harg7 arg8 harg8 arg9 harg9 arg10 harg10 arg11 harg11 x0 x1 x2 x3 x4 x5 y = blockOut i x0 x1 x2 x3 x4 x5 y := by
  have h1 : (y 1 : ℕ) < 2048 := (y 1).isLt
  have h2 : (y 2 : ℕ) < 512 := (y 2).isLt
  have h0 : (y 0 : ℕ) < 1 := (y 0).isLt
  rw [out0_A_6, View.read_writes_junk_eq_canon, run_eq]
  refine View.canon_apply_of_pieces (Val := Elt Ideal) (e := .bf16) (blockOut i x0 x1 x2 x3 x4 x5) _ ?_ y
    ⟨_, oPiece_mem c i arg2 harg2 arg3 harg3 arg4 harg4 arg5 harg5 arg6 harg6 arg7 harg7 arg9 arg10 arg11 x0 x1 x2 x3 x4 x5 ⟨(y 2 : ℕ) / 256, by omega⟩ ⟨(y 1 : ℕ) / 128, by omega⟩ ⟨(y 2 : ℕ) / 128 % 2, by omega⟩, ?_⟩
  · intro g hg x
    obtain ⟨p, _, hg⟩ := List.mem_flatMap.mp hg
    obtain ⟨j, _, hg⟩ := List.mem_flatMap.mp hg
    obtain ⟨hh, _, rfl⟩ := List.mem_map.mp hg
    exact oPiece_apply c i arg2 harg2 arg3 harg3 arg4 harg4 arg5 harg5 arg6 harg6 arg7 harg7 arg9 arg10 arg11 x0 x1 x2 x3 x4 x5 p j hh x
  · refine (oPiece c i arg2 harg2 arg3 harg3 arg4 harg4 arg5 harg5 arg6 harg6 arg7 harg7 arg9 arg10 arg11 x0 x1 x2 x3 x4 x5 ⟨(y 2 : ℕ) / 256, by omega⟩ ⟨(y 1 : ℕ) / 128, by omega⟩ ⟨(y 2 : ℕ) / 128 % 2, by omega⟩).1.mem_set.mpr fun b => ?_
    match b with
    | 0 => exact ⟨0, Nat.one_pos, by show (y 0 : ℕ) = 0 + 1 * 0; omega⟩
    | 1 => exact ⟨(y 1 : ℕ) % 128, Nat.mod_lt _ (by decide), by show (y 1 : ℕ) = 128 * ((y 1 : ℕ) / 128) + 1 * ((y 1 : ℕ) % 128); omega⟩
    | 2 => exact ⟨(y 2 : ℕ) % 128, Nat.mod_lt _ (by decide), by
        show (y 2 : ℕ) = 256 * ((y 2 : ℕ) / 256) + 128 * ((y 2 : ℕ) / 128 % 2) + 1 * ((y 2 : ℕ) % 128); omega⟩

end Block

section Whole

variable (m : (ℓ : Loc nD τ sig) → Buf (Elt Ideal) ℓ) (c : Dev nD)

/-- The retention of the arguments as launched. -/
def glob : Data := argData (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-- The retention's output as the result array. -/
def result : Vec Ideal S8x2048x1024 .bf16 := fun y =>
  (glob m c).out (y 0 : ℕ) ((y 2 : ℕ) / 128) ((y 1 : ℕ) / 128) ((y 1 : ℕ) % 128) ((y 2 : ℕ) % 128)

/-- A grid point's block indices into the arguments and the result. -/
theorem index_eq : ∀ t : Fin grid0.N, win0_0.index t = ![(t : ℕ) / 2, 0, (t : ℕ) % 2] ∧ win0_1.index t = ![(t : ℕ) / 2, 0, (t : ℕ) % 2]
    ∧ win0_2.index t = ![(t : ℕ) / 2, 0, (t : ℕ) % 2] ∧ win0_3.index t = ![(t : ℕ) / 2, (t : ℕ) % 2, 0, 0, 0]
    ∧ win0_4.index t = ![0] ∧ win0_5.index t = ![0] ∧ win0_6.index t = ![(t : ℕ) / 2, 0, (t : ℕ) % 2]
    ∧ (grid0.coords t 1 : ℕ) = (t : ℕ) % 2 := by
  decide +kernel

/-- A block of queries. -/
theorem iblk0_apply (t : Fin cfg0.N) (y : S1x2048x256.Idx) : (iblk m c 0 t : Vec Ideal S1x2048x256 .bf16) y
    = at3 (m ((c : Thread nD τ).loc main_arg0) : Vec Ideal S8x2048x512 .bf16) ((t : ℕ) / 2) (y 1 : ℕ) (256 * ((t : ℕ) % 2) + (y 2 : ℕ)) := by
  have hi := (index_eq t).1
  have h0 : (y 0 : ℕ) < 1 := (y 0).isLt
  unfold iblk
  rw [View.read_apply]
  show V m c main_arg0 _ = _
  rw [V_main_arg0]
  refine at3_of (m ((c : Thread nD τ).loc main_arg0) : Vec Ideal S8x2048x512 .bf16) _ ?_ ?_ ?_
  · show win0_0.index t 0 * 1 + 1 * (y 0 : ℕ) = _; rw [hi]; show (t : ℕ) / 2 * 1 + 1 * (y 0 : ℕ) = _; omega
  · show win0_0.index t 1 * 2048 + 1 * (y 1 : ℕ) = _; rw [hi]; show 0 * 2048 + 1 * (y 1 : ℕ) = _; omega
  · show win0_0.index t 2 * 256 + 1 * (y 2 : ℕ) = _; rw [hi]; show (t : ℕ) % 2 * 256 + 1 * (y 2 : ℕ) = _; omega

/-- A block of keys. -/
theorem iblk1_apply (t : Fin cfg0.N) (y : S1x2048x256.Idx) : (iblk m c 1 t : Vec Ideal S1x2048x256 .bf16) y
    = at3 (m ((c : Thread nD τ).loc main_arg1) : Vec Ideal S8x2048x512 .bf16) ((t : ℕ) / 2) (y 1 : ℕ) (256 * ((t : ℕ) % 2) + (y 2 : ℕ)) := by
  have hi := (index_eq t).2.1
  have h0 : (y 0 : ℕ) < 1 := (y 0).isLt
  unfold iblk
  rw [View.read_apply]
  show V m c main_arg1 _ = _
  rw [V_main_arg1]
  refine at3_of (m ((c : Thread nD τ).loc main_arg1) : Vec Ideal S8x2048x512 .bf16) _ ?_ ?_ ?_
  · show win0_1.index t 0 * 1 + 1 * (y 0 : ℕ) = _; rw [hi]; show (t : ℕ) / 2 * 1 + 1 * (y 0 : ℕ) = _; omega
  · show win0_1.index t 1 * 2048 + 1 * (y 1 : ℕ) = _; rw [hi]; show 0 * 2048 + 1 * (y 1 : ℕ) = _; omega
  · show win0_1.index t 2 * 256 + 1 * (y 2 : ℕ) = _; rw [hi]; show (t : ℕ) % 2 * 256 + 1 * (y 2 : ℕ) = _; omega

/-- A block of values. -/
theorem iblk2_apply (t : Fin cfg0.N) (y : S1x2048x512.Idx) : (iblk m c 2 t : Vec Ideal S1x2048x512 .bf16) y
    = at3 (m ((c : Thread nD τ).loc main_arg2) : Vec Ideal S8x2048x1024 .bf16) ((t : ℕ) / 2) (y 1 : ℕ) (512 * ((t : ℕ) % 2) + (y 2 : ℕ)) := by
  have hi := (index_eq t).2.2.1
  have h0 : (y 0 : ℕ) < 1 := (y 0).isLt
  unfold iblk
  rw [View.read_apply]
  show V m c main_arg2 _ = _
  rw [V_main_arg2]
  refine at3_of (m ((c : Thread nD τ).loc main_arg2) : Vec Ideal S8x2048x1024 .bf16) _ ?_ ?_ ?_
  · show win0_2.index t 0 * 1 + 1 * (y 0 : ℕ) = _; rw [hi]; show (t : ℕ) / 2 * 1 + 1 * (y 0 : ℕ) = _; omega
  · show win0_2.index t 1 * 2048 + 1 * (y 1 : ℕ) = _; rw [hi]; show 0 * 2048 + 1 * (y 1 : ℕ) = _; omega
  · show win0_2.index t 2 * 512 + 1 * (y 2 : ℕ) = _; rw [hi]; show (t : ℕ) % 2 * 512 + 1 * (y 2 : ℕ) = _; omega

/-- A block of initial states. -/
theorem iblk3_apply (t : Fin cfg0.N) (y : S1x2x2x64x256.Idx) : (iblk m c 3 t : Vec Ideal S1x2x2x64x256 .f32) y
    = at5 (m ((c : Thread nD τ).loc main_arg3) : Vec Ideal S8x4x2x64x256 .f32) ((t : ℕ) / 2) (2 * ((t : ℕ) % 2) + (y 1 : ℕ)) (y 2 : ℕ) (y 3 : ℕ) (y 4 : ℕ) := by
  have hi := (index_eq t).2.2.2.1
  have h0 : (y 0 : ℕ) < 1 := (y 0).isLt
  unfold iblk
  rw [View.read_apply]
  show V m c main_arg3 _ = _
  rw [V_main_arg3]
  refine at5_of (m ((c : Thread nD τ).loc main_arg3) : Vec Ideal S8x4x2x64x256 .f32) _ ?_ ?_ ?_ ?_ ?_
  · show win0_3.index t 0 * 1 + 1 * (y 0 : ℕ) = _; rw [hi]; show (t : ℕ) / 2 * 1 + 1 * (y 0 : ℕ) = _; omega
  · show win0_3.index t 1 * 2 + 1 * (y 1 : ℕ) = _; rw [hi]; show (t : ℕ) % 2 * 2 + 1 * (y 1 : ℕ) = _; omega
  · show win0_3.index t 2 * 2 + 1 * (y 2 : ℕ) = _; rw [hi]; show 0 * 2 + 1 * (y 2 : ℕ) = _; omega
  · show win0_3.index t 3 * 64 + 1 * (y 3 : ℕ) = _; rw [hi]; show 0 * 64 + 1 * (y 3 : ℕ) = _; omega
  · show win0_3.index t 4 * 256 + 1 * (y 4 : ℕ) = _; rw [hi]; show 0 * 256 + 1 * (y 4 : ℕ) = _; omega

/-- The forward decay parameters. -/
theorem iblk4_apply (t : Fin cfg0.N) (y : S8.Idx) : (iblk m c 4 t : Vec Ideal S8 .f32) y
    = at1 (m ((c : Thread nD τ).loc main_arg4) : Vec Ideal S8 .f32) (y 0 : ℕ) := by
  have hi := (index_eq t).2.2.2.2.1
  unfold iblk
  rw [View.read_apply]
  show V m c main_arg4 _ = _
  rw [V_main_arg4]
  refine at1_of (m ((c : Thread nD τ).loc main_arg4) : Vec Ideal S8 .f32) _ ?_
  · show win0_4.index t 0 * 8 + 1 * (y 0 : ℕ) = _; rw [hi]; show 0 * 8 + 1 * (y 0 : ℕ) = _; omega

/-- The backward decay parameters. -/
theorem iblk5_apply (t : Fin cfg0.N) (y : S8.Idx) : (iblk m c 5 t : Vec Ideal S8 .f32) y
    = at1 (m ((c : Thread nD τ).loc main_arg5) : Vec Ideal S8 .f32) (y 0 : ℕ) := by
  have hi := (index_eq t).2.2.2.2.2.1
  unfold iblk
  rw [View.read_apply]
  show V m c main_arg5 _ = _
  rw [V_main_arg5]
  refine at1_of (m ((c : Thread nD τ).loc main_arg5) : Vec Ideal S8 .f32) _ ?_
  · show win0_5.index t 0 * 8 + 1 * (y 0 : ℕ) = _; rw [hi]; show 0 * 8 + 1 * (y 0 : ℕ) = _; omega

/-- What a grid point computes with is what the arguments hold for its batch element and its four heads. -/
theorem agree (t : Fin cfg0.N) (h : ℕ) (hh : h < 4) :
    Data.Agree (loc (grid0.coords t) (iblk m c 0 t) (iblk m c 1 t) (iblk m c 2 t) (iblk m c 3 t) (iblk m c 4 t) (iblk m c 5 t)) 0 h
      (glob m c) ((t : ℕ) / 2) (4 * ((t : ℕ) % 2) + h) where
  q s hs d hd := by
    refine ((eq_at3 (iblk m c 0 t : Vec Ideal S1x2048x256 .bf16) (0 : Fin 1) ⟨s, hs⟩ ⟨64 * h + d, by omega⟩).symm.trans (iblk0_apply m c t _)).trans ?_
    show at3 _ _ s (256 * ((t : ℕ) % 2) + (64 * h + d)) = at3 _ _ s (64 * (4 * ((t : ℕ) % 2) + h) + d)
    rw [show 256 * ((t : ℕ) % 2) + (64 * h + d) = 64 * (4 * ((t : ℕ) % 2) + h) + d by omega]
  k s hs d hd := by
    refine ((eq_at3 (iblk m c 1 t : Vec Ideal S1x2048x256 .bf16) (0 : Fin 1) ⟨s, hs⟩ ⟨64 * h + d, by omega⟩).symm.trans (iblk1_apply m c t _)).trans ?_
    show at3 _ _ s (256 * ((t : ℕ) % 2) + (64 * h + d)) = at3 _ _ s (64 * (4 * ((t : ℕ) % 2) + h) + d)
    rw [show 256 * ((t : ℕ) % 2) + (64 * h + d) = 64 * (4 * ((t : ℕ) % 2) + h) + d by omega]
  v s hs x hx := by
    refine ((eq_at3 (iblk m c 2 t : Vec Ideal S1x2048x512 .bf16) (0 : Fin 1) ⟨s, hs⟩ ⟨128 * h + x, by omega⟩).symm.trans (iblk2_apply m c t _)).trans ?_
    show at3 _ _ s (512 * ((t : ℕ) % 2) + (128 * h + x)) = at3 _ _ s (128 * (4 * ((t : ℕ) % 2) + h) + x)
    rw [show 512 * ((t : ℕ) % 2) + (128 * h + x) = 128 * (4 * ((t : ℕ) % 2) + h) + x by omega]
  st d hd x hx := by
    refine ((eq_at5 (iblk m c 3 t : Vec Ideal S1x2x2x64x256 .f32) (0 : Fin 1) ⟨h / 2, by omega⟩ ⟨h % 2, by omega⟩ ⟨d, hd⟩ ⟨x, hx⟩).symm.trans
      (iblk3_apply m c t _)).trans ?_
    show at5 _ _ (2 * ((t : ℕ) % 2) + h / 2) (h % 2) d x = at5 _ _ ((4 * ((t : ℕ) % 2) + h) / 2) ((4 * ((t : ℕ) % 2) + h) % 2) d x
    rw [show 2 * ((t : ℕ) % 2) + h / 2 = (4 * ((t : ℕ) % 2) + h) / 2 by omega, show h % 2 = (4 * ((t : ℕ) % 2) + h) % 2 by omega]
  lf := by
    show logSig (at1 (iblk m c 4 t : Vec Ideal S8 .f32) (4 * (grid0.coords t 1 : ℕ) + h)) = logSig (at1 _ (4 * ((t : ℕ) % 2) + h))
    rw [(index_eq t).2.2.2.2.2.2.2]
    exact congrArg logSig ((eq_at1 (iblk m c 4 t : Vec Ideal S8 .f32) ⟨4 * ((t : ℕ) % 2) + h, by omega⟩).symm.trans (iblk4_apply m c t _))
  lb := by
    show logSig (at1 (iblk m c 5 t : Vec Ideal S8 .f32) (4 * (grid0.coords t 1 : ℕ) + h)) = logSig (at1 _ (4 * ((t : ℕ) % 2) + h))
    rw [(index_eq t).2.2.2.2.2.2.2]
    exact congrArg logSig ((eq_at1 (iblk m c 5 t : Vec Ideal S8 .f32) ⟨4 * ((t : ℕ) % 2) + h, by omega⟩).symm.trans (iblk5_apply m c t _))

/-- The result at an entry whose coordinates are known. -/
theorem result_at (y : S8x2048x1024.Idx) {b h j r x : ℕ} (hr : r < 128) (hx : x < 128) (h0 : (y 0 : ℕ) = b)
    (h1 : (y 1 : ℕ) = 128 * j + r) (h2 : (y 2 : ℕ) = 128 * h + x) : result m c y = (glob m c).out b h j r x := by
  rw [result, h0, h1, h2, show (128 * h + x) / 128 = h by omega, show (128 * j + r) / 128 = j by omega,
    show (128 * j + r) % 128 = r by omega, show (128 * h + x) % 128 = x by omega]

/-- What each grid point writes back is its block of the result. -/
theorem flushed_eq (t : Fin cfg0.N) (_ : (cfg0.win 6).flush t = true) :
    (dats m 0 c).flushed 6 t = ((cfg0.win 6).blk t).view.read (Elt Ideal) (result m c) := by
  have hi := (index_eq t).2.2.2.2.2.2.1
  rw [Value.flushed6_A]
  refine funext fun (y : S1x2048x512.Idx) => ?_
  have h0 : (y 0 : ℕ) < 1 := (y 0).isLt
  have h1 : (y 1 : ℕ) < 2048 := (y 1).isLt
  have h2 : (y 2 : ℕ) < 512 := (y 2).isLt
  rw [View.read_apply]
  refine (block_eq c (grid0.coords t) _ _ _ _ _ _ _ _ _ _ _ _ _ _ _ _ _ _ _ _ _ _ _ _ _ _ y).trans ?_
  rw [blockOut, Data.out_congr (agree m c t ((y 2 : ℕ) / 128) (by omega)) (by omega) (by omega) (by omega), cast_eq]
  refine (result_at m c _ (by omega) (by omega) ?_ ?_ ?_).symm
  · show win0_6.index t 0 * 1 + 1 * (y 0 : ℕ) = _; rw [hi]; show (t : ℕ) / 2 * 1 + 1 * (y 0 : ℕ) = _; omega
  · show win0_6.index t 1 * 2048 + 1 * (y 1 : ℕ) = _; rw [hi]; show 0 * 2048 + 1 * (y 1 : ℕ) = _; omega
  · show win0_6.index t 2 * 512 + 1 * (y 2 : ℕ) = _; rw [hi]; show (t : ℕ) % 2 * 512 + 1 * (y 2 : ℕ) = _; omega

/-- The result array after the run. -/
theorem final_o : (dats m 0 c).arrAt 6 cfg0.N = result m c :=
  (dats m 0 c).arrAt_eq_of_cover 6 (result m c) (flushed_eq m c) fun i => by
    have h0 : (i 0 : ℕ) < 8 := (i 0).isLt
    have h1 : (i 1 : ℕ) < 2048 := (i 1).isLt
    have h2 : (i 2 : ℕ) < 1024 := (i 2).isLt
    have hN : grid0.N = 16 := N_0
    obtain ⟨t, ht⟩ : ∃ t : Fin grid0.N, (t : ℕ) = 2 * (i 0 : ℕ) + (i 2 : ℕ) / 512 := ⟨⟨2 * (i 0 : ℕ) + (i 2 : ℕ) / 512, by omega⟩, rfl⟩
    have hi := (index_eq t).2.2.2.2.2.2.1
    refine ⟨t, flush0_6 t, ?_⟩
    show i ∈ ((View.whole main_v0).slice (win0_6.rect t)).set
    rw [View.set_slice_whole, Rect.mem_set_unit]
    intro a
    match a with
    | ⟨0, _⟩ => show win0_6.index t 0 * 1 ≤ (i 0 : ℕ) ∧ (i 0 : ℕ) < win0_6.index t 0 * 1 + 1
                rw [hi]; show (t : ℕ) / 2 * 1 ≤ (i 0 : ℕ) ∧ (i 0 : ℕ) < (t : ℕ) / 2 * 1 + 1; omega
    | ⟨1, _⟩ => show win0_6.index t 1 * 2048 ≤ (i 1 : ℕ) ∧ (i 1 : ℕ) < win0_6.index t 1 * 2048 + 2048
                rw [hi]; show 0 * 2048 ≤ (i 1 : ℕ) ∧ (i 1 : ℕ) < 0 * 2048 + 2048; omega
    | ⟨2, _⟩ => show win0_6.index t 2 * 512 ≤ (i 2 : ℕ) ∧ (i 2 : ℕ) < win0_6.index t 2 * 512 + 512
                rw [hi]; show (t : ℕ) % 2 * 512 ≤ (i 2 : ℕ) ∧ (i 2 : ℕ) < (t : ℕ) % 2 * 512 + 512; omega

end Whole

end Cert.KernelIdeal.Pieces
-- ==== Proof.RefStep.lean ====
module

public import proofs.«01_k».proof.Proof.Math
public import proofs.«01_k».proof.Proof.Gen.ReferenceIdeal.Run
public import Idealize.ShloMosaic.Lib.DynamicIndex
public import Idealize.ShloMosaic.Lib.WordCmp

/-! One trip of the reference's loop over the chunks: what it makes of its two states and its two stacks of results. -/

@[expose] public section

set_option maxRecDepth 16384

noncomputable section

namespace Cert.ReferenceIdeal.Value

open Idealize.ShloMosaic Idealize.ShloMosaic.TcCoe Idealize.SL.Sem Idealize.ShloMosaic.StableHlo
open Cert.ReferenceIdeal Cert.ReferenceIdeal.Gen Cert.Retention

variable (V0 : Valuation τ sig (Elt Ideal)) (k : ℕ) (hk : k < 16)
  (hc : V0 (Proc.devRef .tc main_v102_14) = fun _ => Scf.iv 0#32 1#32 k)

include hk hc in
/-- Where a trip's chunk starts. -/
theorem start_eq (a : Fin 5) : (((![V0 (Proc.devRef .tc main_v102_14), constantI S_ 32 0#32, constantI S_ 32 0#32, constantI S_ 32 0#32, constantI S_ 32 0#32] : Fin 5 → (⟨S_, .i32⟩ : BufTy).Contents (Elt Ideal))) a (Shape.Idx.first h_S_)).toInt
    = ((![k, 0, 0, 0, 0] : Fin 5 → ℕ) a : ℤ) := by
  match a with
  | 0 =>
    show (V0 (Proc.devRef .tc main_v102_14) (Shape.Idx.first h_S_)).toInt = (k : ℤ)
    rw [hc]
    show (0#32 + BitVec.ofNat 32 k * 1#32).toInt = (k : ℤ)
    rw [BitVec.mul_one, BitVec.zero_add, toInt_ofNat_of_lt (by omega)]
  | 1 => rfl
  | 2 => rfl
  | 3 => rfl
  | 4 => rfl

/-- An array of extended reals at an index. -/
abbrev rd {S : Shape} (t : Vec Ideal S .f32) (y : S.Idx) : EReal := t y

/-- A trip's chunk lies inside the array of chunks. -/
theorem chunk_fits (k : ℕ) (hk : k < 16) (d : ℕ) : Shape.Slices (⟨5, ![16, 8, 8, 128, d]⟩ : Shape) ![k, 0, 0, 0, 0] ⟨5, ![1, 8, 8, 128, d]⟩ :=
  ⟨rfl, fun a => by
    match a with
    | 0 => show k + 1 ≤ 16; omega
    | 1 => show 0 + 8 ≤ 8; omega
    | 2 => show 0 + 8 ≤ 8; omega
    | 3 => show 0 + 128 ≤ 128; omega
    | 4 => show 0 + d ≤ d; omega⟩

include hc in
/-- The chunk of queries a trip reads, forward. -/
theorem v111_apply (b h : Fin 8) (r : Fin 128) (d : Fin 64) : (res_main_while0b_v111 V0 : Vec Ideal S8x8x128x64 .f32) (ix4 b h r d)
    = (V0 (Proc.devRef .tc main_v102_0) : Vec Ideal S16x8x8x128x64 .f32) (ix5 (⟨k, hk⟩ : Fin 16) b h r d) := by
  unfold res_main_while0b_v111
  rw [Host.dynamicSlice_eq_extractStridedSlice _ _ _ ![k, 0, 0, 0, 0] _ (chunk_fits k hk 64) (start_eq V0 k hk hc)]
  pointwise

include hc in
/-- The chunk of keys a trip reads, forward. -/
theorem v112_apply (b h : Fin 8) (r : Fin 128) (d : Fin 64) : (res_main_while0b_v112 V0 : Vec Ideal S8x8x128x64 .f32) (ix4 b h r d)
    = (V0 (Proc.devRef .tc main_v102_1) : Vec Ideal S16x8x8x128x64 .f32) (ix5 (⟨k, hk⟩ : Fin 16) b h r d) := by
  unfold res_main_while0b_v112
  rw [Host.dynamicSlice_eq_extractStridedSlice _ _ _ ![k, 0, 0, 0, 0] _ (chunk_fits k hk 64) (start_eq V0 k hk hc)]
  pointwise

include hc in
/-- The chunk of values a trip reads, forward. -/
theorem v113_apply (b h : Fin 8) (r : Fin 128) (x : Fin 128) : (res_main_while0b_v113 V0 : Vec Ideal S8x8x128x128 .f32) (ix4 b h r x)
    = (V0 (Proc.devRef .tc main_v102_2) : Vec Ideal S16x8x8x128x128 .f32) (ix5 (⟨k, hk⟩ : Fin 16) b h r x) := by
  unfold res_main_while0b_v113
  rw [Host.dynamicSlice_eq_extractStridedSlice _ _ _ ![k, 0, 0, 0, 0] _ (chunk_fits k hk 128) (start_eq V0 k hk hc)]
  pointwise

include hc in
/-- The chunk of queries a trip reads, backward. -/
theorem v114_apply (b h : Fin 8) (r : Fin 128) (d : Fin 64) : (res_main_while0b_v114 V0 : Vec Ideal S8x8x128x64 .f32) (ix4 b h r d)
    = (V0 (Proc.devRef .tc main_v102_3) : Vec Ideal S16x8x8x128x64 .f32) (ix5 (⟨k, hk⟩ : Fin 16) b h r d) := by
  unfold res_main_while0b_v114
  rw [Host.dynamicSlice_eq_extractStridedSlice _ _ _ ![k, 0, 0, 0, 0] _ (chunk_fits k hk 64) (start_eq V0 k hk hc)]
  pointwise

include hc in
/-- The chunk of keys a trip reads, backward. -/
theorem v115_apply (b h : Fin 8) (r : Fin 128) (d : Fin 64) : (res_main_while0b_v115 V0 : Vec Ideal S8x8x128x64 .f32) (ix4 b h r d)
    = (V0 (Proc.devRef .tc main_v102_4) : Vec Ideal S16x8x8x128x64 .f32) (ix5 (⟨k, hk⟩ : Fin 16) b h r d) := by
  unfold res_main_while0b_v115
  rw [Host.dynamicSlice_eq_extractStridedSlice _ _ _ ![k, 0, 0, 0, 0] _ (chunk_fits k hk 64) (start_eq V0 k hk hc)]
  pointwise

include hc in
/-- The chunk of values a trip reads, backward. -/
theorem v116_apply (b h : Fin 8) (r : Fin 128) (x : Fin 128) : (res_main_while0b_v116 V0 : Vec Ideal S8x8x128x128 .f32) (ix4 b h r x)
    = (V0 (Proc.devRef .tc main_v102_5) : Vec Ideal S16x8x8x128x128 .f32) (ix5 (⟨k, hk⟩ : Fin 16) b h r x) := by
  unfold res_main_while0b_v116
  rw [Host.dynamicSlice_eq_extractStridedSlice _ _ _ ![k, 0, 0, 0, 0] _ (chunk_fits k hk 128) (start_eq V0 k hk hc)]
  pointwise

include hc in
/-- The forward state after a trip: the one before it decayed over a chunk, and the chunk's decayed keys times its values. -/
theorem step15_apply (b h : Fin 8) (d : Fin 64) (x : Fin 128) : rd (step_main_v102_15 V0 : Vec Ideal S8x8x64x128 .f32) (ix4 b h d x)
    = rd (V0 (Proc.devRef .tc main_v102_15) : Vec Ideal S8x8x64x128 .f32) (ix4 b h d x) * rd (V0 (Proc.devRef .tc main_v102_8) : Vec Ideal S8 .f32) (ix1 h)
      + ∑ r : Fin 128, (rd (V0 (Proc.devRef .tc main_v102_1) : Vec Ideal S16x8x8x128x64 .f32) (ix5 (⟨k, hk⟩ : Fin 16) b h r d)
          * rd (V0 (Proc.devRef .tc main_v102_9) : Vec Ideal S8x128 .f32) (ix2 h r))
        * rd (V0 (Proc.devRef .tc main_v102_2) : Vec Ideal S16x8x8x128x128 .f32) (ix5 (⟨k, hk⟩ : Fin 16) b h r x) := by
  have e : rd (step_main_v102_15 V0 : Vec Ideal S8x8x64x128 .f32) (ix4 b h d x)
      = rd (V0 (Proc.devRef .tc main_v102_15) : Vec Ideal S8x8x64x128 .f32) (ix4 b h d x) * rd (V0 (Proc.devRef .tc main_v102_8) : Vec Ideal S8 .f32) (ix1 h)
        + ∑ r : Fin 128, (rd (res_main_while0b_v112 V0 : Vec Ideal S8x8x128x64 .f32) (ix4 b h r d) * rd (V0 (Proc.devRef .tc main_v102_9) : Vec Ideal S8x128 .f32) (ix2 h r))
          * rd (res_main_while0b_v113 V0 : Vec Ideal S8x8x128x128 .f32) (ix4 b h r x) := by
    unfold rd step_main_v102_15
    simp only [id_eq]
    pointwise
  rw [e]
  simp only [rd, v112_apply V0 k hk hc, v113_apply V0 k hk hc]

include hc in
/-- The backward state after a trip: the one before it decayed over a chunk, and the chunk's decayed keys times its values. -/
theorem step16_apply (b h : Fin 8) (d : Fin 64) (x : Fin 128) : rd (step_main_v102_16 V0 : Vec Ideal S8x8x64x128 .f32) (ix4 b h d x)
    = rd (V0 (Proc.devRef .tc main_v102_16) : Vec Ideal S8x8x64x128 .f32) (ix4 b h d x) * rd (V0 (Proc.devRef .tc main_v102_12) : Vec Ideal S8 .f32) (ix1 h)
      + ∑ r : Fin 128, (rd (V0 (Proc.devRef .tc main_v102_4) : Vec Ideal S16x8x8x128x64 .f32) (ix5 (⟨k, hk⟩ : Fin 16) b h r d)
          * rd (V0 (Proc.devRef .tc main_v102_13) : Vec Ideal S8x128 .f32) (ix2 h r))
        * rd (V0 (Proc.devRef .tc main_v102_5) : Vec Ideal S16x8x8x128x128 .f32) (ix5 (⟨k, hk⟩ : Fin 16) b h r x) := by
  have e : rd (step_main_v102_16 V0 : Vec Ideal S8x8x64x128 .f32) (ix4 b h d x)
      = rd (V0 (Proc.devRef .tc main_v102_16) : Vec Ideal S8x8x64x128 .f32) (ix4 b h d x) * rd (V0 (Proc.devRef .tc main_v102_12) : Vec Ideal S8 .f32) (ix1 h)
        + ∑ r : Fin 128, (rd (res_main_while0b_v115 V0 : Vec Ideal S8x8x128x64 .f32) (ix4 b h r d) * rd (V0 (Proc.devRef .tc main_v102_13) : Vec Ideal S8x128 .f32) (ix2 h r))
          * rd (res_main_while0b_v116 V0 : Vec Ideal S8x8x128x128 .f32) (ix4 b h r x) := by
    unfold rd step_main_v102_16
    simp only [id_eq]
    pointwise
  rw [e]
  simp only [rd, v115_apply V0 k hk hc, v116_apply V0 k hk hc]

/-- Whether a position of a stack lies in a trip's chunk. -/
theorem in_chunk (k : ℕ) (i : Fin 16) (b h : Fin 8) (r x : Fin 128) :
    (∀ a : Fin 5, (![k, 0, 0, 0, 0] : Fin 5 → ℕ) a ≤ ((ix5 i b h r x : S16x8x8x128x128.Idx) a : ℕ)
      ∧ ((ix5 i b h r x : S16x8x8x128x128.Idx) a : ℕ) < (![k, 0, 0, 0, 0] : Fin 5 → ℕ) a + (![1, 8, 8, 128, 128] : Fin 5 → ℕ) a) ↔ (i : ℕ) = k := by
  constructor
  · intro H
    have h0 : k ≤ (i : ℕ) ∧ (i : ℕ) < k + 1 := H 0
    omega
  · intro H a
    match a with
    | 0 => show k ≤ (i : ℕ) ∧ (i : ℕ) < k + 1; omega
    | 1 => show 0 ≤ (b : ℕ) ∧ (b : ℕ) < 0 + 8; omega
    | 2 => show 0 ≤ (h : ℕ) ∧ (h : ℕ) < 0 + 8; omega
    | 3 => show 0 ≤ (r : ℕ) ∧ (r : ℕ) < 0 + 128; omega
    | 4 => show 0 ≤ (x : ℕ) ∧ (x : ℕ) < 0 + 128; omega

include hc in
/-- The stack of forward results after a trip: the trip's chunk at its place, the others as they were. -/
theorem step17_apply (i : Fin 16) (b h : Fin 8) (r x : Fin 128) : rd (step_main_v102_17 V0 : Vec Ideal S16x8x8x128x128 .f32) (ix5 i b h r x)
    = if (i : ℕ) = k then
        (∑ s : Fin 128, ((∑ d : Fin 64, rd (V0 (Proc.devRef .tc main_v102_0) : Vec Ideal S16x8x8x128x64 .f32) (ix5 (⟨k, hk⟩ : Fin 16) b h r d) * rd (V0 (Proc.devRef .tc main_v102_1) : Vec Ideal S16x8x8x128x64 .f32) (ix5 (⟨k, hk⟩ : Fin 16) b h s d))
            * rd (V0 (Proc.devRef .tc main_v102_6) : Vec Ideal S8x128x128 .f32) (ix3 h r s)) * rd (V0 (Proc.devRef .tc main_v102_2) : Vec Ideal S16x8x8x128x128 .f32) (ix5 (⟨k, hk⟩ : Fin 16) b h s x))
          + ∑ d : Fin 64, (rd (V0 (Proc.devRef .tc main_v102_0) : Vec Ideal S16x8x8x128x64 .f32) (ix5 (⟨k, hk⟩ : Fin 16) b h r d) * rd (V0 (Proc.devRef .tc main_v102_7) : Vec Ideal S8x128 .f32) (ix2 h r))
            * rd (V0 (Proc.devRef .tc main_v102_15) : Vec Ideal S8x8x64x128 .f32) (ix4 b h d x)
      else rd (V0 (Proc.devRef .tc main_v102_17) : Vec Ideal S16x8x8x128x128 .f32) (ix5 i b h r x) := by
  have e : rd (step_main_v102_17 V0 : Vec Ideal S16x8x8x128x128 .f32) (ix5 i b h r x)
      = if (i : ℕ) = k then
        (∑ s : Fin 128, ((∑ d : Fin 64, rd (res_main_while0b_v111 V0 : Vec Ideal S8x8x128x64 .f32) (ix4 b h r d) * rd (res_main_while0b_v112 V0 : Vec Ideal S8x8x128x64 .f32) (ix4 b h s d)) * rd (V0 (Proc.devRef .tc main_v102_6) : Vec Ideal S8x128x128 .f32) (ix3 h r s)) * rd (res_main_while0b_v113 V0 : Vec Ideal S8x8x128x128 .f32) (ix4 b h s x))
          + ∑ d : Fin 64, (rd (res_main_while0b_v111 V0 : Vec Ideal S8x8x128x64 .f32) (ix4 b h r d) * rd (V0 (Proc.devRef .tc main_v102_7) : Vec Ideal S8x128 .f32) (ix2 h r)) * rd (V0 (Proc.devRef .tc main_v102_15) : Vec Ideal S8x8x64x128 .f32) (ix4 b h d x)
      else rd (V0 (Proc.devRef .tc main_v102_17) : Vec Ideal S16x8x8x128x128 .f32) (ix5 i b h r x) := by
    unfold rd step_main_v102_17
    simp only [id_eq]
    rw [WordCmp.dynamicUpdateSlice_eq_update _ _ _ _ ![k, 0, 0, 0, 0] (chunk_fits k hk 128) (start_eq V0 k hk hc)]
    by_cases hi : (i : ℕ) = k
    · rw [if_pos hi]
      pointwise
      exact dif_pos ((in_chunk k i b h r x).mpr hi)
    · rw [if_neg hi]
      pointwise
      exact dif_neg fun c => hi ((in_chunk k i b h r x).mp c)
  rw [e]
  simp only [rd, v111_apply V0 k hk hc, v112_apply V0 k hk hc, v113_apply V0 k hk hc]

include hc in
/-- The stack of backward results after a trip: the trip's chunk at its place, the others as they were. -/
theorem step18_apply (i : Fin 16) (b h : Fin 8) (r x : Fin 128) : rd (step_main_v102_18 V0 : Vec Ideal S16x8x8x128x128 .f32) (ix5 i b h r x)
    = if (i : ℕ) = k then
        (∑ s : Fin 128, ((∑ d : Fin 64, rd (V0 (Proc.devRef .tc main_v102_3) : Vec Ideal S16x8x8x128x64 .f32) (ix5 (⟨k, hk⟩ : Fin 16) b h r d) * rd (V0 (Proc.devRef .tc main_v102_4) : Vec Ideal S16x8x8x128x64 .f32) (ix5 (⟨k, hk⟩ : Fin 16) b h s d))
            * rd (V0 (Proc.devRef .tc main_v102_10) : Vec Ideal S8x128x128 .f32) (ix3 h r s)) * rd (V0 (Proc.devRef .tc main_v102_5) : Vec Ideal S16x8x8x128x128 .f32) (ix5 (⟨k, hk⟩ : Fin 16) b h s x))
          + ∑ d : Fin 64, (rd (V0 (Proc.devRef .tc main_v102_3) : Vec Ideal S16x8x8x128x64 .f32) (ix5 (⟨k, hk⟩ : Fin 16) b h r d) * rd (V0 (Proc.devRef .tc main_v102_11) : Vec Ideal S8x128 .f32) (ix2 h r))
            * rd (V0 (Proc.devRef .tc main_v102_16) : Vec Ideal S8x8x64x128 .f32) (ix4 b h d x)
      else rd (V0 (Proc.devRef .tc main_v102_18) : Vec Ideal S16x8x8x128x128 .f32) (ix5 i b h r x) := by
  have e : rd (step_main_v102_18 V0 : Vec Ideal S16x8x8x128x128 .f32) (ix5 i b h r x)
      = if (i : ℕ) = k then
        (∑ s : Fin 128, ((∑ d : Fin 64, rd (res_main_while0b_v114 V0 : Vec Ideal S8x8x128x64 .f32) (ix4 b h r d) * rd (res_main_while0b_v115 V0 : Vec Ideal S8x8x128x64 .f32) (ix4 b h s d)) * rd (V0 (Proc.devRef .tc main_v102_10) : Vec Ideal S8x128x128 .f32) (ix3 h r s)) * rd (res_main_while0b_v116 V0 : Vec Ideal S8x8x128x128 .f32) (ix4 b h s x))
          + ∑ d : Fin 64, (rd (res_main_while0b_v114 V0 : Vec Ideal S8x8x128x64 .f32) (ix4 b h r d) * rd (V0 (Proc.devRef .tc main_v102_11) : Vec Ideal S8x128 .f32) (ix2 h r)) * rd (V0 (Proc.devRef .tc main_v102_16) : Vec Ideal S8x8x64x128 .f32) (ix4 b h d x)
      else rd (V0 (Proc.devRef .tc main_v102_18) : Vec Ideal S16x8x8x128x128 .f32) (ix5 i b h r x) := by
    unfold rd step_main_v102_18
    simp only [id_eq]
    rw [WordCmp.dynamicUpdateSlice_eq_update _ _ _ _ ![k, 0, 0, 0, 0] (chunk_fits k hk 128) (start_eq V0 k hk hc)]
    by_cases hi : (i : ℕ) = k
    · rw [if_pos hi]
      pointwise
      exact dif_pos ((in_chunk k i b h r x).mpr hi)
    · rw [if_neg hi]
      pointwise
      exact dif_neg fun c => hi ((in_chunk k i b h r x).mp c)
  rw [e]
  simp only [rd, v114_apply V0 k hk hc, v115_apply V0 k hk hc, v116_apply V0 k hk hc]

end Cert.ReferenceIdeal.Value
-- ==== Proof.RefEntry.lean ====
module

public import proofs.«01_k».proof.Proof.RefStep

/-! The reference's carried arrays before the first trip, entry by entry, from the six arguments. -/

@[expose] public section

set_option maxRecDepth 16384

noncomputable section

namespace Cert.ReferenceIdeal.Value

open Idealize.ShloMosaic Idealize.ShloMosaic.TcCoe Idealize.SL.Sem Idealize.ShloMosaic.StableHlo
open Cert.ReferenceIdeal Cert.ReferenceIdeal.Gen Cert.Retention

variable (m : (ℓ : Loc nD τ sig) → Buf (Elt Ideal) ℓ) (c : Dev nD)

/-- The retention's data, from the reference's arguments. -/
def gd : Data := argData (m ((c.tc : Thread nD τ).loc main_arg0)) (m ((c.tc : Thread nD τ).loc main_arg1))
  (m ((c.tc : Thread nD τ).loc main_arg2)) (m ((c.tc : Thread nD τ).loc main_arg3))
  (m ((c.tc : Thread nD τ).loc main_arg4)) (m ((c.tc : Thread nD τ).loc main_arg5))

/-- The logarithm of a decay, as the reference computes it, with its test for a value unequal to itself. -/
theorem ls (t : EReal) [Decidable (-t ≠ -t)] :
    (-(if -t ≠ -t then -t else max (-t) 0 + Ideal.log1p (Ideal.exp (-(FloatOps.absf (F := Ideal) (φ := FTy.f32) (-t)))))) = logSig t := by
  rw [if_neg (fun h => h rfl)]
  exact logSig_eq t

/-- A forward decay's logarithm. -/
theorem lf_at (h : Fin 8) : logSig ((m ((c.tc : Thread nD τ).loc main_arg4) : Vec Ideal S8 .f32) (ix1 h)) = (gd m c).lf h :=
  congrArg logSig (at1_of (m ((c.tc : Thread nD τ).loc main_arg4)) _ rfl)

/-- A backward decay's logarithm. -/
theorem lb_at (h : Fin 8) : logSig ((m ((c.tc : Thread nD τ).loc main_arg5) : Vec Ideal S8 .f32) (ix1 h)) = (gd m c).lb h :=
  congrArg logSig (at1_of (m ((c.tc : Thread nD τ).loc main_arg5)) _ rfl)

/-- The chunks of queries, in the order of the sequence. -/
theorem entry_0 (i : Fin 16) (b h : Fin 8) (r : Fin 128) (d : Fin 64) :
    rd (entryContents preI m c (Proc.devRef .tc main_v102_0) : Vec Ideal S16x8x8x128x64 .f32) (ix5 i b h r d)
      = (gd m c).q b (128 * i + r) (64 * h + d) := by
  unfold rd
  simp only [entryContents, afterL_cons, afterL_nil]
  after_reads_simp
  simp only [TRef.toBuf, TRef.ofBuf, id_eq, cast_eq]
  pointwise
  exact at3_of (m ((c.tc : Thread nD τ).loc main_arg0)) _ rfl
    (by show (i : ℕ) * 128 + r = 128 * i + r; omega) (by show (h : ℕ) * 64 + d = 64 * h + d; omega)

/-- The chunks of keys, in the order of the sequence. -/
theorem entry_1 (i : Fin 16) (b h : Fin 8) (r : Fin 128) (d : Fin 64) :
    rd (entryContents preI m c (Proc.devRef .tc main_v102_1) : Vec Ideal S16x8x8x128x64 .f32) (ix5 i b h r d)
      = (gd m c).k b (128 * i + r) (64 * h + d) := by
  unfold rd
  simp only [entryContents, afterL_cons, afterL_nil]
  after_reads_simp
  simp only [TRef.toBuf, TRef.ofBuf, id_eq, cast_eq]
  pointwise
  exact at3_of (m ((c.tc : Thread nD τ).loc main_arg1)) _ rfl
    (by show (i : ℕ) * 128 + r = 128 * i + r; omega) (by show (h : ℕ) * 64 + d = 64 * h + d; omega)

/-- The chunks of values, in the order of the sequence. -/
theorem entry_2 (i : Fin 16) (b h : Fin 8) (r : Fin 128) (x : Fin 128) :
    rd (entryContents preI m c (Proc.devRef .tc main_v102_2) : Vec Ideal S16x8x8x128x128 .f32) (ix5 i b h r x)
      = (gd m c).v b (128 * i + r) (128 * h + x) := by
  unfold rd
  simp only [entryContents, afterL_cons, afterL_nil]
  after_reads_simp
  simp only [TRef.toBuf, TRef.ofBuf, id_eq, cast_eq]
  pointwise
  exact at3_of (m ((c.tc : Thread nD τ).loc main_arg2)) _ rfl
    (by show (i : ℕ) * 128 + r = 128 * i + r; omega) (by show (h : ℕ) * 128 + x = 128 * h + x; omega)

/-- The chunks of queries, over the reversed sequence. -/
theorem entry_3 (i : Fin 16) (b h : Fin 8) (r : Fin 128) (d : Fin 64) :
    rd (entryContents preI m c (Proc.devRef .tc main_v102_3) : Vec Ideal S16x8x8x128x64 .f32) (ix5 i b h r d)
      = (gd m c).q b (2047 - (128 * i + r)) (64 * h + d) := by
  unfold rd
  simp only [entryContents, afterL_cons, afterL_nil]
  after_reads_simp
  simp only [TRef.toBuf, TRef.ofBuf, id_eq, cast_eq]
  pointwise
  exact at3_of (m ((c.tc : Thread nD τ).loc main_arg0)) _ rfl
    (by show 2048 - ((i : ℕ) * 128 + r + 1) = 2047 - (128 * i + r); omega) (by show (h : ℕ) * 64 + d = 64 * h + d; omega)

/-- The chunks of keys, over the reversed sequence. -/
theorem entry_4 (i : Fin 16) (b h : Fin 8) (r : Fin 128) (d : Fin 64) :
    rd (entryContents preI m c (Proc.devRef .tc main_v102_4) : Vec Ideal S16x8x8x128x64 .f32) (ix5 i b h r d)
      = (gd m c).k b (2047 - (128 * i + r)) (64 * h + d) := by
  unfold rd
  simp only [entryContents, afterL_cons, afterL_nil]
  after_reads_simp
  simp only [TRef.toBuf, TRef.ofBuf, id_eq, cast_eq]
  pointwise
  exact at3_of (m ((c.tc : Thread nD τ).loc main_arg1)) _ rfl
    (by show 2048 - ((i : ℕ) * 128 + r + 1) = 2047 - (128 * i + r); omega) (by show (h : ℕ) * 64 + d = 64 * h + d; omega)

/-- The chunks of values, over the reversed sequence. -/
theorem entry_5 (i : Fin 16) (b h : Fin 8) (r : Fin 128) (x : Fin 128) :
    rd (entryContents preI m c (Proc.devRef .tc main_v102_5) : Vec Ideal S16x8x8x128x128 .f32) (ix5 i b h r x)
      = (gd m c).v b (2047 - (128 * i + r)) (128 * h + x) := by
  unfold rd
  simp only [entryContents, afterL_cons, afterL_nil]
  after_reads_simp
  simp only [TRef.toBuf, TRef.ofBuf, id_eq, cast_eq]
  pointwise
  exact at3_of (m ((c.tc : Thread nD τ).loc main_arg2)) _ rfl
    (by show 2048 - ((i : ℕ) * 128 + r + 1) = 2047 - (128 * i + r); omega) (by show (h : ℕ) * 128 + x = 128 * h + x; omega)

/-- The forward decays between two positions of a chunk. -/
theorem entry_6 (h : Fin 8) (r s : Fin 128) :
    rd (entryContents preI m c (Proc.devRef .tc main_v102_6) : Vec Ideal S8x128x128 .f32) (ix3 h r s)
      = if (s : ℕ) ≤ r then Ideal.exp ((gd m c).lf h * num (r - s)) else 0 := by
  unfold rd
  simp only [entryContents, afterL_cons, afterL_nil]
  after_reads_simp
  simp only [TRef.toBuf, TRef.ofBuf, id_eq, cast_eq]
  pointwise
  rw [float_pos _ (by omega : (r : ℕ) < 2048), float_pos _ (by omega : (s : ℕ) < 2048)]
  by_cases hs : (s : ℕ) ≤ r
  · rw [if_pos hs, if_pos ((num_sub_nonneg _ _).mpr hs), max_num_sub (by omega)]
    exact congrArg (fun t => Ideal.exp (t * num (r - s))) ((ls _).trans (lf_at m c h))
  · rw [if_neg hs, if_neg (fun h' => hs ((num_sub_nonneg _ _).mp h'))]

/-- The forward decays of a chunk's queries. -/
theorem entry_7 (h : Fin 8) (r : Fin 128) :
    rd (entryContents preI m c (Proc.devRef .tc main_v102_7) : Vec Ideal S8x128 .f32) (ix2 h r)
      = Ideal.exp ((gd m c).lf h * num (r + 1)) := by
  unfold rd
  simp only [entryContents, afterL_cons, afterL_nil]
  after_reads_simp
  simp only [TRef.toBuf, TRef.ofBuf, id_eq, cast_eq]
  pointwise
  rw [float_pos _ (by omega : (r : ℕ) < 2048), ← num_add, show num 1 = (1 : EReal) by simp [num]]
  exact congrArg (fun t => Ideal.exp (t * (num r + 1))) ((ls _).trans (lf_at m c h))

/-- The forward decay of a state over a chunk. -/
theorem entry_8 (h : Fin 8) :
    rd (entryContents preI m c (Proc.devRef .tc main_v102_8) : Vec Ideal S8 .f32) (ix1 h)
      = Ideal.exp ((gd m c).lf h * num 128) := by
  unfold rd
  simp only [entryContents, afterL_cons, afterL_nil]
  after_reads_simp
  simp only [TRef.toBuf, TRef.ofBuf, id_eq, cast_eq]
  pointwise
  rw [float_128]
  exact congrArg (fun t => Ideal.exp (t * num 128)) ((ls _).trans (lf_at m c h))

/-- The forward decays of a chunk's keys. -/
theorem entry_9 (h : Fin 8) (r : Fin 128) :
    rd (entryContents preI m c (Proc.devRef .tc main_v102_9) : Vec Ideal S8x128 .f32) (ix2 h r)
      = Ideal.exp ((gd m c).lf h * num (127 - r)) := by
  unfold rd
  simp only [entryContents, afterL_cons, afterL_nil]
  after_reads_simp
  simp only [TRef.toBuf, TRef.ofBuf, id_eq, cast_eq]
  pointwise
  rw [float_127, float_pos _ (by omega : (r : ℕ) < 2048), num_sub (by omega)]
  exact congrArg (fun t => Ideal.exp (t * num (127 - r))) ((ls _).trans (lf_at m c h))

/-- The backward decays between two positions of a chunk. -/
theorem entry_10 (h : Fin 8) (r s : Fin 128) :
    rd (entryContents preI m c (Proc.devRef .tc main_v102_10) : Vec Ideal S8x128x128 .f32) (ix3 h r s)
      = if (s : ℕ) < r then Ideal.exp ((gd m c).lb h * num (r - s)) else 0 := by
  unfold rd
  simp only [entryContents, afterL_cons, afterL_nil]
  after_reads_simp
  simp only [TRef.toBuf, TRef.ofBuf, id_eq, cast_eq]
  pointwise
  rw [float_pos _ (by omega : (r : ℕ) < 2048), float_pos _ (by omega : (s : ℕ) < 2048)]
  by_cases hs : (s : ℕ) < r
  · rw [if_pos hs, if_pos ((num_sub_pos _ _).mpr hs), max_num_sub (by omega)]
    exact congrArg (fun t => Ideal.exp (t * num (r - s))) ((ls _).trans (lb_at m c h))
  · rw [if_neg hs, if_neg (fun h' => hs ((num_sub_pos _ _).mp h'))]

/-- The backward decays of a chunk's queries. -/
theorem entry_11 (h : Fin 8) (r : Fin 128) :
    rd (entryContents preI m c (Proc.devRef .tc main_v102_11) : Vec Ideal S8x128 .f32) (ix2 h r)
      = Ideal.exp ((gd m c).lb h * num (r + 1)) := by
  unfold rd
  simp only [entryContents, afterL_cons, afterL_nil]
  after_reads_simp
  simp only [TRef.toBuf, TRef.ofBuf, id_eq, cast_eq]
  pointwise
  rw [float_pos _ (by omega : (r : ℕ) < 2048), ← num_add, show num 1 = (1 : EReal) by simp [num]]
  exact congrArg (fun t => Ideal.exp (t * (num r + 1))) ((ls _).trans (lb_at m c h))

/-- The backward decay of a state over a chunk. -/
theorem entry_12 (h : Fin 8) :
    rd (entryContents preI m c (Proc.devRef .tc main_v102_12) : Vec Ideal S8 .f32) (ix1 h)
      = Ideal.exp ((gd m c).lb h * num 128) := by
  unfold rd
  simp only [entryContents, afterL_cons, afterL_nil]
  after_reads_simp
  simp only [TRef.toBuf, TRef.ofBuf, id_eq, cast_eq]
  pointwise
  rw [float_128]
  exact congrArg (fun t => Ideal.exp (t * num 128)) ((ls _).trans (lb_at m c h))

/-- The backward decays of a chunk's keys. -/
theorem entry_13 (h : Fin 8) (r : Fin 128) :
    rd (entryContents preI m c (Proc.devRef .tc main_v102_13) : Vec Ideal S8x128 .f32) (ix2 h r)
      = Ideal.exp ((gd m c).lb h * num (127 - r)) := by
  unfold rd
  simp only [entryContents, afterL_cons, afterL_nil]
  after_reads_simp
  simp only [TRef.toBuf, TRef.ofBuf, id_eq, cast_eq]
  pointwise
  rw [float_127, float_pos _ (by omega : (r : ℕ) < 2048), num_sub (by omega)]
  exact congrArg (fun t => Ideal.exp (t * num (127 - r))) ((ls _).trans (lb_at m c h))

/-- The forward states the sequence begins with. -/
theorem entry_15 (b h : Fin 8) (d : Fin 64) (x : Fin 128) :
    rd (entryContents preI m c (Proc.devRef .tc main_v102_15) : Vec Ideal S8x8x64x128 .f32) (ix4 b h d x)
      = (gd m c).st b (h / 2) (h % 2) d (x) := by
  unfold rd
  simp only [entryContents, afterL_cons, afterL_nil]
  after_reads_simp
  simp only [TRef.toBuf, TRef.ofBuf, id_eq, cast_eq]
  pointwise
  exact at5_of (m ((c.tc : Thread nD τ).loc main_arg3)) _ rfl rfl rfl rfl rfl

/-- The backward states the sequence begins with. -/
theorem entry_16 (b h : Fin 8) (d : Fin 64) (x : Fin 128) :
    rd (entryContents preI m c (Proc.devRef .tc main_v102_16) : Vec Ideal S8x8x64x128 .f32) (ix4 b h d x)
      = (gd m c).st b (h / 2) (h % 2) d (128 + x) := by
  unfold rd
  simp only [entryContents, afterL_cons, afterL_nil]
  after_reads_simp
  simp only [TRef.toBuf, TRef.ofBuf, id_eq, cast_eq]
  pointwise
  exact at5_of (m ((c.tc : Thread nD τ).loc main_arg3)) _ rfl rfl rfl rfl rfl

end Cert.ReferenceIdeal.Value

end
-- ==== Proof.RefValue.lean ====
module

public import proofs.«01_k».proof.Proof.RefEntry

/-! The reference's result, entry by entry: the loop's fold is the retention's two directions, and their sum is the
retention's output. -/

@[expose] public section

set_option maxRecDepth 16384

noncomputable section

namespace Cert.ReferenceIdeal.Value

open Idealize.ShloMosaic Idealize.ShloMosaic.TcCoe Idealize.SL.Sem Idealize.ShloMosaic.StableHlo
open Cert.ReferenceIdeal Cert.ReferenceIdeal.Gen Cert.Retention

/-- An array no trip writes is after any number of trips as it was. -/
theorem keep_of {r : DevRef τ sig} (h : ∀ V0 : Valuation τ sig (Elt Ideal), STEP V0 r = V0 r) (E : Valuation τ sig (Elt Ideal)) :
    ∀ k, (STEP^[k] E) r = E r
  | 0 => rfl
  | k + 1 => by rw [Function.iterate_succ_apply', h, keep_of h E k]

variable (m : (ℓ : Loc nD τ sig) → Buf (Elt Ideal) ℓ) (c : Dev nD)

/-- The carried arrays before trip `k`. -/
abbrev carried (k : ℕ) : Valuation τ sig (Elt Ideal) := STEP^[k] (entryContents preI m c)

/-- The counter before trip `k`. -/
theorem counter_at : ∀ k, carried m c k (Proc.devRef .tc main_v102_14) = fun _ => Scf.iv 0#32 1#32 k
  | 0 => (ctr_entry m c).trans (by rw [Scf.iv_zero])
  | k + 1 => by
    rw [carried, Function.iterate_succ_apply', STEP_main_v102_14]
    unfold step_main_v102_14
    have ih := counter_at k
    unfold carried at ih
    rw [ih, Scf.iv_succ]
    rfl

/-- The forward state before trip `k`. -/
theorem state_f (b h : Fin 8) (d : Fin 64) (x : Fin 128) : ∀ k, k ≤ 16 →
    rd (carried m c k (Proc.devRef .tc main_v102_15) : Vec Ideal S8x8x64x128 .f32) (ix4 b h d x)
      = dirState (fun t => (gd m c).k b t (64 * h + d)) (fun t => (gd m c).v b t (128 * h + x)) ((gd m c).lf h)
          ((gd m c).st b (h / 2) (h % 2) d x) k
  | 0, _ => entry_15 m c b h d x
  | k + 1, hk => by
    have ih := state_f b h d x k (by omega)
    rw [carried, Function.iterate_succ_apply', STEP_main_v102_15]
    refine (step15_apply _ k (by omega) (counter_at m c k) b h d x).trans ?_
    rw [ih]
    simp only [carried, keep_of STEP_main_v102_8, keep_of STEP_main_v102_1, keep_of STEP_main_v102_9, keep_of STEP_main_v102_2,
      entry_8 m c, entry_1 m c, entry_9 m c, entry_2 m c, dirState]

/-- The backward state before trip `k`. -/
theorem state_b (b h : Fin 8) (d : Fin 64) (x : Fin 128) : ∀ k, k ≤ 16 →
    rd (carried m c k (Proc.devRef .tc main_v102_16) : Vec Ideal S8x8x64x128 .f32) (ix4 b h d x)
      = dirState (fun t => (gd m c).k b (2047 - t) (64 * h + d)) (fun t => (gd m c).v b (2047 - t) (128 * h + x)) ((gd m c).lb h)
          ((gd m c).st b (h / 2) (h % 2) d (128 + x)) k
  | 0, _ => entry_16 m c b h d x
  | k + 1, hk => by
    have ih := state_b b h d x k (by omega)
    rw [carried, Function.iterate_succ_apply', STEP_main_v102_16]
    refine (step16_apply _ k (by omega) (counter_at m c k) b h d x).trans ?_
    rw [ih]
    simp only [carried, keep_of STEP_main_v102_12, keep_of STEP_main_v102_4, keep_of STEP_main_v102_13, keep_of STEP_main_v102_5,
      entry_12 m c, entry_4 m c, entry_13 m c, entry_5 m c, dirState]

/-- The forward results stacked before trip `k`. -/
theorem result_f (i : Fin 16) (b h : Fin 8) (r x : Fin 128) : ∀ k, (i : ℕ) < k → k ≤ 16 →
    rd (carried m c k (Proc.devRef .tc main_v102_17) : Vec Ideal S16x8x8x128x128 .f32) (ix5 i b h r x) = (gd m c).outF b h i r x
  | 0, hi, _ => absurd hi (Nat.not_lt_zero _)
  | k + 1, hi, hk => by
    rw [carried, Function.iterate_succ_apply', STEP_main_v102_17]
    refine (step17_apply _ k (by omega) (counter_at m c k) i b h r x).trans ?_
    by_cases e : (i : ℕ) = k
    · rw [if_pos e]
      simp only [state_f m c _ _ _ _ k (by omega)]
      simp only [carried, keep_of STEP_main_v102_0, keep_of STEP_main_v102_1, keep_of STEP_main_v102_2, keep_of STEP_main_v102_6,
        keep_of STEP_main_v102_7, entry_0 m c, entry_1 m c, entry_2 m c, entry_6 m c, entry_7 m c, e, Data.outF, Data.score]
    · rw [if_neg e]
      exact result_f i b h r x k (by omega) (by omega)

/-- The backward results stacked before trip `k`. -/
theorem result_b (i : Fin 16) (b h : Fin 8) (r x : Fin 128) : ∀ k, (i : ℕ) < k → k ≤ 16 →
    rd (carried m c k (Proc.devRef .tc main_v102_18) : Vec Ideal S16x8x8x128x128 .f32) (ix5 i b h r x) = (gd m c).outB b h i r x
  | 0, hi, _ => absurd hi (Nat.not_lt_zero _)
  | k + 1, hi, hk => by
    rw [carried, Function.iterate_succ_apply', STEP_main_v102_18]
    refine (step18_apply _ k (by omega) (counter_at m c k) i b h r x).trans ?_
    by_cases e : (i : ℕ) = k
    · rw [if_pos e]
      simp only [state_b m c _ _ _ _ k (by omega)]
      simp only [carried, keep_of STEP_main_v102_3, keep_of STEP_main_v102_4, keep_of STEP_main_v102_5, keep_of STEP_main_v102_10,
        keep_of STEP_main_v102_11, entry_3 m c, entry_4 m c, entry_5 m c, entry_10 m c, entry_11 m c, e, Data.outB]
    · rw [if_neg e]
      exact result_b i b h r x k (by omega) (by omega)

/-- The reference's result, entry by entry, from its two stacks. -/
theorem out_apply (V0 : Valuation τ sig (Elt Ideal)) (b : Fin 8) (t : Fin 2048) (y : Fin 1024) :
    (out_main_v110 V0 : Vec Ideal S8x2048x1024 .bf16) (ix3 b t y)
      = rd (V0 (Proc.devRef .tc main_v102_17) : Vec Ideal S16x8x8x128x128 .f32)
          (ix5 (⟨t / 128, by omega⟩ : Fin 16) b (⟨y / 128, by omega⟩ : Fin 8) (⟨t % 128, by omega⟩ : Fin 128) (⟨y % 128, by omega⟩ : Fin 128))
        + rd (V0 (Proc.devRef .tc main_v102_18) : Vec Ideal S16x8x8x128x128 .f32)
          (ix5 (⟨15 - t / 128, by omega⟩ : Fin 16) b (⟨y / 128, by omega⟩ : Fin 8) (⟨127 - t % 128, by omega⟩ : Fin 128) (⟨y % 128, by omega⟩ : Fin 128)) := by
  unfold rd out_main_v110
  pointwise
  have e : ∀ (i i' : Fin 16) (r r' : Fin 128) (h : Fin 8) (x : Fin 128), i = i' → r = r' →
      (V0 (Proc.devRef .tc main_v102_18) : Vec Ideal S16x8x8x128x128 .f32) (ix5 i b h r x)
        = (V0 (Proc.devRef .tc main_v102_18) : Vec Ideal S16x8x8x128x128 .f32) (ix5 i' b h r' x) := by
    intro i i' r r' h x hi hr; rw [hi, hr]
  exact congrArg₂ (· + ·) rfl (e _ _ _ _ _ _
    (Fin.ext (by show (2048 - ((t : ℕ) + 1)) / 128 = 15 - t / 128; omega))
    (Fin.ext (by show (2048 - ((t : ℕ) + 1)) % 128 = 127 - t % 128; omega)))

/-- The retention's output as the reference's result. -/
theorem final_o : (out_main_v110 (carried m c 16) : Vec Ideal S8x2048x1024 .bf16)
    = fun y => (gd m c).out (y 0 : ℕ) ((y 2 : ℕ) / 128) ((y 1 : ℕ) / 128) ((y 1 : ℕ) % 128) ((y 2 : ℕ) % 128) := by
  funext y
  obtain ⟨b, t, x, rfl⟩ : ∃ (b : Fin 8) (t : Fin 2048) (x : Fin 1024), y = ix3 b t x := ⟨y 0, y 1, y 2, by
    funext n
    match n with
    | 0 => rfl
    | 1 => rfl
    | 2 => rfl⟩
  rw [out_apply]
  rw [result_f m c _ _ _ _ _ 16 (Fin.isLt _) le_rfl, result_b m c _ _ _ _ _ 16 (Fin.isLt _) le_rfl]
  exact (gd m c).out_eq (b : ℕ) ((x : ℕ) / 128) (by omega) (by omega) ((x : ℕ) % 128)

end Cert.ReferenceIdeal.Value

end
-- ==== Proof.TailMath.lean ====
/-
  The layer's tail at one token over the extended reals, with no program in it: the merge of the two branches with its
  residual, the modulated normalisation, the gated feed-forward with its residual, and the final normalisation.
-/
module

public import Idealize.ShloMosaic.Lib.Pointwise

@[expose] public section

noncomputable section

open Idealize.ShloMosaic
open scoped BigOperators

namespace Cert.Tail

/-- The number a float's bits stand for. -/
abbrev lit (b : BitVec 32) : EReal := Ideal.ofBits FTy.f32 b

/-- What the tail of one token reads: the token's own entries, its sequence's modulation, the gains and the weights. -/
@[ext] structure Row where
  yp : Fin 512 → EReal
  yr : Fin 1024 → EReal
  sg : Fin 1024 → EReal
  ga : Fin 1024 → EReal
  gb : Fin 1024 → EReal
  x : Fin 1024 → EReal
  gm : Fin 1024 → EReal
  sh : Fin 1024 → EReal
  sc : Fin 1024 → EReal
  gf : Fin 1024 → EReal
  gain : Fin 1024 → EReal
  gfin : Fin 1024 → EReal
  pa : Fin 512 → Fin 1024 → EReal
  rb : Fin 1024 → Fin 1024 → EReal
  o : Fin 1024 → Fin 1024 → EReal
  w1 : Fin 1024 → Fin 2816 → EReal
  w3 : Fin 1024 → Fin 2816 → EReal
  w2 : Fin 2816 → Fin 1024 → EReal

/-- The column of a head's lane. -/
def col (h : Fin 8) (w : Fin 128) : Fin 1024 := ⟨h * 128 + w, by omega⟩

/-- The column's head. -/
def headOf (y : Fin 1024) : Fin 8 := ⟨y / 128, by omega⟩

/-- The reciprocal root mean square of a token's entries. -/
def rms (v : Fin 1024 → EReal) : EReal :=
  Ideal.rsqrt (Ideal.div (∑ k, v k * v k) (lit 0x44800000#32) + lit 0x358637BD#32)

/-- The logistic function. -/
def sigmoid (t : EReal) : EReal := Ideal.div 1 (1 + Ideal.exp (-t))

namespace Row

variable (r : Row)

/-- A head's mean. -/
def mean (h : Fin 8) : EReal := Ideal.div (∑ w, r.yr (col h w)) (lit 0x43000000#32)

/-- A head's lane less the head's mean. -/
def cen (h : Fin 8) (w : Fin 128) : EReal := r.yr (col h w) - r.mean h

/-- A head's reciprocal standard deviation. -/
def rdev (h : Fin 8) : EReal :=
  Ideal.rsqrt (Ideal.div (∑ w, r.cen h w * r.cen h w) (lit 0x43000000#32) + lit 0x358637BD#32)

/-- The retention's result normalised within each head, times its gate. -/
def gated (y : Fin 1024) : EReal := (r.yr y - r.mean (headOf y)) * r.rdev (headOf y) * r.sg y

/-- The two branches' gated sum. -/
def merged (y : Fin 1024) : EReal :=
  r.ga y * (∑ k, r.yp k * r.pa k y) + r.gb y * (∑ k, r.gated k * r.rb k y)

/-- The token after the mixers' residual. -/
def x1 (y : Fin 1024) : EReal := r.x y + r.gm y * ∑ k, r.merged k * r.o k y

/-- The feed-forward's input. -/
def hid (y : Fin 1024) : EReal := r.x1 y * rms r.x1 * r.gain y * (1 + r.sc y) + r.sh y

/-- The feed-forward's first product. -/
def up (j : Fin 2816) : EReal := ∑ k, r.hid k * r.w1 k j

/-- The feed-forward's activation. -/
def act (j : Fin 2816) : EReal := r.up j * sigmoid (r.up j) * ∑ k, r.hid k * r.w3 k j

/-- The token after the feed-forward's residual. -/
def x2 (y : Fin 1024) : EReal := r.x1 y + r.gf y * ∑ j, r.act j * r.w2 j y

/-- The token's final normalisation. -/
def out (y : Fin 1024) : EReal := r.x2 y * rms r.x2 * r.gfin y

end Row

/-- One half. -/
theorem lit_half : lit 0x3F000000#32 = ((1 / 2 : ℝ) : EReal) := by
  simp [Ideal.ofBits, Ideal.ieee]
  rw [← EReal.coe_mul]
  norm_num

/-- The logistic function of a number through the hyperbolic tangent. -/
theorem real_sigmoid (x : ℝ) : 1 / 2 * Real.tanh (1 / 2 * x) + 1 / 2 = 1 / (1 + Real.exp (-x)) := by
  have h1 : Real.exp x = Real.exp (1 / 2 * x) * Real.exp (1 / 2 * x) := by rw [← Real.exp_add]; congr 1; ring
  have h0 := Real.exp_pos (1 / 2 * x)
  rw [Real.tanh_eq, Real.exp_neg, Real.exp_neg, h1]
  field_simp
  ring

/-- The logistic function through the hyperbolic tangent. -/
theorem sigmoid_eq (t : EReal) :
    lit 0x3F000000#32 * Ideal.tanh (lit 0x3F000000#32 * t) + lit 0x3F000000#32 = sigmoid t := by
  rw [lit_half, sigmoid]
  induction t using EReal.rec with
  | bot =>
    rw [EReal.coe_mul_bot_of_pos (by norm_num), Ideal.tanh_bot, EReal.neg_bot, Ideal.exp_top]
    have : ((1 / 2 : ℝ) : EReal) * -1 + ((1 / 2 : ℝ) : EReal) = 0 := by
      rw [mul_neg, mul_one, ← EReal.coe_neg, ← EReal.coe_add]; norm_num
    rw [this, show (1 : EReal) + ⊤ = ⊤ from EReal.coe_add_top 1]
    simp [Ideal.div]
  | coe x =>
    rw [← EReal.coe_mul, Ideal.tanh_coe, ← EReal.coe_mul, ← EReal.coe_add, real_sigmoid, ← EReal.coe_neg, Ideal.exp_coe]
    have h0 : (1 + Real.exp (-x)) ≠ 0 := by positivity
    have h1 : (1 : EReal) + ((Real.exp (-x) : ℝ) : EReal) = ((1 + Real.exp (-x) : ℝ) : EReal) := by
      rw [EReal.coe_add, EReal.coe_one]
    rw [h1, Ideal.div_coe h0, one_mul]
  | top =>
    rw [EReal.coe_mul_top_of_pos (by norm_num), Ideal.tanh_top, EReal.neg_top, Ideal.exp_bot, add_zero, mul_one, ← EReal.coe_add]
    have h1 : (1 : EReal) = ((1 : ℝ) : EReal) := EReal.coe_one.symm
    rw [h1, Ideal.div_coe one_ne_zero]
    norm_num

end Cert.Tail
-- ==== Proof.TailPay.lean ====
module

public import proofs.«01_k».proof.Proof.TailMath
public import proofs.«01_k».proof.Proof.Gen.Kernel2Ideal.Skeleton

/-! What the tail's kernel computes for one token, from the blocks and the weights it reads. -/

@[expose] public section

set_option maxRecDepth 16384

noncomputable section

namespace Cert.Kernel2Ideal.Tail

open Idealize.ShloMosaic Idealize.ShloMosaic.TcCoe Idealize.SL.Sem
open Cert.Kernel2Ideal Cert.Kernel2Ideal.Gen Cert.Tail

/-- The normalised and gated heads side by side. -/
def cat (h : Fin 8 → FVec Ideal S512x128 .bf16) : FVec Ideal S512x1024 .bf16 :=
  concatenate S512x1024 1 [⟨S512x128, h 0⟩, ⟨S512x128, h 1⟩, ⟨S512x128, h 2⟩, ⟨S512x128, h 3⟩, ⟨S512x128, h 4⟩, ⟨S512x128, h 5⟩,
    ⟨S512x128, h 6⟩, ⟨S512x128, h 7⟩] concatenates_S512x128_S512x128_S512x128_S512x128_S512x128_S512x128_S512x128_S512x128_S512x1024_d1

/-- The retention's branch: the heads' projection. -/
def branch (a : FVec Ideal S512x1024 .bf16) (w : Vec Ideal S1024x1024 .bf16) : FVec Ideal S512x1024 .f32 :=
  matmul (φ₁ := .bf16) (φ₂ := .bf16) dot_S512x1024_S1024x1024_S512x1024_1_0_0_1_n_n none a w (constant S512x1024 .f32 0x00000000#32)

variable (ρ : Row)

/-- A head of a token. -/
theorem head_apply (yr sg : Vec Ideal S1x512x128 .bf16) (r : Fin 512) (h : Fin 8) (w : Fin 128)
    (hy : ∀ w, yr (ix3 (0 : Fin 1) r w) = ρ.yr (col h w)) (hs : ∀ w, sg (ix3 (0 : Fin 1) r w) = ρ.sg (col h w)) :
    (k0_pay53 yr sg : Vec Ideal S512x128 .bf16) (ix2 r w) = ρ.gated (col h w) := by
  pointwise [k0_pay53]
  simp only [hy, hs]
  have : headOf (col h w) = h := Fin.ext (by show (h * 128 + w : ℕ) / 128 = h; omega)
  rw [Row.gated, this]
  rfl

/-- The heads side by side. -/
theorem cat_apply (h : Fin 8 → FVec Ideal S512x128 .bf16) (r : Fin 512) (k : Fin 1024)
    (hh : ∀ n w, h n (ix2 r w) = ρ.gated (col n w)) : cat h (ix2 r k) = ρ.gated k := by
  refine (concatenate_ofFn_apply (s₁ := S512x128) (t := S512x1024) (1 : Fin 2) h
    concatenates_S512x128_S512x128_S512x128_S512x128_S512x128_S512x128_S512x128_S512x128_S512x1024_d1 rfl 128 rfl (ix2 r k) (headOf k) rfl
    (ix2 r (⟨k % 128, Nat.mod_lt _ (by decide)⟩ : Fin 128)) rfl ?_).trans ?_
  · intro b hb
    match b with
    | 0 => rfl
    | 1 => exact absurd rfl hb
  · rw [hh]
    exact congrArg ρ.gated (Fin.ext (by show (k / 128 * 128 + k % 128 : ℕ) = k; omega))

/-- A token after the mixers' residual, in the upper half of a tile. -/
theorem x1lo_apply (yp : Vec Ideal S1x512x512 .bf16) (pa : Vec Ideal S512x1024 .bf16) (a : FVec Ideal S512x1024 .bf16)
    (rb o : Vec Ideal S1024x1024 .bf16) (ga gb : Vec Ideal S1x512x1024 .bf16) (x : Vec Ideal S1x256x1024 .f32) (gm : Vec Ideal S1x1x1024 .f32)
    (r : Fin 256) (y : Fin 1024)
    (hyp : ∀ k, yp (ix3 (0 : Fin 1) (⟨r, by omega⟩ : Fin 512) k) = ρ.yp k) (ha : ∀ k, a (ix2 (⟨r, by omega⟩ : Fin 512) k) = ρ.gated k)
    (hga : ∀ k, ga (ix3 (0 : Fin 1) (⟨r, by omega⟩ : Fin 512) k) = ρ.ga k) (hgb : ∀ k, gb (ix3 (0 : Fin 1) (⟨r, by omega⟩ : Fin 512) k) = ρ.gb k)
    (hx : ∀ k, x (ix3 (0 : Fin 1) r k) = ρ.x k) (hgm : ∀ k, gm (ix3 (0 : Fin 1) (0 : Fin 1) k) = ρ.gm k)
    (hpa : ∀ k y, pa (ix2 k y) = ρ.pa k y) (hrb : ∀ k y, rb (ix2 k y) = ρ.rb k y) (ho : ∀ k y, o (ix2 k y) = ρ.o k y) :
    (k0_pay69 (branch a rb) (k0_pay66 (k0_pay52 yp pa) ga) (k0_pay67 gb) x gm o : Vec Ideal S256x1024 .f32) (ix2 r y) = ρ.x1 y := by
  pointwise [k0_pay69, k0_pay68, k0_pay67, k0_pay66, k0_pay52, branch]
  simp only [hyp, ha, hga, hgb, hx, hgm, hpa, hrb, ho]
  rfl

/-- A token after the mixers' residual, in the lower half of a tile. -/
theorem x1hi_apply (yp : Vec Ideal S1x512x512 .bf16) (pa : Vec Ideal S512x1024 .bf16) (a : FVec Ideal S512x1024 .bf16)
    (rb o : Vec Ideal S1024x1024 .bf16) (ga gb : Vec Ideal S1x512x1024 .bf16) (x : Vec Ideal S1x256x1024 .f32) (gm : Vec Ideal S1x1x1024 .f32)
    (r : Fin 256) (y : Fin 1024)
    (hyp : ∀ k, yp (ix3 (0 : Fin 1) (⟨256 + r, by omega⟩ : Fin 512) k) = ρ.yp k) (ha : ∀ k, a (ix2 (⟨256 + r, by omega⟩ : Fin 512) k) = ρ.gated k)
    (hga : ∀ k, ga (ix3 (0 : Fin 1) (⟨256 + r, by omega⟩ : Fin 512) k) = ρ.ga k) (hgb : ∀ k, gb (ix3 (0 : Fin 1) (⟨256 + r, by omega⟩ : Fin 512) k) = ρ.gb k)
    (hx : ∀ k, x (ix3 (0 : Fin 1) r k) = ρ.x k) (hgm : ∀ k, gm (ix3 (0 : Fin 1) (0 : Fin 1) k) = ρ.gm k)
    (hpa : ∀ k y, pa (ix2 k y) = ρ.pa k y) (hrb : ∀ k y, rb (ix2 k y) = ρ.rb k y) (ho : ∀ k y, o (ix2 k y) = ρ.o k y) :
    (k0_pay70 (branch a rb) (k0_pay66 (k0_pay52 yp pa) ga) (k0_pay67 gb) x gm o : Vec Ideal S256x1024 .f32) (ix2 r y) = ρ.x1 y := by
  pointwise [k0_pay70, k0_pay68, k0_pay67, k0_pay66, k0_pay52, branch]
  simp only [hyp, ha, hga, hgb, hx, hgm, hpa, hrb, ho]
  rfl

section
variable {v : Vec Ideal S256x1024 .f32} {gain gfin : Vec Ideal S1x1024 .f32} {sh sc gf : Vec Ideal S1x1x1024 .f32} {r : Fin 256}
  (hv : ∀ y, v (ix2 r y) = ρ.x1 y) (hgain : ∀ k, gain (ix2 (0 : Fin 1) k) = ρ.gain k)
  (hsh : ∀ k, sh (ix3 (0 : Fin 1) (0 : Fin 1) k) = ρ.sh k) (hsc : ∀ k, sc (ix3 (0 : Fin 1) (0 : Fin 1) k) = ρ.sc k)
include hv hgain hsh hsc

/-- The feed-forward's input of a token. -/
theorem hid_apply (y : Fin 1024) : (k0_pay71 v gain sh sc : Vec Ideal S256x1024 .bf16) (ix2 r y) = ρ.hid y := by
  pointwise [k0_pay71]
  simp only [hv, hgain, hsh, hsc]
  rfl

/-- The feed-forward's input of a token, as it is stored. -/
theorem hidS_apply (y : Fin 1024) : (k0_pay72 v gain sh sc : Vec Ideal S256x1024 .bf16) (ix2 r y) = ρ.hid y := by
  pointwise [k0_pay72]
  exact hid_apply ρ hv hgain hsh hsc y

/-- The feed-forward's activation of a token in the first column tile. -/
theorem act0_apply (w1 w3 : Vec Ideal S1024x256 .bf16) (j : Fin 256) (J : Fin 2816) (h1 : ∀ k, w1 (ix2 k j) = ρ.w1 k J)
    (h3 : ∀ k, w3 (ix2 k j) = ρ.w3 k J) :
    (k0_pay75 (k0_pay73 v gain sh sc w3) (k0_pay74 v gain sh sc w1) : Vec Ideal S256x256 .bf16) (ix2 r j) = ρ.act J := by
  have e := hid_apply ρ hv hgain hsh hsc
  generalize hw : (k0_pay71 v gain sh sc : Vec Ideal S256x1024 .bf16) = u at e
  pointwise [k0_pay75, k0_pay74, k0_pay73]
  simp only [hw, e, h1, h3]
  show ρ.up J * (lit 0x3F000000#32 * Ideal.tanh (lit 0x3F000000#32 * ρ.up J) + lit 0x3F000000#32) * _ = _
  rw [sigmoid_eq]
  rfl
end

/-- The feed-forward's activation of a token in another column tile. -/
theorem act_apply (h : Vec Ideal S512x1024 .bf16) (w1 w3 : Vec Ideal S1024x256 .bf16) (r : Fin 512) (j : Fin 256) (J : Fin 2816)
    (hh : ∀ k, h (ix2 r k) = ρ.hid k) (h1 : ∀ k, w1 (ix2 k j) = ρ.w1 k J) (h3 : ∀ k, w3 (ix2 k j) = ρ.w3 k J) :
    (k0_pay80 h w1 w3 : Vec Ideal S512x256 .bf16) (ix2 r j) = ρ.act J := by
  pointwise [k0_pay80]
  simp only [hh, h1, h3]
  show ρ.up J * (lit 0x3F000000#32 * Ideal.tanh (lit 0x3F000000#32 * ρ.up J) + lit 0x3F000000#32) * _ = _
  rw [sigmoid_eq]
  rfl

/-- The result of a token. -/
theorem out_apply (a : Vec Ideal S256x2816 .bf16) (w2 : Vec Ideal S2816x1024 .bf16) (v : Vec Ideal S256x1024 .f32)
    (gf : Vec Ideal S1x1x1024 .f32) (gfin : Vec Ideal S1x1024 .f32) (r : Fin 256) (y : Fin 1024) (ha : ∀ j, a (ix2 r j) = ρ.act j)
    (hw : ∀ j y, w2 (ix2 j y) = ρ.w2 j y) (hv : ∀ y, v (ix2 r y) = ρ.x1 y) (hgf : ∀ k, gf (ix3 (0 : Fin 1) (0 : Fin 1) k) = ρ.gf k)
    (hgfin : ∀ k, gfin (ix2 (0 : Fin 1) k) = ρ.gfin k) :
    (k0_pay2 (k0_pay100 a w2) v gf gfin : Vec Ideal S1x256x1024 .f32) (ix3 (0 : Fin 1) r y) = ρ.out y := by
  pointwise [k0_pay2, k0_pay100]
  simp only [ha, hw, hv, hgf, hgfin]
  rfl

end Cert.Kernel2Ideal.Tail
-- ==== Proof.TailTile.lean ====
module

public import proofs.«01_k».proof.Proof.TailPay

/-! One grid point of the layer's tail: the stores into its three work buffers and into its block of results, as they
follow from what the point loads, and what they hold when the loads hold the rows of 512 tokens. -/

@[expose] public section

set_option maxRecDepth 16384

noncomputable section

namespace Cert.Kernel2Ideal.Tail

open Idealize.ShloMosaic Idealize.ShloMosaic.TcCoe Idealize.SL.Sem
open Cert.Kernel2Ideal Cert.Kernel2Ideal.Gen Cert.Tail

/-- What a grid point loads: its block of each argument and the weights, the two wide ones in their column tiles. -/
structure Leaves where
  yp : Vec Ideal S1x512x512 .bf16
  yr : Fin 8 → Vec Ideal S1x512x128 .bf16
  sg : Fin 8 → Vec Ideal S1x512x128 .bf16
  ga : Vec Ideal S1x512x1024 .bf16
  gb : Vec Ideal S1x512x1024 .bf16
  xlo : Vec Ideal S1x256x1024 .f32
  xhi : Vec Ideal S1x256x1024 .f32
  gm : Vec Ideal S1x1x1024 .f32
  sh : Vec Ideal S1x1x1024 .f32
  sc : Vec Ideal S1x1x1024 .f32
  gf : Vec Ideal S1x1x1024 .f32
  gain : Vec Ideal S1x1024 .f32
  gfin : Vec Ideal S1x1024 .f32
  pa : Vec Ideal S512x1024 .bf16
  rb : Vec Ideal S1024x1024 .bf16
  o : Vec Ideal S1024x1024 .bf16
  w1 : Fin 11 → Vec Ideal S1024x256 .bf16
  w3 : Fin 11 → Vec Ideal S1024x256 .bf16
  w2 : Vec Ideal S2816x1024 .bf16

/-- A column of a tile of 256 of the feed-forward's columns. -/
def tile (n : Fin 11) (w : Fin 256) : Fin 2816 := ⟨256 * n + w, by omega⟩

/-- A row of the first half of a tile of 512. -/
def lo (r : Fin 256) : Fin 512 := ⟨r, by omega⟩

/-- A row of the second half of a tile of 512. -/
def hi (r : Fin 256) : Fin 512 := ⟨256 + r, by omega⟩

/-- The loads hold the rows of the tokens `R`. -/
structure IsRow (L : Leaves) (R : Fin 512 → Row) : Prop where
  yp : ∀ r k, L.yp (ix3 (0 : Fin 1) r k) = (R r).yp k
  yr : ∀ n r w, L.yr n (ix3 (0 : Fin 1) r w) = (R r).yr (col n w)
  sg : ∀ n r w, L.sg n (ix3 (0 : Fin 1) r w) = (R r).sg (col n w)
  ga : ∀ r k, L.ga (ix3 (0 : Fin 1) r k) = (R r).ga k
  gb : ∀ r k, L.gb (ix3 (0 : Fin 1) r k) = (R r).gb k
  xlo : ∀ r k, L.xlo (ix3 (0 : Fin 1) r k) = (R (lo r)).x k
  xhi : ∀ r k, L.xhi (ix3 (0 : Fin 1) r k) = (R (hi r)).x k
  gm : ∀ r k, L.gm (ix3 (0 : Fin 1) (0 : Fin 1) k) = (R r).gm k
  sh : ∀ r k, L.sh (ix3 (0 : Fin 1) (0 : Fin 1) k) = (R r).sh k
  sc : ∀ r k, L.sc (ix3 (0 : Fin 1) (0 : Fin 1) k) = (R r).sc k
  gf : ∀ r k, L.gf (ix3 (0 : Fin 1) (0 : Fin 1) k) = (R r).gf k
  gain : ∀ r k, L.gain (ix2 (0 : Fin 1) k) = (R r).gain k
  gfin : ∀ r k, L.gfin (ix2 (0 : Fin 1) k) = (R r).gfin k
  pa : ∀ r k y, L.pa (ix2 k y) = (R r).pa k y
  rb : ∀ r k y, L.rb (ix2 k y) = (R r).rb k y
  o : ∀ r k y, L.o (ix2 k y) = (R r).o k y
  w1 : ∀ r n k w, L.w1 n (ix2 k w) = (R r).w1 k (tile n w)
  w3 : ∀ r n k w, L.w3 n (ix2 k w) = (R r).w3 k (tile n w)
  w2 : ∀ r k y, L.w2 (ix2 k y) = (R r).w2 k y

variable (arg21 : Memref sig .tc .vmem S512x2816 .bf16) (arg22 : Memref sig .tc .vmem S512x1024 .f32)
  (arg23 : Memref sig .tc .vmem S512x1024 .bf16) (L : Leaves)

/-- The gated heads side by side. -/
def heads : FVec Ideal S512x1024 .bf16 := cat fun n => k0_pay53 (L.yr n) (L.sg n)

/-- The stores of the residual stream after the mixer. -/
def x1List : List (View.Piece (Elt Ideal) S512x1024 .f32) :=
  [⟨Rect.unit ![256, 0] S256x1024.size inb_S512x1024_S256x1024_256_0,
      k0_pay70 (branch (heads L) L.rb) (k0_pay66 (k0_pay52 L.yp L.pa) L.ga) (k0_pay67 L.gb) L.xhi L.gm L.o⟩,
    ⟨Rect.unit ![0, 0] S256x1024.size inb_S512x1024_S256x1024_0_0,
      k0_pay69 (branch (heads L) L.rb) (k0_pay66 (k0_pay52 L.yp L.pa) L.ga) (k0_pay67 L.gb) L.xlo L.gm L.o⟩]

/-- The first half of the residual stream, read back. -/
def x1lo : Vec Ideal S256x1024 .f32 :=
  arg22.view.readCov (x1List L) (Rect.unit (s := S512x1024) ![0, 0] S256x1024.size inb_S512x1024_S256x1024_0_0).toLoadRect

/-- The second half of the residual stream, read back. -/
def x1hi : Vec Ideal S256x1024 .f32 :=
  arg22.view.readCov (x1List L) (Rect.unit (s := S512x1024) ![256, 0] S256x1024.size inb_S512x1024_S256x1024_256_0).toLoadRect

/-- The stores of the feed-forward's input. -/
def hidList : List (View.Piece (Elt Ideal) S512x1024 .bf16) :=
  [⟨Rect.unit ![256, 0] S256x1024.size inb_S512x1024_S256x1024_256_0, k0_pay72 (x1hi arg22 L) L.gain L.sh L.sc⟩,
    ⟨Rect.unit ![0, 0] S256x1024.size inb_S512x1024_S256x1024_0_0, k0_pay72 (x1lo arg22 L) L.gain L.sh L.sc⟩]

/-- The feed-forward's input, read back. -/
def hid : Vec Ideal S512x1024 .bf16 :=
  arg23.view.readCov (hidList arg22 L) (Rect.unit (s := S512x1024) ![0, 0] S512x1024.size inb_S512x1024_S512x1024_0_0).toLoadRect

/-- The store of one column tile of the feed-forward's activations. -/
def actPiece (n : Fin 11) : View.Piece (Elt Ideal) S512x2816 .bf16 :=
  ⟨Rect.unit (s := S512x2816) ![0, 256 * (n : ℕ)] S512x256.size (by intro a; fin_cases a <;> simp <;> omega),
    k0_pay80 (hid arg22 arg23 L) (L.w1 n) (L.w3 n)⟩

/-- The store of one half of the first column tile of the activations. -/
def actHi : View.Piece (Elt Ideal) S512x2816 .bf16 :=
  ⟨Rect.unit ![256, 0] S256x256.size inb_S512x2816_S256x256_256_0,
    k0_pay75 (k0_pay73 (x1hi arg22 L) L.gain L.sh L.sc (L.w3 0)) (k0_pay74 (x1hi arg22 L) L.gain L.sh L.sc (L.w1 0))⟩

/-- The store of the other half of the first column tile. -/
def actLo : View.Piece (Elt Ideal) S512x2816 .bf16 :=
  ⟨Rect.unit ![0, 0] S256x256.size inb_S512x2816_S256x256_0_0,
    k0_pay75 (k0_pay73 (x1lo arg22 L) L.gain L.sh L.sc (L.w3 0)) (k0_pay74 (x1lo arg22 L) L.gain L.sh L.sc (L.w1 0))⟩

/-- The stores of the activations. -/
def actList : List (View.Piece (Elt Ideal) S512x2816 .bf16) :=
  (List.finRange 10).reverse.map (fun n => actPiece arg22 arg23 L n.succ) ++ [actHi arg22 L, actLo arg22 L]

/-- The first half of the activations, read back. -/
def actlo : Vec Ideal S256x2816 .bf16 :=
  arg21.view.readCov (actList arg22 arg23 L) (Rect.unit (s := S512x2816) ![0, 0] S256x2816.size inb_S512x2816_S256x2816_0_0).toLoadRect

/-- The second half of the activations, read back. -/
def acthi : Vec Ideal S256x2816 .bf16 :=
  arg21.view.readCov (actList arg22 arg23 L) (Rect.unit (s := S512x2816) ![256, 0] S256x2816.size inb_S512x2816_S256x2816_256_0).toLoadRect

/-- The stores of the results. -/
def outList : List (View.Piece (Elt Ideal) S1x512x1024 .f32) :=
  [⟨Rect.unit ![0, 256, 0] S1x256x1024.size inb_S1x512x1024_S1x256x1024_0_256_0,
      k0_pay2 (k0_pay100 (acthi arg21 arg22 arg23 L) L.w2) (x1hi arg22 L) L.gf L.gfin⟩,
    ⟨Rect.unit ![0, 0, 0] S1x256x1024.size inb_S1x512x1024_S1x256x1024_0_0_0,
      k0_pay2 (k0_pay100 (actlo arg21 arg22 arg23 L) L.w2) (x1lo arg22 L) L.gf L.gfin⟩]

/-- A matrix read at an index whose coordinates are known. -/
theorem at_eq {α : Type} {a b : ℕ} (f : Fin a → Fin b → α) (p : (⟨2, ![a, b]⟩ : Shape).Idx) (r : Fin a) (w : Fin b)
    (h0 : (p 0 : ℕ) = r) (h1 : (p 1 : ℕ) = w) : f (p 0) (p 1) = f r w :=
  congrArg₂ f (Fin.ext h0) (Fin.ext h1)

/-- An index of a matrix. -/
theorem ix2_eta {a b : ℕ} (x : (⟨2, ![a, b]⟩ : Shape).Idx) : x = ix2 (x 0 : Fin a) (x 1 : Fin b) := by
  funext n
  match n with
  | ⟨0, _⟩ => rfl
  | ⟨1, _⟩ => rfl

/-- An index of a rank-3 shape whose first size is one. -/
theorem ix3_eta {a b : ℕ} (x : (⟨3, ![1, a, b]⟩ : Shape).Idx) : x = ix3 (0 : Fin 1) (x 1 : Fin a) (x 2 : Fin b) := by
  funext n
  match n with
  | ⟨0, _⟩ => exact Subsingleton.elim (α := Fin 1) _ _
  | ⟨1, _⟩ => rfl
  | ⟨2, _⟩ => rfl

variable {L} {R : Fin 512 → Row} (H : IsRow L R)
include H

/-- The gated heads. -/
theorem heads_apply (r : Fin 512) (k : Fin 1024) : heads L (ix2 r k) = (R r).gated k :=
  cat_apply (R r) _ r k fun n w => head_apply (R r) (L.yr n) (L.sg n) r n w (H.yr n r) (H.sg n r)

/-- The first half's stores of the residual stream. -/
theorem x1lo_store (r : Fin 256) (y : Fin 1024) :
    (k0_pay69 (branch (heads L) L.rb) (k0_pay66 (k0_pay52 L.yp L.pa) L.ga) (k0_pay67 L.gb) L.xlo L.gm L.o : Vec Ideal S256x1024 .f32) (ix2 r y)
      = (R (lo r)).x1 y :=
  x1lo_apply (R (lo r)) L.yp L.pa (heads L) L.rb L.o L.ga L.gb L.xlo L.gm r y (H.yp (lo r)) (heads_apply H (lo r)) (H.ga (lo r))
    (H.gb (lo r)) (H.xlo r) (H.gm (lo r)) (H.pa (lo r)) (H.rb (lo r)) (H.o (lo r))

/-- The second half's stores of the residual stream. -/
theorem x1hi_store (r : Fin 256) (y : Fin 1024) :
    (k0_pay70 (branch (heads L) L.rb) (k0_pay66 (k0_pay52 L.yp L.pa) L.ga) (k0_pay67 L.gb) L.xhi L.gm L.o : Vec Ideal S256x1024 .f32) (ix2 r y)
      = (R (hi r)).x1 y :=
  x1hi_apply (R (hi r)) L.yp L.pa (heads L) L.rb L.o L.ga L.gb L.xhi L.gm r y (H.yp (hi r)) (heads_apply H (hi r)) (H.ga (hi r))
    (H.gb (hi r)) (H.xhi r) (H.gm (hi r)) (H.pa (hi r)) (H.rb (hi r)) (H.o (hi r))

/-- The residual stream's buffer. -/
theorem x1_canon (p : S512x1024.Idx) : View.canon (x1List L) p = (R (p 0)).x1 (p 1) := by
  have h0 : (p 0 : ℕ) < 512 := (p 0).isLt
  refine View.canon_apply_of_pieces (Val := Elt Ideal) (e := .f32) (fun p : S512x1024.Idx => (R (p 0)).x1 (p 1)) (x1List L) ?_ p ?_
  · intro g hg x
    rcases List.mem_cons.mp hg with rfl | hg
    · obtain ⟨r, hr⟩ : ∃ r : Fin 256, r = x 0 := ⟨x 0, rfl⟩
      obtain ⟨w, hw⟩ : ∃ w : Fin 1024, w = x 1 := ⟨x 1, rfl⟩
      have hx : x = ix2 r w := by subst hr hw; exact ix2_eta x
      subst hx
      exact (x1hi_store H r w).trans (at_eq (fun a b => (R a).x1 b) _ (hi r) w (by show 256 + 1 * (r : ℕ) = 256 + r; omega)
        (by show 0 + 1 * (w : ℕ) = w; omega)).symm
    rcases List.mem_cons.mp hg with rfl | hg
    · obtain ⟨r, hr⟩ : ∃ r : Fin 256, r = x 0 := ⟨x 0, rfl⟩
      obtain ⟨w, hw⟩ : ∃ w : Fin 1024, w = x 1 := ⟨x 1, rfl⟩
      have hx : x = ix2 r w := by subst hr hw; exact ix2_eta x
      subst hx
      exact (x1lo_store H r w).trans (at_eq (fun a b => (R a).x1 b) _ (lo r) w (by show 0 + 1 * (r : ℕ) = r; omega)
        (by show 0 + 1 * (w : ℕ) = w; omega)).symm
    · exact absurd hg List.not_mem_nil
  · by_cases h : (p 0 : ℕ) < 256
    · refine ⟨_, List.mem_cons_of_mem _ List.mem_cons_self, (LoadRect.mem_set _).mpr fun b => ?_⟩
      match b with
      | 0 => exact ⟨(p 0 : ℕ), h, by show (p 0 : ℕ) = 0 + 1 * (p 0 : ℕ); omega⟩
      | 1 => exact ⟨(p 1 : ℕ), (p 1).isLt, by show (p 1 : ℕ) = 0 + 1 * (p 1 : ℕ); omega⟩
    · refine ⟨_, List.mem_cons_self, (LoadRect.mem_set _).mpr fun b => ?_⟩
      match b with
      | 0 => exact ⟨(p 0 : ℕ) - 256, by show (p 0 : ℕ) - 256 < 256; omega, by show (p 0 : ℕ) = 256 + 1 * ((p 0 : ℕ) - 256); omega⟩
      | 1 => exact ⟨(p 1 : ℕ), (p 1).isLt, by show (p 1 : ℕ) = 0 + 1 * (p 1 : ℕ); omega⟩

/-- The first half of the residual stream. -/
theorem x1lo_read (r : Fin 256) (y : Fin 1024) : x1lo arg22 L (ix2 r y) = (R (lo r)).x1 y := by
  rw [x1lo, View.readCov_eq_canon']
  exact (x1_canon H _).trans (at_eq (fun a b => (R a).x1 b) _ (lo r) y (by show 0 + 1 * (r : ℕ) = r; omega)
    (by show 0 + 1 * (y : ℕ) = y; omega))

/-- The second half of the residual stream. -/
theorem x1hi_read (r : Fin 256) (y : Fin 1024) : x1hi arg22 L (ix2 r y) = (R (hi r)).x1 y := by
  rw [x1hi, View.readCov_eq_canon']
  exact (x1_canon H _).trans (at_eq (fun a b => (R a).x1 b) _ (hi r) y (by show 256 + 1 * (r : ℕ) = 256 + r; omega)
    (by show 0 + 1 * (y : ℕ) = y; omega))

/-- The buffer of the feed-forward's input. -/
theorem hid_canon (p : S512x1024.Idx) : View.canon (hidList arg22 L) p = (R (p 0)).hid (p 1) := by
  have h0 : (p 0 : ℕ) < 512 := (p 0).isLt
  refine View.canon_apply_of_pieces (Val := Elt Ideal) (e := .bf16) (fun p : S512x1024.Idx => (R (p 0)).hid (p 1)) (hidList arg22 L) ?_ p ?_
  · intro g hg x
    rcases List.mem_cons.mp hg with rfl | hg
    · obtain ⟨r, hr⟩ : ∃ r : Fin 256, r = x 0 := ⟨x 0, rfl⟩
      obtain ⟨w, hw⟩ : ∃ w : Fin 1024, w = x 1 := ⟨x 1, rfl⟩
      have hx : x = ix2 r w := by subst hr hw; exact ix2_eta x
      subst hx
      exact (hidS_apply (R (hi r)) (x1hi_read arg22 H r) (H.gain (hi r)) (H.sh (hi r)) (H.sc (hi r)) w).trans
        (at_eq (fun a b => (R a).hid b) _ (hi r) w (by show 256 + 1 * (r : ℕ) = 256 + r; omega) (by show 0 + 1 * (w : ℕ) = w; omega)).symm
    rcases List.mem_cons.mp hg with rfl | hg
    · obtain ⟨r, hr⟩ : ∃ r : Fin 256, r = x 0 := ⟨x 0, rfl⟩
      obtain ⟨w, hw⟩ : ∃ w : Fin 1024, w = x 1 := ⟨x 1, rfl⟩
      have hx : x = ix2 r w := by subst hr hw; exact ix2_eta x
      subst hx
      exact (hidS_apply (R (lo r)) (x1lo_read arg22 H r) (H.gain (lo r)) (H.sh (lo r)) (H.sc (lo r)) w).trans
        (at_eq (fun a b => (R a).hid b) _ (lo r) w (by show 0 + 1 * (r : ℕ) = r; omega) (by show 0 + 1 * (w : ℕ) = w; omega)).symm
    · exact absurd hg List.not_mem_nil
  · by_cases h : (p 0 : ℕ) < 256
    · refine ⟨_, List.mem_cons_of_mem _ List.mem_cons_self, (LoadRect.mem_set _).mpr fun b => ?_⟩
      match b with
      | 0 => exact ⟨(p 0 : ℕ), h, by show (p 0 : ℕ) = 0 + 1 * (p 0 : ℕ); omega⟩
      | 1 => exact ⟨(p 1 : ℕ), (p 1).isLt, by show (p 1 : ℕ) = 0 + 1 * (p 1 : ℕ); omega⟩
    · refine ⟨_, List.mem_cons_self, (LoadRect.mem_set _).mpr fun b => ?_⟩
      match b with
      | 0 => exact ⟨(p 0 : ℕ) - 256, by show (p 0 : ℕ) - 256 < 256; omega, by show (p 0 : ℕ) = 256 + 1 * ((p 0 : ℕ) - 256); omega⟩
      | 1 => exact ⟨(p 1 : ℕ), (p 1).isLt, by show (p 1 : ℕ) = 0 + 1 * (p 1 : ℕ); omega⟩

/-- The feed-forward's input. -/
theorem hid_read (r : Fin 512) (y : Fin 1024) : hid arg22 arg23 L (ix2 r y) = (R r).hid y := by
  rw [hid, View.readCov_eq_canon']
  exact (hid_canon arg22 H _).trans (at_eq (fun a b => (R a).hid b) _ r y (by show 0 + 1 * (r : ℕ) = r; omega)
    (by show 0 + 1 * (y : ℕ) = y; omega))

/-- One column tile of the activations. -/
theorem actPiece_apply (n : Fin 11) (r : Fin 512) (w : Fin 256) :
    (k0_pay80 (hid arg22 arg23 L) (L.w1 n) (L.w3 n) : Vec Ideal S512x256 .bf16) (ix2 r w) = (R r).act (tile n w) :=
  act_apply (R r) _ _ _ r w (tile n w) (hid_read arg22 arg23 H r) (fun k => H.w1 r n k w) (fun k => H.w3 r n k w)

/-- The buffer of the activations. -/
theorem act_canon (p : S512x2816.Idx) : View.canon (actList arg22 arg23 L) p = (R (p 0)).act (p 1) := by
  have h0 : (p 0 : ℕ) < 512 := (p 0).isLt
  have h1 : (p 1 : ℕ) < 2816 := (p 1).isLt
  refine View.canon_apply_of_pieces (Val := Elt Ideal) (e := .bf16) (fun p : S512x2816.Idx => (R (p 0)).act (p 1)) (actList arg22 arg23 L) ?_ p ?_
  · intro g hg x
    rcases List.mem_append.mp hg with hg | hg
    · obtain ⟨n, _, rfl⟩ := List.mem_map.mp hg
      obtain ⟨r, hr⟩ : ∃ r : Fin 512, r = x 0 := ⟨x 0, rfl⟩
      obtain ⟨w, hw⟩ : ∃ w : Fin 256, w = x 1 := ⟨x 1, rfl⟩
      have hx : x = ix2 r w := by subst hr hw; exact ix2_eta x
      subst hx
      exact (actPiece_apply arg22 arg23 H n.succ r w).trans (at_eq (fun a b => (R a).act b) _ r (tile n.succ w)
        (by show 0 + 1 * (r : ℕ) = r; omega) (by show 256 * (n.succ : ℕ) + 1 * (w : ℕ) = 256 * (n.succ : ℕ) + w; omega)).symm
    rcases List.mem_cons.mp hg with rfl | hg
    · obtain ⟨r, hr⟩ : ∃ r : Fin 256, r = x 0 := ⟨x 0, rfl⟩
      obtain ⟨w, hw⟩ : ∃ w : Fin 256, w = x 1 := ⟨x 1, rfl⟩
      have hx : x = ix2 r w := by subst hr hw; exact ix2_eta x
      subst hx
      exact (act0_apply (R (hi r)) (x1hi_read arg22 H r) (H.gain (hi r)) (H.sh (hi r)) (H.sc (hi r)) (L.w1 0) (L.w3 0) w (tile 0 w)
        (fun k => H.w1 (hi r) 0 k w) (fun k => H.w3 (hi r) 0 k w)).trans (at_eq (fun a b => (R a).act b) _ (hi r) (tile 0 w)
        (by show 256 + 1 * (r : ℕ) = 256 + r; omega) (by show 0 + 1 * (w : ℕ) = 256 * 0 + w; omega)).symm
    rcases List.mem_cons.mp hg with rfl | hg
    · obtain ⟨r, hr⟩ : ∃ r : Fin 256, r = x 0 := ⟨x 0, rfl⟩
      obtain ⟨w, hw⟩ : ∃ w : Fin 256, w = x 1 := ⟨x 1, rfl⟩
      have hx : x = ix2 r w := by subst hr hw; exact ix2_eta x
      subst hx
      exact (act0_apply (R (lo r)) (x1lo_read arg22 H r) (H.gain (lo r)) (H.sh (lo r)) (H.sc (lo r)) (L.w1 0) (L.w3 0) w (tile 0 w)
        (fun k => H.w1 (lo r) 0 k w) (fun k => H.w3 (lo r) 0 k w)).trans (at_eq (fun a b => (R a).act b) _ (lo r) (tile 0 w)
        (by show 0 + 1 * (r : ℕ) = r; omega) (by show 0 + 1 * (w : ℕ) = 256 * 0 + w; omega)).symm
    · exact absurd hg List.not_mem_nil
  · by_cases hc : (p 1 : ℕ) < 256
    · by_cases h : (p 0 : ℕ) < 256
      · refine ⟨actLo arg22 L, List.mem_append_right _ (List.mem_cons_of_mem _ List.mem_cons_self), (actLo arg22 L).1.mem_set.mpr fun b => ?_⟩
        match b with
        | 0 => exact ⟨(p 0 : ℕ), h, by show (p 0 : ℕ) = 0 + 1 * (p 0 : ℕ); omega⟩
        | 1 => exact ⟨(p 1 : ℕ), hc, by show (p 1 : ℕ) = 0 + 1 * (p 1 : ℕ); omega⟩
      · refine ⟨actHi arg22 L, List.mem_append_right _ List.mem_cons_self, (actHi arg22 L).1.mem_set.mpr fun b => ?_⟩
        match b with
        | 0 => exact ⟨(p 0 : ℕ) - 256, by show (p 0 : ℕ) - 256 < 256; omega, by show (p 0 : ℕ) = 256 + 1 * ((p 0 : ℕ) - 256); omega⟩
        | 1 => exact ⟨(p 1 : ℕ), hc, by show (p 1 : ℕ) = 0 + 1 * (p 1 : ℕ); omega⟩
    · obtain ⟨n, hn⟩ : ∃ n : Fin 10, (n : ℕ) + 1 = (p 1 : ℕ) / 256 := ⟨⟨(p 1 : ℕ) / 256 - 1, by omega⟩, by show (p 1 : ℕ) / 256 - 1 + 1 = _; omega⟩
      refine ⟨actPiece arg22 arg23 L n.succ, List.mem_append_left _ (List.mem_map.mpr ⟨n, by simp, rfl⟩), (actPiece arg22 arg23 L n.succ).1.mem_set.mpr fun b => ?_⟩
      match b with
      | 0 => exact ⟨(p 0 : ℕ), h0, by show (p 0 : ℕ) = 0 + 1 * (p 0 : ℕ); omega⟩
      | 1 => exact ⟨(p 1 : ℕ) % 256, Nat.mod_lt _ (by decide), by show (p 1 : ℕ) = 256 * ((n : ℕ) + 1) + 1 * ((p 1 : ℕ) % 256); omega⟩

/-- The first half of the activations. -/
theorem actlo_read (r : Fin 256) (j : Fin 2816) : actlo arg21 arg22 arg23 L (ix2 r j) = (R (lo r)).act j := by
  rw [actlo, View.readCov_eq_canon']
  exact (act_canon arg22 arg23 H _).trans (at_eq (fun a b => (R a).act b) _ (lo r) j (by show 0 + 1 * (r : ℕ) = r; omega)
    (by show 0 + 1 * (j : ℕ) = j; omega))

/-- The second half of the activations. -/
theorem acthi_read (r : Fin 256) (j : Fin 2816) : acthi arg21 arg22 arg23 L (ix2 r j) = (R (hi r)).act j := by
  rw [acthi, View.readCov_eq_canon']
  exact (act_canon arg22 arg23 H _).trans (at_eq (fun a b => (R a).act b) _ (hi r) j (by show 256 + 1 * (r : ℕ) = 256 + r; omega)
    (by show 0 + 1 * (j : ℕ) = j; omega))

/-- The block of results. -/
theorem out_canon (p : S1x512x1024.Idx) : View.canon (outList arg21 arg22 arg23 L) p = (R (p 1)).out (p 2) := by
  have h0 : (p 1 : ℕ) < 512 := (p 1).isLt
  have hz : (p 0 : ℕ) < 1 := (p 0).isLt
  refine View.canon_apply_of_pieces (Val := Elt Ideal) (e := .f32) (fun p : S1x512x1024.Idx => (R (p 1)).out (p 2)) (outList arg21 arg22 arg23 L) ?_ p ?_
  · intro g hg x
    rcases List.mem_cons.mp hg with rfl | hg
    · obtain ⟨r, hr⟩ : ∃ r : Fin 256, r = x 1 := ⟨x 1, rfl⟩
      obtain ⟨w, hw⟩ : ∃ w : Fin 1024, w = x 2 := ⟨x 2, rfl⟩
      have hx : x = ix3 (0 : Fin 1) r w := by subst hr hw; exact ix3_eta x
      subst hx
      exact (out_apply (R (hi r)) _ L.w2 _ L.gf L.gfin r w (acthi_read arg21 arg22 arg23 H r) (H.w2 (hi r)) (x1hi_read arg22 H r)
        (H.gf (hi r)) (H.gfin (hi r))).trans (congrArg₂ (fun a b => (R a).out b) (Fin.ext (by show 256 + (r : ℕ) = 256 + 1 * (r : ℕ); omega))
        (Fin.ext (by show (w : ℕ) = 0 + 1 * (w : ℕ); omega)))
    rcases List.mem_cons.mp hg with rfl | hg
    · obtain ⟨r, hr⟩ : ∃ r : Fin 256, r = x 1 := ⟨x 1, rfl⟩
      obtain ⟨w, hw⟩ : ∃ w : Fin 1024, w = x 2 := ⟨x 2, rfl⟩
      have hx : x = ix3 (0 : Fin 1) r w := by subst hr hw; exact ix3_eta x
      subst hx
      exact (out_apply (R (lo r)) _ L.w2 _ L.gf L.gfin r w (actlo_read arg21 arg22 arg23 H r) (H.w2 (lo r)) (x1lo_read arg22 H r)
        (H.gf (lo r)) (H.gfin (lo r))).trans (congrArg₂ (fun a b => (R a).out b) (Fin.ext (by show (r : ℕ) = 0 + 1 * (r : ℕ); omega))
        (Fin.ext (by show (w : ℕ) = 0 + 1 * (w : ℕ); omega)))
    · exact absurd hg List.not_mem_nil
  · by_cases h : (p 1 : ℕ) < 256
    · refine ⟨_, List.mem_cons_of_mem _ List.mem_cons_self, (LoadRect.mem_set _).mpr fun b => ?_⟩
      match b with
      | 0 => exact ⟨0, Nat.one_pos, by show (p 0 : ℕ) = 0 + 1 * 0; omega⟩
      | 1 => exact ⟨(p 1 : ℕ), h, by show (p 1 : ℕ) = 0 + 1 * (p 1 : ℕ); omega⟩
      | 2 => exact ⟨(p 2 : ℕ), (p 2).isLt, by show (p 2 : ℕ) = 0 + 1 * (p 2 : ℕ); omega⟩
    · refine ⟨_, List.mem_cons_self, (LoadRect.mem_set _).mpr fun b => ?_⟩
      match b with
      | 0 => exact ⟨0, Nat.one_pos, by show (p 0 : ℕ) = 0 + 1 * 0; omega⟩
      | 1 => exact ⟨(p 1 : ℕ) - 256, by show (p 1 : ℕ) - 256 < 256; omega, by show (p 1 : ℕ) = 256 + 1 * ((p 1 : ℕ) - 256); omega⟩
      | 2 => exact ⟨(p 2 : ℕ), (p 2).isLt, by show (p 2 : ℕ) = 0 + 1 * (p 2 : ℕ); omega⟩

end Cert.Kernel2Ideal.Tail
-- ==== Proof.TailRun.lean ====
module

public import proofs.«01_k».proof.Proof.TailTile
public import proofs.«01_k».proof.Proof.Gen.Kernel2Ideal.Frame

/-! What the two kinds of grid points of the layer's tail store. The first point copies the weights into their buffers
and computes with them; each later point computes with the weights the buffers already hold. Both store the same family. -/

@[expose] public section

set_option maxRecDepth 16384

noncomputable section

namespace Cert.Kernel2Ideal.Tail

open Idealize.ShloMosaic Idealize.ShloMosaic.TcCoe Idealize.SL.Sem
open Cert.Kernel2Ideal Cert.Kernel2Ideal.Gen Cert.Tail

variable (c : Dev nD) (i : grid0.Coords)
  (arg2 : Memref sig Kind.tc Space.vmem S1x512x512 EltTy.bf16) (harg2 : arg2.IsWhole)
  (arg3 : Memref sig Kind.tc Space.vmem S1x512x1024 EltTy.bf16) (harg3 : arg3.IsWhole)
  (arg4 : Memref sig Kind.tc Space.vmem S1x512x1024 EltTy.bf16) (harg4 : arg4.IsWhole)
  (arg5 : Memref sig Kind.tc Space.vmem S1x512x1024 EltTy.bf16) (harg5 : arg5.IsWhole)
  (arg6 : Memref sig Kind.tc Space.vmem S1x512x1024 EltTy.bf16) (harg6 : arg6.IsWhole)
  (arg7 : Memref sig Kind.tc Space.vmem S1x512x1024 EltTy.f32) (harg7 : arg7.IsWhole)
  (arg8 : Memref sig Kind.tc Space.vmem S1x1x1024 EltTy.f32) (harg8 : arg8.IsWhole)
  (arg9 : Memref sig Kind.tc Space.vmem S1x1x1024 EltTy.f32) (harg9 : arg9.IsWhole)
  (arg10 : Memref sig Kind.tc Space.vmem S1x1x1024 EltTy.f32) (harg10 : arg10.IsWhole)
  (arg11 : Memref sig Kind.tc Space.vmem S1x1x1024 EltTy.f32) (harg11 : arg11.IsWhole)
  (arg12 : Memref sig Kind.tc Space.vmem S1x1024 EltTy.f32) (harg12 : arg12.IsWhole)
  (arg13 : Memref sig Kind.tc Space.vmem S1x1024 EltTy.f32) (harg13 : arg13.IsWhole)
  (arg20 : Memref sig Kind.tc Space.vmem S1x512x1024 EltTy.f32) (harg20 : arg20.IsWhole)
  (arg21 : Memref sig Kind.tc Space.vmem S512x2816 EltTy.bf16) (harg21 : arg21.IsWhole)
  (arg22 : Memref sig Kind.tc Space.vmem S512x1024 EltTy.f32) (harg22 : arg22.IsWhole)
  (arg23 : Memref sig Kind.tc Space.vmem S512x1024 EltTy.bf16) (harg23 : arg23.IsWhole)
  (arg24 : Memref sig Kind.tc Space.vmem S512x1024 EltTy.bf16) (harg24 : arg24.IsWhole)
  (arg25 : Memref sig Kind.tc Space.vmem S1024x1024 EltTy.bf16) (harg25 : arg25.IsWhole)
  (arg26 : Memref sig Kind.tc Space.vmem S1024x1024 EltTy.bf16) (harg26 : arg26.IsWhole)
  (arg27 : Memref sig Kind.tc Space.vmem S1024x2816 EltTy.bf16) (harg27 : arg27.IsWhole)
  (arg28 : Memref sig Kind.tc Space.vmem S1024x2816 EltTy.bf16) (harg28 : arg28.IsWhole)
  (arg29 : Memref sig Kind.tc Space.vmem S2816x1024 EltTy.bf16) (harg29 : arg29.IsWhole)
  (x0 : Vec Ideal S1x512x512 .bf16) (x1 x2 x3 x4 : Vec Ideal S1x512x1024 .bf16) (x5 : Vec Ideal S1x512x1024 .f32)
  (x6 x7 x8 x9 : Vec Ideal S1x1x1024 .f32) (x10 x11 : Vec Ideal S1x1024 .f32)
  (fh0 : HbBuf0 (F := Ideal) c hbM0_0) (fh1 : HbBuf0 (F := Ideal) c hbM0_1) (fh2 : HbBuf0 (F := Ideal) c hbM0_2)
  (fh3 : HbBuf0 (F := Ideal) c hbM0_3) (fh4 : HbBuf0 (F := Ideal) c hbM0_4) (fh5 : HbBuf0 (F := Ideal) c hbM0_5)

/-- What a point loads from its blocks, beside the weights. -/
def leaves (pa : Vec Ideal S512x1024 .bf16) (rb o : Vec Ideal S1024x1024 .bf16) (w1 w3 : Fin 11 → Vec Ideal S1024x256 .bf16)
    (w2 : Vec Ideal S2816x1024 .bf16) : Leaves where
  yp := View.readAt (Elt Ideal) arg2.view (Rect.unit (s := S1x512x512) ![0, 0, 0] S1x512x512.size inb_S1x512x512_S1x512x512_0_0_0).toLoadRect (harg2.unread x0)
  yr n := View.readAt (Elt Ideal) arg3.view (Rect.unit (s := S1x512x1024) ![0, 0, 128 * (n : ℕ)] S1x512x128.size
    (by intro a; fin_cases a <;> simp <;> omega)).toLoadRect (harg3.unread x1)
  sg n := View.readAt (Elt Ideal) arg4.view (Rect.unit (s := S1x512x1024) ![0, 0, 128 * (n : ℕ)] S1x512x128.size
    (by intro a; fin_cases a <;> simp <;> omega)).toLoadRect (harg4.unread x2)
  ga := View.readAt (Elt Ideal) arg5.view (Rect.unit (s := S1x512x1024) ![0, 0, 0] S1x512x1024.size inb_S1x512x1024_S1x512x1024_0_0_0).toLoadRect (harg5.unread x3)
  gb := View.readAt (Elt Ideal) arg6.view (Rect.unit (s := S1x512x1024) ![0, 0, 0] S1x512x1024.size inb_S1x512x1024_S1x512x1024_0_0_0).toLoadRect (harg6.unread x4)
  xlo := View.readAt (Elt Ideal) arg7.view (Rect.unit (s := S1x512x1024) ![0, 0, 0] S1x256x1024.size inb_S1x512x1024_S1x256x1024_0_0_0).toLoadRect (harg7.unread x5)
  xhi := View.readAt (Elt Ideal) arg7.view (Rect.unit (s := S1x512x1024) ![0, 256, 0] S1x256x1024.size inb_S1x512x1024_S1x256x1024_0_256_0).toLoadRect (harg7.unread x5)
  gm := View.readAt (Elt Ideal) arg8.view (Rect.unit (s := S1x1x1024) ![0, 0, 0] S1x1x1024.size inb_S1x1x1024_S1x1x1024_0_0_0).toLoadRect (harg8.unread x6)
  sh := View.readAt (Elt Ideal) arg9.view (Rect.unit (s := S1x1x1024) ![0, 0, 0] S1x1x1024.size inb_S1x1x1024_S1x1x1024_0_0_0).toLoadRect (harg9.unread x7)
  sc := View.readAt (Elt Ideal) arg10.view (Rect.unit (s := S1x1x1024) ![0, 0, 0] S1x1x1024.size inb_S1x1x1024_S1x1x1024_0_0_0).toLoadRect (harg10.unread x8)
  gf := View.readAt (Elt Ideal) arg11.view (Rect.unit (s := S1x1x1024) ![0, 0, 0] S1x1x1024.size inb_S1x1x1024_S1x1x1024_0_0_0).toLoadRect (harg11.unread x9)
  gain := View.readAt (Elt Ideal) arg12.view (Rect.unit (s := S1x1024) ![0, 0] S1x1024.size inb_S1x1024_S1x1024_0_0).toLoadRect (harg12.unread x10)
  gfin := View.readAt (Elt Ideal) arg13.view (Rect.unit (s := S1x1024) ![0, 0] S1x1024.size inb_S1x1024_S1x1024_0_0).toLoadRect (harg13.unread x11)
  pa := pa
  rb := rb
  o := o
  w1 := w1
  w3 := w3
  w2 := w2

/-- A column tile's place in a weight. -/
def colRect (n : Fin 11) : Rect S1024x2816 :=
  Rect.unit ![0, 256 * (n : ℕ)] S1024x256.size (by intro a; fin_cases a <;> simp <;> omega)

section Later

variable (hc0 : ¬cond0_0 i) (hc1 : cond0_1 i) (xs3 : Vec Ideal S512x1024 .bf16) (xs4 xs5 : Vec Ideal S1024x1024 .bf16)
  (xs6 xs7 : Vec Ideal S1024x2816 .bf16) (xs8 : Vec Ideal S2816x1024 .bf16)

/-- What a later point loads. -/
def leavesB : Leaves := leaves arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11
  (View.readAt (Elt Ideal) arg24.view (Rect.unit (s := S512x1024) ![0, 0] S512x1024.size inb_S512x1024_S512x1024_0_0).toLoadRect (harg24.unread xs3))
  (View.readAt (Elt Ideal) arg25.view (Rect.unit (s := S1024x1024) ![0, 0] S1024x1024.size inb_S1024x1024_S1024x1024_0_0).toLoadRect (harg25.unread xs4))
  (View.readAt (Elt Ideal) arg26.view (Rect.unit (s := S1024x1024) ![0, 0] S1024x1024.size inb_S1024x1024_S1024x1024_0_0).toLoadRect (harg26.unread xs5))
  (fun n => View.readAt (Elt Ideal) arg27.view (colRect n).toLoadRect (harg27.unread xs6))
  (fun n => View.readAt (Elt Ideal) arg28.view (colRect n).toLoadRect (harg28.unread xs7))
  (View.readAt (Elt Ideal) arg29.view (Rect.unit (s := S2816x1024) ![0, 0] S2816x1024.size inb_S2816x1024_S2816x1024_0_0).toLoadRect (harg29.unread xs8))

/-- A later point stores the family. -/
theorem runB_eq : (kernelRun0_B (F := Ideal) c i arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 arg27 harg27 arg28 harg28 arg29 harg29
      hc0 hc1 x0 x1 x2 x3 x4 x5 x6 x7 x8 x9 x10 x11 xs3 xs4 xs5 xs6 xs7 xs8 fh0 fh1 fh2 fh3 fh4 fh5).1
    = outList arg21 arg22 arg23 (leavesB arg2 harg2 arg3 harg3 arg4 harg4 arg5 harg5 arg6 harg6 arg7 harg7 arg8 harg8 arg9 harg9 arg10 harg10 arg11 harg11 arg12 harg12 arg13 harg13 arg24 harg24 arg25 harg25 arg26 harg26 arg27 harg27 arg28 harg28 arg29 harg29 x0 x1 x2 x3 x4 x5 x6 x7 x8 x9 x10 x11 xs3 xs4 xs5 xs6 xs7 xs8) := by
  sl_kernel_rfl

end Later

section First

variable (hc0 : cond0_0 i) (hc1 : ¬cond0_1 i)

/-- The copy of the pooled branch's projection. -/
def paList : List (View.Piece (Elt Ideal) S512x1024 .bf16) := [⟨Rect.whole S512x1024, kernelRun0_A.sl.dma0 c fh0⟩]

/-- The copy of the retention branch's projection. -/
def rbList : List (View.Piece (Elt Ideal) S1024x1024 .bf16) := [⟨Rect.whole S1024x1024, kernelRun0_A.sl.dma0_1 c fh1⟩]

/-- The copy of the mixer's output projection. -/
def oList : List (View.Piece (Elt Ideal) S1024x1024 .bf16) := [⟨Rect.whole S1024x1024, kernelRun0_A.sl.dma0_2 c fh2⟩]

/-- The copies of the feed-forward's gate weight. -/
def w1List : List (View.Piece (Elt Ideal) S1024x2816 .bf16) :=
  [⟨Rect.unit ![0, 2048] S1024x768.size inb_S1024x2816_S1024x768_0_2048, kernelRun0_A.sl.dma0_7 c fh3⟩,
    ⟨Rect.unit ![0, 1024] S1024x1024.size inb_S1024x2816_S1024x1024_0_1024, kernelRun0_A.sl.dma0_5 c fh3⟩,
    ⟨Rect.unit ![0, 0] S1024x1024.size inb_S1024x2816_S1024x1024_0_0, kernelRun0_A.sl.dma0_3 c fh3⟩]

/-- The copies of the feed-forward's value weight. -/
def w3List : List (View.Piece (Elt Ideal) S1024x2816 .bf16) :=
  [⟨Rect.unit ![0, 2048] S1024x768.size inb_S1024x2816_S1024x768_0_2048, kernelRun0_A.sl.dma0_8 c fh4⟩,
    ⟨Rect.unit ![0, 1024] S1024x1024.size inb_S1024x2816_S1024x1024_0_1024, kernelRun0_A.sl.dma0_6 c fh4⟩,
    ⟨Rect.unit ![0, 0] S1024x1024.size inb_S1024x2816_S1024x1024_0_0, kernelRun0_A.sl.dma0_4 c fh4⟩]

/-- The copies of the feed-forward's output weight. -/
def w2List : List (View.Piece (Elt Ideal) S2816x1024 .bf16) :=
  [⟨Rect.unit ![2048, 0] S768x1024.size inb_S2816x1024_S768x1024_2048_0, kernelRun0_A.sl.dma0_11 c fh5⟩,
    ⟨Rect.unit ![1024, 0] S1024x1024.size inb_S2816x1024_S1024x1024_1024_0, kernelRun0_A.sl.dma0_10 c fh5⟩,
    ⟨Rect.unit ![0, 0] S1024x1024.size inb_S2816x1024_S1024x1024_0_0, kernelRun0_A.sl.dma0_9 c fh5⟩]

/-- What the first point loads. -/
def leavesA : Leaves := leaves arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11
  (arg24.view.readCov (paList c fh0) (Rect.unit (s := S512x1024) ![0, 0] S512x1024.size inb_S512x1024_S512x1024_0_0).toLoadRect)
  (arg25.view.readCov (rbList c fh1) (Rect.unit (s := S1024x1024) ![0, 0] S1024x1024.size inb_S1024x1024_S1024x1024_0_0).toLoadRect)
  (arg26.view.readCov (oList c fh2) (Rect.unit (s := S1024x1024) ![0, 0] S1024x1024.size inb_S1024x1024_S1024x1024_0_0).toLoadRect)
  (fun n => arg27.view.readCov (w1List c fh3) (colRect n).toLoadRect)
  (fun n => arg28.view.readCov (w3List c fh4) (colRect n).toLoadRect)
  (arg29.view.readCov (w2List c fh5) (Rect.unit (s := S2816x1024) ![0, 0] S2816x1024.size inb_S2816x1024_S2816x1024_0_0).toLoadRect)

/-- The first point stores the family. -/
theorem runA_eq : (kernelRun0_A (F := Ideal) c i arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 arg27 harg27 arg28 harg28 arg29 harg29
      hc0 hc1 x0 x1 x2 x3 x4 x5 x6 x7 x8 x9 x10 x11 fh0 fh1 fh2 fh3 fh4 fh5).1
    = outList arg21 arg22 arg23 (leavesA c arg2 harg2 arg3 harg3 arg4 harg4 arg5 harg5 arg6 harg6 arg7 harg7 arg8 harg8 arg9 harg9 arg10 harg10 arg11 harg11 arg12 harg12 arg13 harg13 arg24 arg25 arg26 arg27 arg28 arg29 x0 x1 x2 x3 x4 x5 x6 x7 x8 x9 x10 x11 fh0 fh1 fh2 fh3 fh4 fh5) := by
  sl_kernel_rfl

/-- The first point's copies of the pooled branch's projection. -/
theorem runA_paList : (kernelRun0_A (F := Ideal) c i arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 arg27 harg27 arg28 harg28 arg29 harg29
      hc0 hc1 x0 x1 x2 x3 x4 x5 x6 x7 x8 x9 x10 x11 fh0 fh1 fh2 fh3 fh4 fh5).2.1
    = paList c fh0 := by
  sl_kernel_rfl

/-- The first point's copies of the retention branch's projection. -/
theorem runA_rbList : (kernelRun0_A (F := Ideal) c i arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 arg27 harg27 arg28 harg28 arg29 harg29
      hc0 hc1 x0 x1 x2 x3 x4 x5 x6 x7 x8 x9 x10 x11 fh0 fh1 fh2 fh3 fh4 fh5).2.2.1
    = rbList c fh1 := by
  sl_kernel_rfl

/-- The first point's copies of the output projection. -/
theorem runA_oList : (kernelRun0_A (F := Ideal) c i arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 arg27 harg27 arg28 harg28 arg29 harg29
      hc0 hc1 x0 x1 x2 x3 x4 x5 x6 x7 x8 x9 x10 x11 fh0 fh1 fh2 fh3 fh4 fh5).2.2.2.1
    = oList c fh2 := by
  sl_kernel_rfl

/-- The first point's copies of the gate weight. -/
theorem runA_w1List : (kernelRun0_A (F := Ideal) c i arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 arg27 harg27 arg28 harg28 arg29 harg29
      hc0 hc1 x0 x1 x2 x3 x4 x5 x6 x7 x8 x9 x10 x11 fh0 fh1 fh2 fh3 fh4 fh5).2.2.2.2.1
    = w1List c fh3 := by
  sl_kernel_rfl

/-- The first point's copies of the value weight. -/
theorem runA_w3List : (kernelRun0_A (F := Ideal) c i arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 arg27 harg27 arg28 harg28 arg29 harg29
      hc0 hc1 x0 x1 x2 x3 x4 x5 x6 x7 x8 x9 x10 x11 fh0 fh1 fh2 fh3 fh4 fh5).2.2.2.2.2.1
    = w3List c fh4 := by
  sl_kernel_rfl

/-- The first point's copies of the feed-forward's output weight. -/
theorem runA_w2List : (kernelRun0_A (F := Ideal) c i arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 arg27 harg27 arg28 harg28 arg29 harg29
      hc0 hc1 x0 x1 x2 x3 x4 x5 x6 x7 x8 x9 x10 x11 fh0 fh1 fh2 fh3 fh4 fh5).2.2.2.2.2.2.1
    = w2List c fh5 := by
  sl_kernel_rfl

end First

end Cert.Kernel2Ideal.Tail
-- ==== Proof.TailPoint.lean ====
module

public import proofs.«01_k».proof.Proof.TailRun

/-! What a grid point of the layer's tail leaves in its block of results and in the weights' buffers: the rows of its 512
tokens, and the weights as launched. -/

@[expose] public section

set_option maxRecDepth 16384

noncomputable section

namespace Cert.Kernel2Ideal.Tail

open Idealize.ShloMosaic Idealize.ShloMosaic.TcCoe Idealize.SL.Sem
open Cert.Kernel2Ideal Cert.Kernel2Ideal.Gen Cert.Tail

/-- The origin of a matrix. -/
theorem zero2 : ∀ b : Fin 2, (![0, 0] : Fin 2 → ℕ) b = 0 := by decide

/-- The origin of a rank-3 array. -/
theorem zero3 : ∀ b : Fin 3, (![0, 0, 0] : Fin 3 → ℕ) b = 0 := by decide

/-- A load of a whole matrix is in place. -/
theorem place2 {a b : ℕ} (x : (⟨2, ![a, b]⟩ : Shape).Idx) (n : Fin 2) : (x n : ℕ) = (![0, 0] : Fin 2 → ℕ) n + x n := by
  rw [zero2 n, Nat.zero_add]

/-- A load of a whole rank-3 array is in place. -/
theorem place3 {a b c : ℕ} (x : (⟨3, ![a, b, c]⟩ : Shape).Idx) (n : Fin 3) : (x n : ℕ) = (![0, 0, 0] : Fin 3 → ℕ) n + x n := by
  rw [zero3 n, Nat.zero_add]

/-- A head's place in a row. -/
theorem head_place (n : Fin 8) (r : Fin 512) (w : Fin 128) (b : Fin 3) :
    ((ix3 (0 : Fin 1) r (col n w) : S1x512x1024.Idx) b : ℕ) = (![0, 0, 128 * (n : ℕ)] : Fin 3 → ℕ) b + ((ix3 (0 : Fin 1) r w : S1x512x128.Idx) b : ℕ) := by
  match b with
  | 0 => rfl
  | 1 => show (r : ℕ) = 0 + r; omega
  | 2 => show (n * 128 + w : ℕ) = 128 * n + w; omega

/-- The first half's place in a tile. -/
theorem lo_place (r : Fin 256) (k : Fin 1024) (b : Fin 3) :
    ((ix3 (0 : Fin 1) (lo r) k : S1x512x1024.Idx) b : ℕ) = (![0, 0, 0] : Fin 3 → ℕ) b + ((ix3 (0 : Fin 1) r k : S1x256x1024.Idx) b : ℕ) := by
  match b with
  | 0 => rfl
  | 1 => show (r : ℕ) = 0 + r; omega
  | 2 => show (k : ℕ) = 0 + k; omega

/-- The second half's place in a tile. -/
theorem hi_place (r : Fin 256) (k : Fin 1024) (b : Fin 3) :
    ((ix3 (0 : Fin 1) (hi r) k : S1x512x1024.Idx) b : ℕ) = (![0, 256, 0] : Fin 3 → ℕ) b + ((ix3 (0 : Fin 1) r k : S1x256x1024.Idx) b : ℕ) := by
  match b with
  | 0 => rfl
  | 1 => rfl
  | 2 => show (k : ℕ) = 0 + k; omega

/-- A column tile's place in a weight. -/
theorem tile_place (n : Fin 11) (k : Fin 1024) (w : Fin 256) (b : Fin 2) :
    ((ix2 k (tile n w) : S1024x2816.Idx) b : ℕ) = (![0, 256 * (n : ℕ)] : Fin 2 → ℕ) b + ((ix2 k w : S1024x256.Idx) b : ℕ) := by
  match b with
  | 0 => show (k : ℕ) = 0 + k; omega
  | 1 => rfl

/-- The whole of a matrix, from its origin. -/
theorem origin2 {a b : ℕ} (inb) (x : (Rect.unit (s := (⟨2, ![a, b]⟩ : Shape)) ![0, 0] ![a, b] inb).shape.Idx) (y : (⟨2, ![a, b]⟩ : Shape).Idx)
    (h : ∀ n, (y n : ℕ) = x n) : (Rect.unit (s := (⟨2, ![a, b]⟩ : Shape)) ![0, 0] ![a, b] inb).toLoadRect.idx x = y :=
  funext fun n => Fin.ext (by show (![0, 0] : Fin 2 → ℕ) n + 1 * (x n : ℕ) = y n; rw [zero2 n, h n]; omega)

/-- A column tile's entries in a weight. -/
theorem colRect_idx (n : Fin 11) (k : Fin 1024) (w : Fin 256) : (colRect n).toLoadRect.idx (ix2 k w) = (ix2 k (tile n w) : S1024x2816.Idx) := by
  funext b
  match b with
  | 0 => exact Fin.ext (by show 0 + 1 * (k : ℕ) = k; omega)
  | 1 => exact Fin.ext (by show 256 * (n : ℕ) + 1 * (w : ℕ) = 256 * n + w; omega)

variable (c : Dev nD) (i : grid0.Coords)
  (arg2 : Memref sig Kind.tc Space.vmem S1x512x512 EltTy.bf16) (harg2 : arg2.IsWhole)
  (arg3 : Memref sig Kind.tc Space.vmem S1x512x1024 EltTy.bf16) (harg3 : arg3.IsWhole)
  (arg4 : Memref sig Kind.tc Space.vmem S1x512x1024 EltTy.bf16) (harg4 : arg4.IsWhole)
  (arg5 : Memref sig Kind.tc Space.vmem S1x512x1024 EltTy.bf16) (harg5 : arg5.IsWhole)
  (arg6 : Memref sig Kind.tc Space.vmem S1x512x1024 EltTy.bf16) (harg6 : arg6.IsWhole)
  (arg7 : Memref sig Kind.tc Space.vmem S1x512x1024 EltTy.f32) (harg7 : arg7.IsWhole)
  (arg8 : Memref sig Kind.tc Space.vmem S1x1x1024 EltTy.f32) (harg8 : arg8.IsWhole)
  (arg9 : Memref sig Kind.tc Space.vmem S1x1x1024 EltTy.f32) (harg9 : arg9.IsWhole)
  (arg10 : Memref sig Kind.tc Space.vmem S1x1x1024 EltTy.f32) (harg10 : arg10.IsWhole)
  (arg11 : Memref sig Kind.tc Space.vmem S1x1x1024 EltTy.f32) (harg11 : arg11.IsWhole)
  (arg12 : Memref sig Kind.tc Space.vmem S1x1024 EltTy.f32) (harg12 : arg12.IsWhole)
  (arg13 : Memref sig Kind.tc Space.vmem S1x1024 EltTy.f32) (harg13 : arg13.IsWhole)
  (arg20 : Memref sig Kind.tc Space.vmem S1x512x1024 EltTy.f32) (harg20 : arg20.IsWhole)
  (arg21 : Memref sig Kind.tc Space.vmem S512x2816 EltTy.bf16) (harg21 : arg21.IsWhole)
  (arg22 : Memref sig Kind.tc Space.vmem S512x1024 EltTy.f32) (harg22 : arg22.IsWhole)
  (arg23 : Memref sig Kind.tc Space.vmem S512x1024 EltTy.bf16) (harg23 : arg23.IsWhole)
  (arg24 : Memref sig Kind.tc Space.vmem S512x1024 EltTy.bf16) (harg24 : arg24.IsWhole)
  (arg25 : Memref sig Kind.tc Space.vmem S1024x1024 EltTy.bf16) (harg25 : arg25.IsWhole)
  (arg26 : Memref sig Kind.tc Space.vmem S1024x1024 EltTy.bf16) (harg26 : arg26.IsWhole)
  (arg27 : Memref sig Kind.tc Space.vmem S1024x2816 EltTy.bf16) (harg27 : arg27.IsWhole)
  (arg28 : Memref sig Kind.tc Space.vmem S1024x2816 EltTy.bf16) (harg28 : arg28.IsWhole)
  (arg29 : Memref sig Kind.tc Space.vmem S2816x1024 EltTy.bf16) (harg29 : arg29.IsWhole)
  (x0 : Vec Ideal S1x512x512 .bf16) (x1 x2 x3 x4 : Vec Ideal S1x512x1024 .bf16) (x5 : Vec Ideal S1x512x1024 .f32)
  (x6 x7 x8 x9 : Vec Ideal S1x1x1024 .f32) (x10 x11 : Vec Ideal S1x1024 .f32)
  (fh0 : HbBuf0 (F := Ideal) c hbM0_0) (fh1 : HbBuf0 (F := Ideal) c hbM0_1) (fh2 : HbBuf0 (F := Ideal) c hbM0_2)
  (fh3 : HbBuf0 (F := Ideal) c hbM0_3) (fh4 : HbBuf0 (F := Ideal) c hbM0_4) (fh5 : HbBuf0 (F := Ideal) c hbM0_5)

/-- The pooled branch's projection as copied. -/
theorem paList_canon (p : S512x1024.Idx) : View.canon (paList c fh0) p = (fh0 : Vec Ideal S512x1024 .bf16) p :=
  View.canon_apply_of_pieces (Val := Elt Ideal) (e := .bf16) (fun p : S512x1024.Idx => (fh0 : Vec Ideal S512x1024 .bf16) p) (paList c fh0)
    (fun g hg x => by
      obtain rfl := List.mem_singleton.mp hg
      exact congrArg (fh0 : Vec Ideal S512x1024 .bf16) (funext fun b => Fin.ext (by show (x b : ℕ) = 0 + 1 * (x b : ℕ); omega)))
    p ⟨_, List.mem_singleton_self _, (LoadRect.mem_set _).mpr fun b => ⟨(p b : ℕ), (p b).isLt, by show (p b : ℕ) = 0 + 1 * (p b : ℕ); omega⟩⟩

/-- The retention branch's projection as copied. -/
theorem rbList_canon (p : S1024x1024.Idx) : View.canon (rbList c fh1) p = (fh1 : Vec Ideal S1024x1024 .bf16) p :=
  View.canon_apply_of_pieces (Val := Elt Ideal) (e := .bf16) (fun p : S1024x1024.Idx => (fh1 : Vec Ideal S1024x1024 .bf16) p) (rbList c fh1)
    (fun g hg x => by
      obtain rfl := List.mem_singleton.mp hg
      exact congrArg (fh1 : Vec Ideal S1024x1024 .bf16) (funext fun b => Fin.ext (by show (x b : ℕ) = 0 + 1 * (x b : ℕ); omega)))
    p ⟨_, List.mem_singleton_self _, (LoadRect.mem_set _).mpr fun b => ⟨(p b : ℕ), (p b).isLt, by show (p b : ℕ) = 0 + 1 * (p b : ℕ); omega⟩⟩

/-- The output projection as copied. -/
theorem oList_canon (p : S1024x1024.Idx) : View.canon (oList c fh2) p = (fh2 : Vec Ideal S1024x1024 .bf16) p :=
  View.canon_apply_of_pieces (Val := Elt Ideal) (e := .bf16) (fun p : S1024x1024.Idx => (fh2 : Vec Ideal S1024x1024 .bf16) p) (oList c fh2)
    (fun g hg x => by
      obtain rfl := List.mem_singleton.mp hg
      exact congrArg (fh2 : Vec Ideal S1024x1024 .bf16) (funext fun b => Fin.ext (by show (x b : ℕ) = 0 + 1 * (x b : ℕ); omega)))
    p ⟨_, List.mem_singleton_self _, (LoadRect.mem_set _).mpr fun b => ⟨(p b : ℕ), (p b).isLt, by show (p b : ℕ) = 0 + 1 * (p b : ℕ); omega⟩⟩

/-- The gate weight as copied. -/
theorem w1List_canon (p : S1024x2816.Idx) : View.canon (w1List c fh3) p = (fh3 : Vec Ideal S1024x2816 .bf16) p := by
  have hp : (p 1 : ℕ) < 2816 := (p 1).isLt
  refine View.canon_apply_of_pieces (Val := Elt Ideal) (e := .bf16) (fun p : S1024x2816.Idx => (fh3 : Vec Ideal S1024x2816 .bf16) p) (w1List c fh3) ?_ p ?_
  · intro g hg x
    rcases List.mem_cons.mp hg with rfl | hg
    · rfl
    rcases List.mem_cons.mp hg with rfl | hg
    · rfl
    rcases List.mem_cons.mp hg with rfl | hg
    · rfl
    · exact absurd hg List.not_mem_nil
  · by_cases h1 : (p 1 : ℕ) < 1024
    · refine ⟨_, List.mem_cons_of_mem _ (List.mem_cons_of_mem _ List.mem_cons_self), (LoadRect.mem_set _).mpr fun b => ?_⟩
      match b with
      | 0 => exact ⟨(p 0 : ℕ), (p 0).isLt, by show (p 0 : ℕ) = 0 + 1 * (p 0 : ℕ); omega⟩
      | 1 => exact ⟨(p 1 : ℕ) - 0, by show (p 1 : ℕ) - 0 < 1024; omega, by show (p 1 : ℕ) = 0 + 1 * ((p 1 : ℕ) - 0); omega⟩
    by_cases h2 : (p 1 : ℕ) < 2048
    · refine ⟨_, List.mem_cons_of_mem _ List.mem_cons_self, (LoadRect.mem_set _).mpr fun b => ?_⟩
      match b with
      | 0 => exact ⟨(p 0 : ℕ), (p 0).isLt, by show (p 0 : ℕ) = 0 + 1 * (p 0 : ℕ); omega⟩
      | 1 => exact ⟨(p 1 : ℕ) - 1024, by show (p 1 : ℕ) - 1024 < 1024; omega, by show (p 1 : ℕ) = 1024 + 1 * ((p 1 : ℕ) - 1024); omega⟩
    · refine ⟨_, List.mem_cons_self, (LoadRect.mem_set _).mpr fun b => ?_⟩
      match b with
      | 0 => exact ⟨(p 0 : ℕ), (p 0).isLt, by show (p 0 : ℕ) = 0 + 1 * (p 0 : ℕ); omega⟩
      | 1 => exact ⟨(p 1 : ℕ) - 2048, by show (p 1 : ℕ) - 2048 < 768; omega, by show (p 1 : ℕ) = 2048 + 1 * ((p 1 : ℕ) - 2048); omega⟩

/-- The value weight as copied. -/
theorem w3List_canon (p : S1024x2816.Idx) : View.canon (w3List c fh4) p = (fh4 : Vec Ideal S1024x2816 .bf16) p := by
  have hp : (p 1 : ℕ) < 2816 := (p 1).isLt
  refine View.canon_apply_of_pieces (Val := Elt Ideal) (e := .bf16) (fun p : S1024x2816.Idx => (fh4 : Vec Ideal S1024x2816 .bf16) p) (w3List c fh4) ?_ p ?_
  · intro g hg x
    rcases List.mem_cons.mp hg with rfl | hg
    · rfl
    rcases List.mem_cons.mp hg with rfl | hg
    · rfl
    rcases List.mem_cons.mp hg with rfl | hg
    · rfl
    · exact absurd hg List.not_mem_nil
  · by_cases h1 : (p 1 : ℕ) < 1024
    · refine ⟨_, List.mem_cons_of_mem _ (List.mem_cons_of_mem _ List.mem_cons_self), (LoadRect.mem_set _).mpr fun b => ?_⟩
      match b with
      | 0 => exact ⟨(p 0 : ℕ), (p 0).isLt, by show (p 0 : ℕ) = 0 + 1 * (p 0 : ℕ); omega⟩
      | 1 => exact ⟨(p 1 : ℕ) - 0, by show (p 1 : ℕ) - 0 < 1024; omega, by show (p 1 : ℕ) = 0 + 1 * ((p 1 : ℕ) - 0); omega⟩
    by_cases h2 : (p 1 : ℕ) < 2048
    · refine ⟨_, List.mem_cons_of_mem _ List.mem_cons_self, (LoadRect.mem_set _).mpr fun b => ?_⟩
      match b with
      | 0 => exact ⟨(p 0 : ℕ), (p 0).isLt, by show (p 0 : ℕ) = 0 + 1 * (p 0 : ℕ); omega⟩
      | 1 => exact ⟨(p 1 : ℕ) - 1024, by show (p 1 : ℕ) - 1024 < 1024; omega, by show (p 1 : ℕ) = 1024 + 1 * ((p 1 : ℕ) - 1024); omega⟩
    · refine ⟨_, List.mem_cons_self, (LoadRect.mem_set _).mpr fun b => ?_⟩
      match b with
      | 0 => exact ⟨(p 0 : ℕ), (p 0).isLt, by show (p 0 : ℕ) = 0 + 1 * (p 0 : ℕ); omega⟩
      | 1 => exact ⟨(p 1 : ℕ) - 2048, by show (p 1 : ℕ) - 2048 < 768; omega, by show (p 1 : ℕ) = 2048 + 1 * ((p 1 : ℕ) - 2048); omega⟩

/-- The feed-forward's output weight as copied. -/
theorem w2List_canon (p : S2816x1024.Idx) : View.canon (w2List c fh5) p = (fh5 : Vec Ideal S2816x1024 .bf16) p := by
  have hp : (p 0 : ℕ) < 2816 := (p 0).isLt
  refine View.canon_apply_of_pieces (Val := Elt Ideal) (e := .bf16) (fun p : S2816x1024.Idx => (fh5 : Vec Ideal S2816x1024 .bf16) p) (w2List c fh5) ?_ p ?_
  · intro g hg x
    rcases List.mem_cons.mp hg with rfl | hg
    · rfl
    rcases List.mem_cons.mp hg with rfl | hg
    · rfl
    rcases List.mem_cons.mp hg with rfl | hg
    · rfl
    · exact absurd hg List.not_mem_nil
  · by_cases h1 : (p 0 : ℕ) < 1024
    · refine ⟨_, List.mem_cons_of_mem _ (List.mem_cons_of_mem _ List.mem_cons_self), (LoadRect.mem_set _).mpr fun b => ?_⟩
      match b with
      | 0 => exact ⟨(p 0 : ℕ) - 0, by show (p 0 : ℕ) - 0 < 1024; omega, by show (p 0 : ℕ) = 0 + 1 * ((p 0 : ℕ) - 0); omega⟩
      | 1 => exact ⟨(p 1 : ℕ), (p 1).isLt, by show (p 1 : ℕ) = 0 + 1 * (p 1 : ℕ); omega⟩
    by_cases h2 : (p 0 : ℕ) < 2048
    · refine ⟨_, List.mem_cons_of_mem _ List.mem_cons_self, (LoadRect.mem_set _).mpr fun b => ?_⟩
      match b with
      | 0 => exact ⟨(p 0 : ℕ) - 1024, by show (p 0 : ℕ) - 1024 < 1024; omega, by show (p 0 : ℕ) = 1024 + 1 * ((p 0 : ℕ) - 1024); omega⟩
      | 1 => exact ⟨(p 1 : ℕ), (p 1).isLt, by show (p 1 : ℕ) = 0 + 1 * (p 1 : ℕ); omega⟩
    · refine ⟨_, List.mem_cons_self, (LoadRect.mem_set _).mpr fun b => ?_⟩
      match b with
      | 0 => exact ⟨(p 0 : ℕ) - 2048, by show (p 0 : ℕ) - 2048 < 768; omega, by show (p 0 : ℕ) = 2048 + 1 * ((p 0 : ℕ) - 2048); omega⟩
      | 1 => exact ⟨(p 1 : ℕ), (p 1).isLt, by show (p 1 : ℕ) = 0 + 1 * (p 1 : ℕ); omega⟩

/-- The pooled branch's projection as the first point loads it. -/
theorem paList_read (k : Fin 512) (y : Fin 1024) : arg24.view.readCov (paList c fh0)
      (Rect.unit (s := S512x1024) ![0, 0] S512x1024.size inb_S512x1024_S512x1024_0_0).toLoadRect (ix2 k y) = (fh0 : Vec Ideal S512x1024 .bf16) (ix2 k y) := by
  rw [View.readCov_eq_canon']
  exact (paList_canon c fh0 _).trans (congrArg (fh0 : Vec Ideal S512x1024 .bf16) (origin2 _ _ (ix2 k y) fun _ => rfl))

/-- The retention branch's projection as the first point loads it. -/
theorem rbList_read (k : Fin 1024) (y : Fin 1024) : arg25.view.readCov (rbList c fh1)
      (Rect.unit (s := S1024x1024) ![0, 0] S1024x1024.size inb_S1024x1024_S1024x1024_0_0).toLoadRect (ix2 k y) = (fh1 : Vec Ideal S1024x1024 .bf16) (ix2 k y) := by
  rw [View.readCov_eq_canon']
  exact (rbList_canon c fh1 _).trans (congrArg (fh1 : Vec Ideal S1024x1024 .bf16) (origin2 _ _ (ix2 k y) fun _ => rfl))

/-- The output projection as the first point loads it. -/
theorem oList_read (k : Fin 1024) (y : Fin 1024) : arg26.view.readCov (oList c fh2)
      (Rect.unit (s := S1024x1024) ![0, 0] S1024x1024.size inb_S1024x1024_S1024x1024_0_0).toLoadRect (ix2 k y) = (fh2 : Vec Ideal S1024x1024 .bf16) (ix2 k y) := by
  rw [View.readCov_eq_canon']
  exact (oList_canon c fh2 _).trans (congrArg (fh2 : Vec Ideal S1024x1024 .bf16) (origin2 _ _ (ix2 k y) fun _ => rfl))

/-- The gate weight as the first point loads its column tiles. -/
theorem w1List_read (n : Fin 11) (k : Fin 1024) (w : Fin 256) : arg27.view.readCov (w1List c fh3) (colRect n).toLoadRect (ix2 k w)
    = (fh3 : Vec Ideal S1024x2816 .bf16) (ix2 k (tile n w)) := by
  rw [View.readCov_eq_canon']
  exact (w1List_canon c fh3 _).trans (congrArg (fh3 : Vec Ideal S1024x2816 .bf16) (colRect_idx n k w))

/-- The value weight as the first point loads its column tiles. -/
theorem w3List_read (n : Fin 11) (k : Fin 1024) (w : Fin 256) : arg28.view.readCov (w3List c fh4) (colRect n).toLoadRect (ix2 k w)
    = (fh4 : Vec Ideal S1024x2816 .bf16) (ix2 k (tile n w)) := by
  rw [View.readCov_eq_canon']
  exact (w3List_canon c fh4 _).trans (congrArg (fh4 : Vec Ideal S1024x2816 .bf16) (colRect_idx n k w))

/-- The feed-forward's output weight as the first point loads it. -/
theorem w2List_read (k : Fin 2816) (y : Fin 1024) : arg29.view.readCov (w2List c fh5)
      (Rect.unit (s := S2816x1024) ![0, 0] S2816x1024.size inb_S2816x1024_S2816x1024_0_0).toLoadRect (ix2 k y) = (fh5 : Vec Ideal S2816x1024 .bf16) (ix2 k y) := by
  rw [View.readCov_eq_canon']
  exact (w2List_canon c fh5 _).trans (congrArg (fh5 : Vec Ideal S2816x1024 .bf16) (origin2 _ _ (ix2 k y) fun _ => rfl))

/-- A load from a block, at an entry. -/
theorem load_apply {s : Shape} {e : EltTy} (a : Memref sig Kind.tc Space.vmem s e) (ha : a.IsWhole) (x : Vec Ideal s e)
    (off size : Fin s.rank → ℕ) (inb : ∀ b, off b + size b ≤ s.size b) (j : (Rect.unit off size inb).shape.Idx) (i : s.Idx)
    (hi : ∀ b, (i b : ℕ) = off b + j b) :
    View.readAt (Elt Ideal) a.view (Rect.unit off size inb).toLoadRect (ha.unread x) j = x i := by
  rw [View.readAt_eq_ld, ha.read_unread]
  exact congrArg x (funext fun b => Fin.ext (by show off b + 1 * (j b : ℕ) = i b; rw [hi b]; omega))

section Rows

variable {x0 x1 x2 x3 x4 x5 x6 x7 x8 x9 x10 x11} {R : Fin 512 → Row}
  (h0 : ∀ r k, x0 (ix3 (0 : Fin 1) r k) = (R r).yp k) (h1 : ∀ r k, x1 (ix3 (0 : Fin 1) r k) = (R r).yr k)
  (h2 : ∀ r k, x2 (ix3 (0 : Fin 1) r k) = (R r).sg k) (h3 : ∀ r k, x3 (ix3 (0 : Fin 1) r k) = (R r).ga k)
  (h4 : ∀ r k, x4 (ix3 (0 : Fin 1) r k) = (R r).gb k) (h5 : ∀ r k, x5 (ix3 (0 : Fin 1) r k) = (R r).x k)
  (h6 : ∀ r k, x6 (ix3 (0 : Fin 1) (0 : Fin 1) k) = (R r).gm k) (h7 : ∀ r k, x7 (ix3 (0 : Fin 1) (0 : Fin 1) k) = (R r).sh k)
  (h8 : ∀ r k, x8 (ix3 (0 : Fin 1) (0 : Fin 1) k) = (R r).sc k) (h9 : ∀ r k, x9 (ix3 (0 : Fin 1) (0 : Fin 1) k) = (R r).gf k)
  (h10 : ∀ r k, x10 (ix2 (0 : Fin 1) k) = (R r).gain k) (h11 : ∀ r k, x11 (ix2 (0 : Fin 1) k) = (R r).gfin k)
include h0 h1 h2 h3 h4 h5 h6 h7 h8 h9 h10 h11

/-- What a point loads is the rows of its tokens, when its blocks and the weights are. -/
theorem leaves_isRow {pa rb o w1 w3 w2} (hpa : ∀ r k y, pa (ix2 k y) = (R r).pa k y) (hrb : ∀ r k y, rb (ix2 k y) = (R r).rb k y)
    (ho : ∀ r k y, o (ix2 k y) = (R r).o k y) (hw1 : ∀ r n k w, w1 n (ix2 k w) = (R r).w1 k (tile n w))
    (hw3 : ∀ r n k w, w3 n (ix2 k w) = (R r).w3 k (tile n w)) (hw2 : ∀ r k y, w2 (ix2 k y) = (R r).w2 k y) :
    IsRow (leaves arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 pa rb o w1 w3 w2) R where
  yp r k := (load_apply arg2 harg2 x0 ![0, 0, 0] S1x512x512.size inb_S1x512x512_S1x512x512_0_0_0 (ix3 (0 : Fin 1) r k) (ix3 (0 : Fin 1) r k) (place3 _)).trans (h0 r k)
  yr n r w := (load_apply arg3 harg3 x1 ![0, 0, 128 * (n : ℕ)] S1x512x128.size _ (ix3 (0 : Fin 1) r w) (ix3 (0 : Fin 1) r (col n w)) (head_place n r w)).trans (h1 r (col n w))
  sg n r w := (load_apply arg4 harg4 x2 ![0, 0, 128 * (n : ℕ)] S1x512x128.size _ (ix3 (0 : Fin 1) r w) (ix3 (0 : Fin 1) r (col n w)) (head_place n r w)).trans (h2 r (col n w))
  ga r k := (load_apply arg5 harg5 x3 ![0, 0, 0] S1x512x1024.size inb_S1x512x1024_S1x512x1024_0_0_0 (ix3 (0 : Fin 1) r k) (ix3 (0 : Fin 1) r k) (place3 _)).trans (h3 r k)
  gb r k := (load_apply arg6 harg6 x4 ![0, 0, 0] S1x512x1024.size inb_S1x512x1024_S1x512x1024_0_0_0 (ix3 (0 : Fin 1) r k) (ix3 (0 : Fin 1) r k) (place3 _)).trans (h4 r k)
  xlo r k := (load_apply arg7 harg7 x5 ![0, 0, 0] S1x256x1024.size inb_S1x512x1024_S1x256x1024_0_0_0 (ix3 (0 : Fin 1) r k) (ix3 (0 : Fin 1) (lo r) k) (lo_place r k)).trans (h5 (lo r) k)
  xhi r k := (load_apply arg7 harg7 x5 ![0, 256, 0] S1x256x1024.size inb_S1x512x1024_S1x256x1024_0_256_0 (ix3 (0 : Fin 1) r k) (ix3 (0 : Fin 1) (hi r) k) (hi_place r k)).trans (h5 (hi r) k)
  gm r k := (load_apply arg8 harg8 x6 ![0, 0, 0] S1x1x1024.size inb_S1x1x1024_S1x1x1024_0_0_0 (ix3 (0 : Fin 1) (0 : Fin 1) k) (ix3 (0 : Fin 1) (0 : Fin 1) k) (place3 _)).trans (h6 r k)
  sh r k := (load_apply arg9 harg9 x7 ![0, 0, 0] S1x1x1024.size inb_S1x1x1024_S1x1x1024_0_0_0 (ix3 (0 : Fin 1) (0 : Fin 1) k) (ix3 (0 : Fin 1) (0 : Fin 1) k) (place3 _)).trans (h7 r k)
  sc r k := (load_apply arg10 harg10 x8 ![0, 0, 0] S1x1x1024.size inb_S1x1x1024_S1x1x1024_0_0_0 (ix3 (0 : Fin 1) (0 : Fin 1) k) (ix3 (0 : Fin 1) (0 : Fin 1) k) (place3 _)).trans (h8 r k)
  gf r k := (load_apply arg11 harg11 x9 ![0, 0, 0] S1x1x1024.size inb_S1x1x1024_S1x1x1024_0_0_0 (ix3 (0 : Fin 1) (0 : Fin 1) k) (ix3 (0 : Fin 1) (0 : Fin 1) k) (place3 _)).trans (h9 r k)
  gain r k := (load_apply arg12 harg12 x10 ![0, 0] S1x1024.size inb_S1x1024_S1x1024_0_0 (ix2 (0 : Fin 1) k) (ix2 (0 : Fin 1) k) (place2 _)).trans (h10 r k)
  gfin r k := (load_apply arg13 harg13 x11 ![0, 0] S1x1024.size inb_S1x1024_S1x1024_0_0 (ix2 (0 : Fin 1) k) (ix2 (0 : Fin 1) k) (place2 _)).trans (h11 r k)
  pa := hpa
  rb := hrb
  o := ho
  w1 := hw1
  w3 := hw3
  w2 := hw2

/-- A later point's block of results. -/
theorem outB_apply (hc0 : ¬cond0_0 i) (hc1 : cond0_1 i) (xs3 : Vec Ideal S512x1024 .bf16) (xs4 xs5 : Vec Ideal S1024x1024 .bf16)
    (xs6 xs7 : Vec Ideal S1024x2816 .bf16) (xs8 : Vec Ideal S2816x1024 .bf16) (hpa : ∀ r k y, xs3 (ix2 k y) = (R r).pa k y)
    (hrb : ∀ r k y, xs4 (ix2 k y) = (R r).rb k y) (ho : ∀ r k y, xs5 (ix2 k y) = (R r).o k y)
    (hw1 : ∀ r k y, xs6 (ix2 k y) = (R r).w1 k y) (hw3 : ∀ r k y, xs7 (ix2 k y) = (R r).w3 k y)
    (hw2 : ∀ r k y, xs8 (ix2 k y) = (R r).w2 k y) (p : S1x512x1024.Idx) :
    out0_B_12 (F := Ideal) c i arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 arg27 harg27 arg28 harg28 arg29 harg29
      hc0 hc1 x0 x1 x2 x3 x4 x5 x6 x7 x8 x9 x10 x11 xs3 xs4 xs5 xs6 xs7 xs8 fh0 fh1 fh2 fh3 fh4 fh5 p = (R (p 1)).out (p 2) := by
  rw [out0_B_12, View.read_writes_junk_eq_canon, runB_eq]
  refine out_canon arg21 arg22 arg23 (leaves_isRow arg2 harg2 arg3 harg3 arg4 harg4 arg5 harg5 arg6 harg6 arg7 harg7 arg8 harg8 arg9 harg9 arg10 harg10 arg11 harg11 arg12 harg12 arg13 harg13 h0 h1 h2 h3 h4 h5 h6 h7 h8 h9 h10 h11 ?_ ?_ ?_ ?_ ?_ ?_) p
  · exact fun r k y => (load_apply arg24 harg24 xs3 ![0, 0] S512x1024.size inb_S512x1024_S512x1024_0_0 (ix2 k y) (ix2 k y) (place2 _)).trans (hpa r k y)
  · exact fun r k y => (load_apply arg25 harg25 xs4 ![0, 0] S1024x1024.size inb_S1024x1024_S1024x1024_0_0 (ix2 k y) (ix2 k y) (place2 _)).trans (hrb r k y)
  · exact fun r k y => (load_apply arg26 harg26 xs5 ![0, 0] S1024x1024.size inb_S1024x1024_S1024x1024_0_0 (ix2 k y) (ix2 k y) (place2 _)).trans (ho r k y)
  · exact fun r n k w => (load_apply arg27 harg27 xs6 ![0, 256 * (n : ℕ)] S1024x256.size _ (ix2 k w) (ix2 k (tile n w)) (tile_place n k w)).trans (hw1 r k (tile n w))
  · exact fun r n k w => (load_apply arg28 harg28 xs7 ![0, 256 * (n : ℕ)] S1024x256.size _ (ix2 k w) (ix2 k (tile n w)) (tile_place n k w)).trans (hw3 r k (tile n w))
  · exact fun r k y => (load_apply arg29 harg29 xs8 ![0, 0] S2816x1024.size inb_S2816x1024_S2816x1024_0_0 (ix2 k y) (ix2 k y) (place2 _)).trans (hw2 r k y)

/-- The first point's block of results. -/
theorem outA_apply (hc0 : cond0_0 i) (hc1 : ¬cond0_1 i) (hpa : ∀ r k y, (fh0 : Vec Ideal S512x1024 .bf16) (ix2 k y) = (R r).pa k y)
    (hrb : ∀ r k y, (fh1 : Vec Ideal S1024x1024 .bf16) (ix2 k y) = (R r).rb k y) (ho : ∀ r k y, (fh2 : Vec Ideal S1024x1024 .bf16) (ix2 k y) = (R r).o k y)
    (hw1 : ∀ r k y, (fh3 : Vec Ideal S1024x2816 .bf16) (ix2 k y) = (R r).w1 k y) (hw3 : ∀ r k y, (fh4 : Vec Ideal S1024x2816 .bf16) (ix2 k y) = (R r).w3 k y)
    (hw2 : ∀ r k y, (fh5 : Vec Ideal S2816x1024 .bf16) (ix2 k y) = (R r).w2 k y) (p : S1x512x1024.Idx) :
    out0_A_12 (F := Ideal) c i arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 arg27 harg27 arg28 harg28 arg29 harg29
      hc0 hc1 x0 x1 x2 x3 x4 x5 x6 x7 x8 x9 x10 x11 fh0 fh1 fh2 fh3 fh4 fh5 p = (R (p 1)).out (p 2) := by
  rw [out0_A_12, View.read_writes_junk_eq_canon, runA_eq]
  refine out_canon arg21 arg22 arg23 (leaves_isRow arg2 harg2 arg3 harg3 arg4 harg4 arg5 harg5 arg6 harg6 arg7 harg7 arg8 harg8 arg9 harg9 arg10 harg10 arg11 harg11 arg12 harg12 arg13 harg13 h0 h1 h2 h3 h4 h5 h6 h7 h8 h9 h10 h11 ?_ ?_ ?_ ?_ ?_ ?_) p
  · exact fun r k y => (paList_read c arg24 fh0 k y).trans (hpa r k y)
  · exact fun r k y => (rbList_read c arg25 fh1 k y).trans (hrb r k y)
  · exact fun r k y => (oList_read c arg26 fh2 k y).trans (ho r k y)
  · exact fun r n k w => (w1List_read c arg27 fh3 n k w).trans (hw1 r k (tile n w))
  · exact fun r n k w => (w3List_read c arg28 fh4 n k w).trans (hw3 r k (tile n w))
  · exact fun r k y => (w2List_read c arg29 fh5 k y).trans (hw2 r k y)

end Rows

section Copies

variable (hc0 : cond0_0 i) (hc1 : ¬cond0_1 i)

/-- The pooled branch's projection in its buffer after the first point. -/
theorem pa_copied : sout0_A_3 (F := Ideal) c i arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 arg27 harg27 arg28 harg28 arg29 harg29
      hc0 hc1 x0 x1 x2 x3 x4 x5 x6 x7 x8 x9 x10 x11 fh0 fh1 fh2 fh3 fh4 fh5 = (fh0 : Vec Ideal S512x1024 .bf16) := by
  funext p
  rw [sout0_A_3, View.read_writes_junk_eq_canon, runA_paList]
  exact paList_canon c fh0 p

/-- The retention branch's projection in its buffer after the first point. -/
theorem rb_copied : sout0_A_4 (F := Ideal) c i arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 arg27 harg27 arg28 harg28 arg29 harg29
      hc0 hc1 x0 x1 x2 x3 x4 x5 x6 x7 x8 x9 x10 x11 fh0 fh1 fh2 fh3 fh4 fh5 = (fh1 : Vec Ideal S1024x1024 .bf16) := by
  funext p
  rw [sout0_A_4, View.read_writes_junk_eq_canon, runA_rbList]
  exact rbList_canon c fh1 p

/-- The output projection in its buffer after the first point. -/
theorem o_copied : sout0_A_5 (F := Ideal) c i arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 arg27 harg27 arg28 harg28 arg29 harg29
      hc0 hc1 x0 x1 x2 x3 x4 x5 x6 x7 x8 x9 x10 x11 fh0 fh1 fh2 fh3 fh4 fh5 = (fh2 : Vec Ideal S1024x1024 .bf16) := by
  funext p
  rw [sout0_A_5, View.read_writes_junk_eq_canon, runA_oList]
  exact oList_canon c fh2 p

/-- The gate weight in its buffer after the first point. -/
theorem w1_copied : sout0_A_6 (F := Ideal) c i arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 arg27 harg27 arg28 harg28 arg29 harg29
      hc0 hc1 x0 x1 x2 x3 x4 x5 x6 x7 x8 x9 x10 x11 fh0 fh1 fh2 fh3 fh4 fh5 = (fh3 : Vec Ideal S1024x2816 .bf16) := by
  funext p
  rw [sout0_A_6, View.read_writes_junk_eq_canon, runA_w1List]
  exact w1List_canon c fh3 p

/-- The value weight in its buffer after the first point. -/
theorem w3_copied : sout0_A_7 (F := Ideal) c i arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 arg27 harg27 arg28 harg28 arg29 harg29
      hc0 hc1 x0 x1 x2 x3 x4 x5 x6 x7 x8 x9 x10 x11 fh0 fh1 fh2 fh3 fh4 fh5 = (fh4 : Vec Ideal S1024x2816 .bf16) := by
  funext p
  rw [sout0_A_7, View.read_writes_junk_eq_canon, runA_w3List]
  exact w3List_canon c fh4 p

/-- The feed-forward's output weight in its buffer after the first point. -/
theorem w2_copied : sout0_A_8 (F := Ideal) c i arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 arg27 harg27 arg28 harg28 arg29 harg29
      hc0 hc1 x0 x1 x2 x3 x4 x5 x6 x7 x8 x9 x10 x11 fh0 fh1 fh2 fh3 fh4 fh5 = (fh5 : Vec Ideal S2816x1024 .bf16) := by
  funext p
  rw [sout0_A_8, View.read_writes_junk_eq_canon, runA_w2List]
  exact w2List_canon c fh5 p

end Copies

end Cert.Kernel2Ideal.Tail
-- ==== Proof.TailValue.lean ====
module

public import proofs.«01_k».proof.Proof.TailPoint
public import Idealize.ShloMosaic.Lib.Pipeline.Value

/-! The result array of the layer's tail: every token's row of results. -/

@[expose] public section

set_option maxRecDepth 16384

noncomputable section

namespace Cert.Kernel2Ideal.Tail

open Idealize.ShloMosaic Idealize.ShloMosaic.TcCoe Idealize.SL.Sem
open Cert.Kernel2Ideal Cert.Kernel2Ideal.Gen Cert.Tail

variable (m : (ℓ : Loc nD τ sig) → Buf (Elt Ideal) ℓ) (c : Dev nD)

/-- What the tail of one token reads, from the arguments as launched. -/
def argRow (b : Fin 8) (t : Fin 2048) : Row where
  yp k := (m ((c : Thread nD τ).loc main_arg0) : Vec Ideal S8x2048x512 .bf16) (ix3 b t k)
  yr k := (m ((c : Thread nD τ).loc main_arg1) : Vec Ideal S8x2048x1024 .bf16) (ix3 b t k)
  sg k := (m ((c : Thread nD τ).loc main_arg2) : Vec Ideal S8x2048x1024 .bf16) (ix3 b t k)
  ga k := (m ((c : Thread nD τ).loc main_arg3) : Vec Ideal S8x2048x1024 .bf16) (ix3 b t k)
  gb k := (m ((c : Thread nD τ).loc main_arg4) : Vec Ideal S8x2048x1024 .bf16) (ix3 b t k)
  x k := (m ((c : Thread nD τ).loc main_arg5) : Vec Ideal S8x2048x1024 .f32) (ix3 b t k)
  gm k := (m ((c : Thread nD τ).loc main_arg6) : Vec Ideal S16x1x4096 .f32) (ix3 (⟨b, by omega⟩ : Fin 16) (0 : Fin 1) (⟨k, by omega⟩ : Fin 4096))
  sh k := (m ((c : Thread nD τ).loc main_arg6) : Vec Ideal S16x1x4096 .f32) (ix3 (⟨b, by omega⟩ : Fin 16) (0 : Fin 1) (⟨1024 + k, by omega⟩ : Fin 4096))
  sc k := (m ((c : Thread nD τ).loc main_arg6) : Vec Ideal S16x1x4096 .f32) (ix3 (⟨b, by omega⟩ : Fin 16) (0 : Fin 1) (⟨2048 + k, by omega⟩ : Fin 4096))
  gf k := (m ((c : Thread nD τ).loc main_arg6) : Vec Ideal S16x1x4096 .f32) (ix3 (⟨b, by omega⟩ : Fin 16) (0 : Fin 1) (⟨3072 + k, by omega⟩ : Fin 4096))
  gain k := (m ((c : Thread nD τ).loc main_arg7) : Vec Ideal S1x1024 .f32) (ix2 (0 : Fin 1) k)
  gfin k := (m ((c : Thread nD τ).loc main_arg8) : Vec Ideal S1x1024 .f32) (ix2 (0 : Fin 1) k)
  pa k y := (m ((c : Thread nD τ).loc main_arg9) : Vec Ideal S512x1024 .bf16) (ix2 k y)
  rb k y := (m ((c : Thread nD τ).loc main_arg10) : Vec Ideal S1024x1024 .bf16) (ix2 k y)
  o k y := (m ((c : Thread nD τ).loc main_arg11) : Vec Ideal S1024x1024 .bf16) (ix2 k y)
  w1 k y := (m ((c : Thread nD τ).loc main_arg12) : Vec Ideal S1024x2816 .bf16) (ix2 k y)
  w3 k y := (m ((c : Thread nD τ).loc main_arg13) : Vec Ideal S1024x2816 .bf16) (ix2 k y)
  w2 k y := (m ((c : Thread nD τ).loc main_arg14) : Vec Ideal S2816x1024 .bf16) (ix2 k y)

/-- The tail's results as the result array. -/
def result : Vec Ideal S8x2048x1024 .f32 := fun y => (argRow m c (y 0) (y 1)).out (y 2)

/-- A grid point's block indices into the arguments and the result. -/
theorem index_eq : ∀ t : Fin grid0.N, win0_0.index t = ![(t : ℕ) / 4, (t : ℕ) % 4, 0] ∧ win0_1.index t = ![(t : ℕ) / 4, (t : ℕ) % 4, 0]
    ∧ win0_2.index t = ![(t : ℕ) / 4, (t : ℕ) % 4, 0] ∧ win0_3.index t = ![(t : ℕ) / 4, (t : ℕ) % 4, 0]
    ∧ win0_4.index t = ![(t : ℕ) / 4, (t : ℕ) % 4, 0] ∧ win0_5.index t = ![(t : ℕ) / 4, (t : ℕ) % 4, 0]
    ∧ win0_6.index t = ![(t : ℕ) / 4, 0, 0] ∧ win0_7.index t = ![(t : ℕ) / 4, 0, 1] ∧ win0_8.index t = ![(t : ℕ) / 4, 0, 2]
    ∧ win0_9.index t = ![(t : ℕ) / 4, 0, 3] ∧ win0_10.index t = ![0, 0] ∧ win0_11.index t = ![0, 0]
    ∧ win0_12.index t = ![(t : ℕ) / 4, (t : ℕ) % 4, 0] := by
  decide +kernel

/-- The batch element of a grid point. -/
def batch (t : Fin cfg0.N) : Fin 8 := ⟨(t : ℕ) / 4, by have h : cfg0.N = 32 := N_0; have := t.isLt; omega⟩

/-- The token of a row of a grid point's tile. -/
def token (t : Fin cfg0.N) (r : Fin 512) : Fin 2048 := ⟨512 * ((t : ℕ) % 4) + r, by omega⟩

/-- The rows of a grid point's tokens. -/
def rows (t : Fin cfg0.N) (r : Fin 512) : Row := argRow m c (batch t) (token t r)

/-- An index of a rank-3 array by its coordinates. -/
theorem ix3_of {a b d : ℕ} (i : (⟨3, ![a, b, d]⟩ : Shape).Idx) (x : Fin a) (y : Fin b) (z : Fin d) (h0 : (i 0 : ℕ) = x) (h1 : (i 1 : ℕ) = y)
    (h2 : (i 2 : ℕ) = z) : i = ix3 x y z := by
  funext n
  match n with
  | ⟨0, _⟩ => exact Fin.ext h0
  | ⟨1, _⟩ => exact Fin.ext h1
  | ⟨2, _⟩ => exact Fin.ext h2

/-- An index of a matrix by its coordinates. -/
theorem ix2_of {a b : ℕ} (i : (⟨2, ![a, b]⟩ : Shape).Idx) (x : Fin a) (y : Fin b) (h0 : (i 0 : ℕ) = x) (h1 : (i 1 : ℕ) = y) : i = ix2 x y := by
  funext n
  match n with
  | ⟨0, _⟩ => exact Fin.ext h0
  | ⟨1, _⟩ => exact Fin.ext h1

/-- The pooled branch's block. -/
theorem iblk0_apply (t : Fin cfg0.N) (r : Fin 512) (k : Fin 512) : (iblk m c 0 t : Vec Ideal S1x512x512 .bf16) (ix3 (0 : Fin 1) r k) = (rows m c t r).yp k := by
  have hi := (index_eq t).1
  unfold iblk
  rw [View.read_apply]
  show V m c main_arg0 _ = _
  rw [V_main_arg0]
  refine congrArg (m ((c : Thread nD τ).loc main_arg0) : Vec Ideal S8x2048x512 .bf16) (ix3_of _ (batch t) (token t r) k ?_ ?_ ?_)
  · show win0_0.index t 0 * 1 + 1 * 0 = _; rw [hi]; show (t : ℕ) / 4 * 1 + 1 * 0 = (t : ℕ) / 4; omega
  · show win0_0.index t 1 * 512 + 1 * (r : ℕ) = _; rw [hi]; show (t : ℕ) % 4 * 512 + 1 * (r : ℕ) = 512 * ((t : ℕ) % 4) + r; omega
  · show win0_0.index t 2 * 512 + 1 * (k : ℕ) = _; rw [hi]; show 0 * 512 + 1 * (k : ℕ) = k; omega

/-- The retention's block. -/
theorem iblk1_apply (t : Fin cfg0.N) (r : Fin 512) (k : Fin 1024) : (iblk m c 1 t : Vec Ideal S1x512x1024 .bf16) (ix3 (0 : Fin 1) r k) = (rows m c t r).yr k := by
  have hi := (index_eq t).2.1
  unfold iblk
  rw [View.read_apply]
  show V m c main_arg1 _ = _
  rw [V_main_arg1]
  refine congrArg (m ((c : Thread nD τ).loc main_arg1) : Vec Ideal S8x2048x1024 .bf16) (ix3_of _ (batch t) (token t r) k ?_ ?_ ?_)
  · show win0_1.index t 0 * 1 + 1 * 0 = _; rw [hi]; show (t : ℕ) / 4 * 1 + 1 * 0 = (t : ℕ) / 4; omega
  · show win0_1.index t 1 * 512 + 1 * (r : ℕ) = _; rw [hi]; show (t : ℕ) % 4 * 512 + 1 * (r : ℕ) = 512 * ((t : ℕ) % 4) + r; omega
  · show win0_1.index t 2 * 1024 + 1 * (k : ℕ) = _; rw [hi]; show 0 * 1024 + 1 * (k : ℕ) = k; omega

/-- The head gates' block. -/
theorem iblk2_apply (t : Fin cfg0.N) (r : Fin 512) (k : Fin 1024) : (iblk m c 2 t : Vec Ideal S1x512x1024 .bf16) (ix3 (0 : Fin 1) r k) = (rows m c t r).sg k := by
  have hi := (index_eq t).2.2.1
  unfold iblk
  rw [View.read_apply]
  show V m c main_arg2 _ = _
  rw [V_main_arg2]
  refine congrArg (m ((c : Thread nD τ).loc main_arg2) : Vec Ideal S8x2048x1024 .bf16) (ix3_of _ (batch t) (token t r) k ?_ ?_ ?_)
  · show win0_2.index t 0 * 1 + 1 * 0 = _; rw [hi]; show (t : ℕ) / 4 * 1 + 1 * 0 = (t : ℕ) / 4; omega
  · show win0_2.index t 1 * 512 + 1 * (r : ℕ) = _; rw [hi]; show (t : ℕ) % 4 * 512 + 1 * (r : ℕ) = 512 * ((t : ℕ) % 4) + r; omega
  · show win0_2.index t 2 * 1024 + 1 * (k : ℕ) = _; rw [hi]; show 0 * 1024 + 1 * (k : ℕ) = k; omega

/-- The pooled branch's gates' block. -/
theorem iblk3_apply (t : Fin cfg0.N) (r : Fin 512) (k : Fin 1024) : (iblk m c 3 t : Vec Ideal S1x512x1024 .bf16) (ix3 (0 : Fin 1) r k) = (rows m c t r).ga k := by
  have hi := (index_eq t).2.2.2.1
  unfold iblk
  rw [View.read_apply]
  show V m c main_arg3 _ = _
  rw [V_main_arg3]
  refine congrArg (m ((c : Thread nD τ).loc main_arg3) : Vec Ideal S8x2048x1024 .bf16) (ix3_of _ (batch t) (token t r) k ?_ ?_ ?_)
  · show win0_3.index t 0 * 1 + 1 * 0 = _; rw [hi]; show (t : ℕ) / 4 * 1 + 1 * 0 = (t : ℕ) / 4; omega
  · show win0_3.index t 1 * 512 + 1 * (r : ℕ) = _; rw [hi]; show (t : ℕ) % 4 * 512 + 1 * (r : ℕ) = 512 * ((t : ℕ) % 4) + r; omega
  · show win0_3.index t 2 * 1024 + 1 * (k : ℕ) = _; rw [hi]; show 0 * 1024 + 1 * (k : ℕ) = k; omega

/-- The retention branch's gates' block. -/
theorem iblk4_apply (t : Fin cfg0.N) (r : Fin 512) (k : Fin 1024) : (iblk m c 4 t : Vec Ideal S1x512x1024 .bf16) (ix3 (0 : Fin 1) r k) = (rows m c t r).gb k := by
  have hi := (index_eq t).2.2.2.2.1
  unfold iblk
  rw [View.read_apply]
  show V m c main_arg4 _ = _
  rw [V_main_arg4]
  refine congrArg (m ((c : Thread nD τ).loc main_arg4) : Vec Ideal S8x2048x1024 .bf16) (ix3_of _ (batch t) (token t r) k ?_ ?_ ?_)
  · show win0_4.index t 0 * 1 + 1 * 0 = _; rw [hi]; show (t : ℕ) / 4 * 1 + 1 * 0 = (t : ℕ) / 4; omega
  · show win0_4.index t 1 * 512 + 1 * (r : ℕ) = _; rw [hi]; show (t : ℕ) % 4 * 512 + 1 * (r : ℕ) = 512 * ((t : ℕ) % 4) + r; omega
  · show win0_4.index t 2 * 1024 + 1 * (k : ℕ) = _; rw [hi]; show 0 * 1024 + 1 * (k : ℕ) = k; omega

/-- The residual stream's block. -/
theorem iblk5_apply (t : Fin cfg0.N) (r : Fin 512) (k : Fin 1024) : (iblk m c 5 t : Vec Ideal S1x512x1024 .f32) (ix3 (0 : Fin 1) r k) = (rows m c t r).x k := by
  have hi := (index_eq t).2.2.2.2.2.1
  unfold iblk
  rw [View.read_apply]
  show V m c main_arg5 _ = _
  rw [V_main_arg5]
  refine congrArg (m ((c : Thread nD τ).loc main_arg5) : Vec Ideal S8x2048x1024 .f32) (ix3_of _ (batch t) (token t r) k ?_ ?_ ?_)
  · show win0_5.index t 0 * 1 + 1 * 0 = _; rw [hi]; show (t : ℕ) / 4 * 1 + 1 * 0 = (t : ℕ) / 4; omega
  · show win0_5.index t 1 * 512 + 1 * (r : ℕ) = _; rw [hi]; show (t : ℕ) % 4 * 512 + 1 * (r : ℕ) = 512 * ((t : ℕ) % 4) + r; omega
  · show win0_5.index t 2 * 1024 + 1 * (k : ℕ) = _; rw [hi]; show 0 * 1024 + 1 * (k : ℕ) = k; omega

/-- The mixer's modulation gain. -/
theorem iblk6_apply (t : Fin cfg0.N) (r : Fin 512) (k : Fin 1024) : (iblk m c 6 t : Vec Ideal S1x1x1024 .f32) (ix3 (0 : Fin 1) (0 : Fin 1) k) = (rows m c t r).gm k := by
  have hi := (index_eq t).2.2.2.2.2.2.1
  unfold iblk
  rw [View.read_apply]
  show V m c main_arg6 _ = _
  rw [V_main_arg6]
  refine congrArg (m ((c : Thread nD τ).loc main_arg6) : Vec Ideal S16x1x4096 .f32) (ix3_of _ (⟨batch t, by omega⟩ : Fin 16) (0 : Fin 1) (⟨(k : ℕ), by omega⟩ : Fin 4096) ?_ ?_ ?_)
  · show win0_6.index t 0 * 1 + 1 * 0 = _; rw [hi]; show (t : ℕ) / 4 * 1 + 1 * 0 = (t : ℕ) / 4; omega
  · show win0_6.index t 1 * 1 + 1 * 0 = _; rw [hi]; rfl
  · show win0_6.index t 2 * 1024 + 1 * (k : ℕ) = _; rw [hi]; show 0 * 1024 + 1 * (k : ℕ) = (k : ℕ); omega

/-- The feed-forward's modulation shift. -/
theorem iblk7_apply (t : Fin cfg0.N) (r : Fin 512) (k : Fin 1024) : (iblk m c 7 t : Vec Ideal S1x1x1024 .f32) (ix3 (0 : Fin 1) (0 : Fin 1) k) = (rows m c t r).sh k := by
  have hi := (index_eq t).2.2.2.2.2.2.2.1
  unfold iblk
  rw [View.read_apply]
  show V m c main_arg6 _ = _
  rw [V_main_arg6]
  refine congrArg (m ((c : Thread nD τ).loc main_arg6) : Vec Ideal S16x1x4096 .f32) (ix3_of _ (⟨batch t, by omega⟩ : Fin 16) (0 : Fin 1) (⟨1024 + k, by omega⟩ : Fin 4096) ?_ ?_ ?_)
  · show win0_7.index t 0 * 1 + 1 * 0 = _; rw [hi]; show (t : ℕ) / 4 * 1 + 1 * 0 = (t : ℕ) / 4; omega
  · show win0_7.index t 1 * 1 + 1 * 0 = _; rw [hi]; rfl
  · show win0_7.index t 2 * 1024 + 1 * (k : ℕ) = _; rw [hi]; show 1 * 1024 + 1 * (k : ℕ) = 1024 + k; omega

/-- The feed-forward's modulation scale. -/
theorem iblk8_apply (t : Fin cfg0.N) (r : Fin 512) (k : Fin 1024) : (iblk m c 8 t : Vec Ideal S1x1x1024 .f32) (ix3 (0 : Fin 1) (0 : Fin 1) k) = (rows m c t r).sc k := by
  have hi := (index_eq t).2.2.2.2.2.2.2.2.1
  unfold iblk
  rw [View.read_apply]
  show V m c main_arg6 _ = _
  rw [V_main_arg6]
  refine congrArg (m ((c : Thread nD τ).loc main_arg6) : Vec Ideal S16x1x4096 .f32) (ix3_of _ (⟨batch t, by omega⟩ : Fin 16) (0 : Fin 1) (⟨2048 + k, by omega⟩ : Fin 4096) ?_ ?_ ?_)
  · show win0_8.index t 0 * 1 + 1 * 0 = _; rw [hi]; show (t : ℕ) / 4 * 1 + 1 * 0 = (t : ℕ) / 4; omega
  · show win0_8.index t 1 * 1 + 1 * 0 = _; rw [hi]; rfl
  · show win0_8.index t 2 * 1024 + 1 * (k : ℕ) = _; rw [hi]; show 2 * 1024 + 1 * (k : ℕ) = 2048 + k; omega

/-- The feed-forward's modulation gain. -/
theorem iblk9_apply (t : Fin cfg0.N) (r : Fin 512) (k : Fin 1024) : (iblk m c 9 t : Vec Ideal S1x1x1024 .f32) (ix3 (0 : Fin 1) (0 : Fin 1) k) = (rows m c t r).gf k := by
  have hi := (index_eq t).2.2.2.2.2.2.2.2.2.1
  unfold iblk
  rw [View.read_apply]
  show V m c main_arg6 _ = _
  rw [V_main_arg6]
  refine congrArg (m ((c : Thread nD τ).loc main_arg6) : Vec Ideal S16x1x4096 .f32) (ix3_of _ (⟨batch t, by omega⟩ : Fin 16) (0 : Fin 1) (⟨3072 + k, by omega⟩ : Fin 4096) ?_ ?_ ?_)
  · show win0_9.index t 0 * 1 + 1 * 0 = _; rw [hi]; show (t : ℕ) / 4 * 1 + 1 * 0 = (t : ℕ) / 4; omega
  · show win0_9.index t 1 * 1 + 1 * 0 = _; rw [hi]; rfl
  · show win0_9.index t 2 * 1024 + 1 * (k : ℕ) = _; rw [hi]; show 3 * 1024 + 1 * (k : ℕ) = 3072 + k; omega

/-- The feed-forward's norm gain. -/
theorem iblk10_apply (t : Fin cfg0.N) (r : Fin 512) (k : Fin 1024) : (iblk m c 10 t : Vec Ideal S1x1024 .f32) (ix2 (0 : Fin 1) k) = (rows m c t r).gain k := by
  have hi := (index_eq t).2.2.2.2.2.2.2.2.2.2.1
  unfold iblk
  rw [View.read_apply]
  show V m c main_arg7 _ = _
  rw [V_main_arg7]
  refine congrArg (m ((c : Thread nD τ).loc main_arg7) : Vec Ideal S1x1024 .f32) (ix2_of _ (0 : Fin 1) k ?_ ?_)
  · show win0_10.index t 0 * 1 + 1 * 0 = _; rw [hi]; rfl
  · show win0_10.index t 1 * 1024 + 1 * (k : ℕ) = _; rw [hi]; show 0 * 1024 + 1 * (k : ℕ) = k; omega

/-- The final norm's gain. -/
theorem iblk11_apply (t : Fin cfg0.N) (r : Fin 512) (k : Fin 1024) : (iblk m c 11 t : Vec Ideal S1x1024 .f32) (ix2 (0 : Fin 1) k) = (rows m c t r).gfin k := by
  have hi := (index_eq t).2.2.2.2.2.2.2.2.2.2.2.1
  unfold iblk
  rw [View.read_apply]
  show V m c main_arg8 _ = _
  rw [V_main_arg8]
  refine congrArg (m ((c : Thread nD τ).loc main_arg8) : Vec Ideal S1x1024 .f32) (ix2_of _ (0 : Fin 1) k ?_ ?_)
  · show win0_11.index t 0 * 1 + 1 * 0 = _; rw [hi]; rfl
  · show win0_11.index t 1 * 1024 + 1 * (k : ℕ) = _; rw [hi]; show 0 * 1024 + 1 * (k : ℕ) = k; omega

/-- The six weights. -/
abbrev Weights : Type := Vec Ideal S512x1024 .bf16 × Vec Ideal S1024x1024 .bf16 × Vec Ideal S1024x1024 .bf16 × Vec Ideal S1024x2816 .bf16 × Vec Ideal S1024x2816 .bf16 × Vec Ideal S2816x1024 .bf16

/-- The weights as the kernel finds them. -/
def weights : Weights :=
  (V m c main_arg9, V m c main_arg10, V m c main_arg11, V m c main_arg12, V m c main_arg13, V m c main_arg14)

/-- The first point's copies leave every weight in its buffer. -/
theorem copies (t : Fin cfg0.N) (hc0 : cond0_0 (grid0.coords t)) (hc1 : ¬cond0_1 (grid0.coords t)) :
    (sout0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) hc0 hc1
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_arg9) (V m c main_arg10) (V m c main_arg11) (V m c main_arg12) (V m c main_arg13) (V m c main_arg14),
      sout0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) hc0 hc1
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_arg9) (V m c main_arg10) (V m c main_arg11) (V m c main_arg12) (V m c main_arg13) (V m c main_arg14),
      sout0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) hc0 hc1
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_arg9) (V m c main_arg10) (V m c main_arg11) (V m c main_arg12) (V m c main_arg13) (V m c main_arg14),
      sout0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) hc0 hc1
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_arg9) (V m c main_arg10) (V m c main_arg11) (V m c main_arg12) (V m c main_arg13) (V m c main_arg14),
      sout0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) hc0 hc1
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_arg9) (V m c main_arg10) (V m c main_arg11) (V m c main_arg12) (V m c main_arg13) (V m c main_arg14),
      sout0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) hc0 hc1
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_arg9) (V m c main_arg10) (V m c main_arg11) (V m c main_arg12) (V m c main_arg13) (V m c main_arg14)) = weights m c := by
  rw [pa_copied, rb_copied, o_copied, w1_copied, w3_copied, w2_copied]
  rfl

/-- Every later point leaves the weights' buffers as they were. -/
theorem left (t : Fin cfg0.N) (hc0 : ¬cond0_0 (grid0.coords t)) (hc1 : cond0_1 (grid0.coords t)) (w : Weights) :
    (sout0_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) hc0 hc1
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) w.1 w.2.1 w.2.2.1 w.2.2.2.1 w.2.2.2.2.1 w.2.2.2.2.2 (V m c main_arg9) (V m c main_arg10) (V m c main_arg11) (V m c main_arg12) (V m c main_arg13) (V m c main_arg14),
      sout0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) hc0 hc1
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) w.1 w.2.1 w.2.2.1 w.2.2.2.1 w.2.2.2.2.1 w.2.2.2.2.2 (V m c main_arg9) (V m c main_arg10) (V m c main_arg11) (V m c main_arg12) (V m c main_arg13) (V m c main_arg14),
      sout0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) hc0 hc1
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) w.1 w.2.1 w.2.2.1 w.2.2.2.1 w.2.2.2.2.1 w.2.2.2.2.2 (V m c main_arg9) (V m c main_arg10) (V m c main_arg11) (V m c main_arg12) (V m c main_arg13) (V m c main_arg14),
      sout0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) hc0 hc1
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) w.1 w.2.1 w.2.2.1 w.2.2.2.1 w.2.2.2.2.1 w.2.2.2.2.2 (V m c main_arg9) (V m c main_arg10) (V m c main_arg11) (V m c main_arg12) (V m c main_arg13) (V m c main_arg14),
      sout0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) hc0 hc1
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) w.1 w.2.1 w.2.2.1 w.2.2.2.1 w.2.2.2.2.1 w.2.2.2.2.2 (V m c main_arg9) (V m c main_arg10) (V m c main_arg11) (V m c main_arg12) (V m c main_arg13) (V m c main_arg14),
      sout0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) hc0 hc1
        (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) w.1 w.2.1 w.2.2.1 w.2.2.2.1 w.2.2.2.2.1 w.2.2.2.2.2 (V m c main_arg9) (V m c main_arg10) (V m c main_arg11) (V m c main_arg12) (V m c main_arg13) (V m c main_arg14)) = w := rfl

/-- The weights' buffers after every grid point hold the weights. -/
theorem carried : ∀ (n : ℕ) (hn : n < cfg0.N), (outsAt0 m c n hn).2 = weights m c
  | 0, hn => (congrArg Prod.snd (outsAt0_A m c ⟨0, hn⟩ rfl (Nat.not_succ_le_zero 0))).trans (copies m c ⟨0, hn⟩ _ _)
  | n + 1, hn => by
    have hN : cfg0.N = 32 := N_0
    refine (congrArg Prod.snd (outsAt0_B m c ⟨n + 1, hn⟩ (by show ¬(n + 1) % 32 = 0; omega) (by show 1 ≤ n + 1; omega))).trans ?_
    exact (left m c ⟨n + 1, hn⟩ _ _ (outsAt0 m c n (by omega)).2).trans (carried n (by omega))

/-- A weight's entry. -/
theorem weight9 (t : Fin cfg0.N) (r : Fin 512) (k : Fin 512) (y : Fin 1024) : (V m c main_arg9 : Vec Ideal S512x1024 .bf16) (ix2 k y) = (rows m c t r).pa k y := by
  rw [V_main_arg9]
  rfl

/-- A weight's entry. -/
theorem weight10 (t : Fin cfg0.N) (r : Fin 512) (k : Fin 1024) (y : Fin 1024) : (V m c main_arg10 : Vec Ideal S1024x1024 .bf16) (ix2 k y) = (rows m c t r).rb k y := by
  rw [V_main_arg10]
  rfl

/-- A weight's entry. -/
theorem weight11 (t : Fin cfg0.N) (r : Fin 512) (k : Fin 1024) (y : Fin 1024) : (V m c main_arg11 : Vec Ideal S1024x1024 .bf16) (ix2 k y) = (rows m c t r).o k y := by
  rw [V_main_arg11]
  rfl

/-- A weight's entry. -/
theorem weight12 (t : Fin cfg0.N) (r : Fin 512) (k : Fin 1024) (y : Fin 2816) : (V m c main_arg12 : Vec Ideal S1024x2816 .bf16) (ix2 k y) = (rows m c t r).w1 k y := by
  rw [V_main_arg12]
  rfl

/-- A weight's entry. -/
theorem weight13 (t : Fin cfg0.N) (r : Fin 512) (k : Fin 1024) (y : Fin 2816) : (V m c main_arg13 : Vec Ideal S1024x2816 .bf16) (ix2 k y) = (rows m c t r).w3 k y := by
  rw [V_main_arg13]
  rfl

/-- A weight's entry. -/
theorem weight14 (t : Fin cfg0.N) (r : Fin 512) (k : Fin 2816) (y : Fin 1024) : (V m c main_arg14 : Vec Ideal S2816x1024 .bf16) (ix2 k y) = (rows m c t r).w2 k y := by
  rw [V_main_arg14]
  rfl

/-- The first part of a pair. -/
theorem fst_of {α β : Type} {o : α × β} {a : α} {b : β} (h : o = (a, b)) : o.1 = a := congrArg Prod.fst h

/-- What the first grid point leaves in its block of results. -/
theorem first_apply (t : Fin cfg0.N) (h0 : (t : ℕ) % 32 = 0) (h1 : ¬1 ≤ (t : ℕ)) (p : S1x512x1024.Idx) :
    (outsAt0 m c t.val t.isLt).1 p = (rows m c t (p 1)).out (p 2) := by
  have e := outA_apply (R := rows m c t) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (x11 := iblk m c 11 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (V m c main_arg9) (V m c main_arg10) (V m c main_arg11) (V m c main_arg12) (V m c main_arg13) (V m c main_arg14)
    (iblk0_apply m c t) (iblk1_apply m c t) (iblk2_apply m c t) (iblk3_apply m c t) (iblk4_apply m c t) (iblk5_apply m c t) (iblk6_apply m c t) (iblk7_apply m c t) (iblk8_apply m c t) (iblk9_apply m c t) (iblk10_apply m c t) (iblk11_apply m c t)
    ((hcond0_0 t).mpr h0) (fun h => h1 ((hcond0_1 t).mp h))
    (weight9 m c t) (weight10 m c t) (weight11 m c t) (weight12 m c t) (weight13 m c t) (weight14 m c t) p
  exact (congrFun (fst_of (outsAt0_A m c t h0 h1)) p).trans e

/-- What a later grid point leaves in its block of results. -/
theorem later_apply (t : Fin cfg0.N) (h0 : ¬(t : ℕ) % 32 = 0) (h1 : 1 ≤ (t : ℕ)) (p : S1x512x1024.Idx) :
    (outsAt0 m c t.val t.isLt).1 p = (rows m c t (p 1)).out (p 2) := by
  have e := carried m c ((t : ℕ) - 1) (Nat.lt_of_le_of_lt (Nat.sub_le _ _) t.isLt)
  have e' := fst_of (outsAt0_B m c t h0 h1)
  generalize (outsAt0 m c ((t : ℕ) - 1) (Nat.lt_of_le_of_lt (Nat.sub_le _ _) t.isLt)).2 = w at e e'
  have e1 := outB_apply (R := rows m c t) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (x11 := iblk m c 11 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (V m c main_arg9) (V m c main_arg10) (V m c main_arg11) (V m c main_arg12) (V m c main_arg13) (V m c main_arg14)
    (iblk0_apply m c t) (iblk1_apply m c t) (iblk2_apply m c t) (iblk3_apply m c t) (iblk4_apply m c t) (iblk5_apply m c t) (iblk6_apply m c t) (iblk7_apply m c t) (iblk8_apply m c t) (iblk9_apply m c t) (iblk10_apply m c t) (iblk11_apply m c t)
    (fun h => h0 ((hcond0_0 t).mp h)) ((hcond0_1 t).mpr h1) w.1 w.2.1 w.2.2.1 w.2.2.2.1 w.2.2.2.2.1 w.2.2.2.2.2
  exact (congrFun e' p).trans (e1 (fun r k y => (congrArg (fun w : Weights => w.1 (ix2 k y)) e).trans (weight9 m c t r k y)) (fun r k y => (congrArg (fun w : Weights => w.2.1 (ix2 k y)) e).trans (weight10 m c t r k y)) (fun r k y => (congrArg (fun w : Weights => w.2.2.1 (ix2 k y)) e).trans (weight11 m c t r k y)) (fun r k y => (congrArg (fun w : Weights => w.2.2.2.1 (ix2 k y)) e).trans (weight12 m c t r k y)) (fun r k y => (congrArg (fun w : Weights => w.2.2.2.2.1 (ix2 k y)) e).trans (weight13 m c t r k y)) (fun r k y => (congrArg (fun w : Weights => w.2.2.2.2.2 (ix2 k y)) e).trans (weight14 m c t r k y)) p)

/-- What a grid point leaves in its block of results. -/
theorem point_apply (t : Fin cfg0.N) (p : S1x512x1024.Idx) : (outsAt0 m c t.val t.isLt).1 p = (rows m c t (p 1)).out (p 2) := by
  have hN : cfg0.N = 32 := N_0
  have ht := t.isLt
  by_cases h : (t : ℕ) = 0
  · exact first_apply m c t (by omega) (by omega) p
  · exact later_apply m c t (by omega) (by omega) p

/-- What each grid point writes back is its block of the result. -/
theorem flushed_eq (t : Fin cfg0.N) (_ : (cfg0.win 12).flush t = true) :
    (dats m 0 c).flushed 12 t = ((cfg0.win 12).blk t).view.read (Elt Ideal) (result m c) := by
  have hi := (index_eq t).2.2.2.2.2.2.2.2.2.2.2.2
  show (cfg0.win 12).cut (grid0.coords t) ((dats m 0 c).after 12 t) = _
  rw [after0_12]
  refine funext fun (y : S1x512x1024.Idx) => ?_
  have h0 : (y 0 : ℕ) < 1 := (y 0).isLt
  rw [View.read_apply]
  refine (point_apply m c t y).trans ?_
  rw [cast_eq]
  have e : ∀ i : S8x2048x1024.Idx, i = ix3 (batch t) (token t (y 1)) (y 2 : Fin 1024) →
      (rows m c t (y 1)).out (y 2) = result m c i := by
    intro i hi
    rw [hi]
    rfl
  refine e _ (ix3_of _ _ _ _ ?_ ?_ ?_)
  · show win0_12.index t 0 * 1 + 1 * (y 0 : ℕ) = _; rw [hi]; show (t : ℕ) / 4 * 1 + 1 * (y 0 : ℕ) = (t : ℕ) / 4; omega
  · show win0_12.index t 1 * 512 + 1 * (y 1 : ℕ) = _; rw [hi]; show (t : ℕ) % 4 * 512 + 1 * (y 1 : ℕ) = 512 * ((t : ℕ) % 4) + (y 1 : ℕ); omega
  · show win0_12.index t 2 * 1024 + 1 * (y 2 : ℕ) = _; rw [hi]; show 0 * 1024 + 1 * (y 2 : ℕ) = (y 2 : ℕ); omega

/-- The result array after the run. -/
theorem final_o : (dats m 0 c).arrAt 12 cfg0.N = result m c :=
  (dats m 0 c).arrAt_eq_of_cover 12 (result m c) (flushed_eq m c) fun i => by
    have h0 : (i 0 : ℕ) < 8 := (i 0).isLt
    have h1 : (i 1 : ℕ) < 2048 := (i 1).isLt
    have h2 : (i 2 : ℕ) < 1024 := (i 2).isLt
    have hN : grid0.N = 32 := N_0
    obtain ⟨t, ht⟩ : ∃ t : Fin grid0.N, (t : ℕ) = 4 * (i 0 : ℕ) + (i 1 : ℕ) / 512 := ⟨⟨4 * (i 0 : ℕ) + (i 1 : ℕ) / 512, by omega⟩, rfl⟩
    have hi := (index_eq t).2.2.2.2.2.2.2.2.2.2.2.2
    refine ⟨t, flush0_12 t, ?_⟩
    show i ∈ ((View.whole main_v0).slice (win0_12.rect t)).set
    rw [View.set_slice_whole, Rect.mem_set_unit]
    intro a
    match a with
    | ⟨0, _⟩ => show win0_12.index t 0 * 1 ≤ (i 0 : ℕ) ∧ (i 0 : ℕ) < win0_12.index t 0 * 1 + 1
                rw [hi]; show (t : ℕ) / 4 * 1 ≤ (i 0 : ℕ) ∧ (i 0 : ℕ) < (t : ℕ) / 4 * 1 + 1; omega
    | ⟨1, _⟩ => show win0_12.index t 1 * 512 ≤ (i 1 : ℕ) ∧ (i 1 : ℕ) < win0_12.index t 1 * 512 + 512
                rw [hi]; show (t : ℕ) % 4 * 512 ≤ (i 1 : ℕ) ∧ (i 1 : ℕ) < (t : ℕ) % 4 * 512 + 512; omega
    | ⟨2, _⟩ => show win0_12.index t 2 * 1024 ≤ (i 2 : ℕ) ∧ (i 2 : ℕ) < win0_12.index t 2 * 1024 + 1024
                rw [hi]; show 0 * 1024 ≤ (i 2 : ℕ) ∧ (i 2 : ℕ) < 0 * 1024 + 1024; omega

/-- The run ends with the tail's results and leaves its arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨((h c).1 12).trans (final_o m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 9).trans (((dats m 0 c).arrAt_in 9 rfl _).trans ((A_eq m c 9).trans (V_main_arg6 m c))),
      ((h c).1 10).trans (((dats m 0 c).arrAt_in 10 rfl _).trans ((A_eq m c 10).trans (V_main_arg7 m c))),
      ((h c).1 11).trans (((dats m 0 c).arrAt_in 11 rfl _).trans ((A_eq m c 11).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.Kernel2Ideal.Tail
-- ==== Proof.TailRef.lean ====
module

public import proofs.«01_k».proof.Proof.TailMath
public import proofs.«01_k».proof.Proof.Gen.Reference2Ideal.Run

/-! The tail's reference, entry by entry. -/

@[expose] public section

set_option maxRecDepth 16384

noncomputable section

namespace Cert.Reference2Ideal.Value

open Idealize.ShloMosaic Idealize.ShloMosaic.TcCoe Idealize.SL.Sem Idealize.ShloMosaic.StableHlo
open Cert.Reference2Ideal Cert.Reference2Ideal.Gen Cert.Tail

variable (V0 : Valuation τ sig (Elt Ideal))

/-- What the tail of one token reads, from the arguments. -/
def row (b : Fin 8) (t : Fin 2048) : Row where
  yp k := (V0 (Proc.devRef .tc main_arg0) : Vec Ideal S8x2048x512 .bf16) (ix3 b t k)
  yr k := (V0 (Proc.devRef .tc main_arg1) : Vec Ideal S8x2048x1024 .bf16) (ix3 b t k)
  sg k := (V0 (Proc.devRef .tc main_arg2) : Vec Ideal S8x2048x1024 .bf16) (ix3 b t k)
  ga k := (V0 (Proc.devRef .tc main_arg3) : Vec Ideal S8x2048x1024 .bf16) (ix3 b t k)
  gb k := (V0 (Proc.devRef .tc main_arg4) : Vec Ideal S8x2048x1024 .bf16) (ix3 b t k)
  x k := (V0 (Proc.devRef .tc main_arg5) : Vec Ideal S8x2048x1024 .f32) (ix3 b t k)
  gm k := (V0 (Proc.devRef .tc main_arg6) : Vec Ideal S16x1x4096 .f32) (ix3 (⟨b, by omega⟩ : Fin 16) (0 : Fin 1) (⟨k, by omega⟩ : Fin 4096))
  sh k := (V0 (Proc.devRef .tc main_arg6) : Vec Ideal S16x1x4096 .f32) (ix3 (⟨b, by omega⟩ : Fin 16) (0 : Fin 1) (⟨1024 + k, by omega⟩ : Fin 4096))
  sc k := (V0 (Proc.devRef .tc main_arg6) : Vec Ideal S16x1x4096 .f32) (ix3 (⟨b, by omega⟩ : Fin 16) (0 : Fin 1) (⟨2048 + k, by omega⟩ : Fin 4096))
  gf k := (V0 (Proc.devRef .tc main_arg6) : Vec Ideal S16x1x4096 .f32) (ix3 (⟨b, by omega⟩ : Fin 16) (0 : Fin 1) (⟨3072 + k, by omega⟩ : Fin 4096))
  gain k := (V0 (Proc.devRef .tc main_arg7) : Vec Ideal S1x1024 .f32) (ix2 (0 : Fin 1) k)
  gfin k := (V0 (Proc.devRef .tc main_arg8) : Vec Ideal S1x1024 .f32) (ix2 (0 : Fin 1) k)
  pa k y := (V0 (Proc.devRef .tc main_arg9) : Vec Ideal S512x1024 .bf16) (ix2 k y)
  rb k y := (V0 (Proc.devRef .tc main_arg10) : Vec Ideal S1024x1024 .bf16) (ix2 k y)
  o k y := (V0 (Proc.devRef .tc main_arg11) : Vec Ideal S1024x1024 .bf16) (ix2 k y)
  w1 k y := (V0 (Proc.devRef .tc main_arg12) : Vec Ideal S1024x2816 .bf16) (ix2 k y)
  w3 k y := (V0 (Proc.devRef .tc main_arg13) : Vec Ideal S1024x2816 .bf16) (ix2 k y)
  w2 k y := (V0 (Proc.devRef .tc main_arg14) : Vec Ideal S2816x1024 .bf16) (ix2 k y)

/-- A head's mean. -/
theorem mean_apply (b : Fin 8) (t : Fin 2048) (h : Fin 8) :
    (res_main_v21 V0 : Vec Ideal S8x2048x8x1 .f32) (ix4 b t h (0 : Fin 1)) = (row V0 b t).mean h := by
  unfold res_main_v21 res_main_v17
  pointwise
  rfl

/-- A head's lane less the head's mean. -/
theorem cen_apply (b : Fin 8) (t : Fin 2048) (h : Fin 8) (w : Fin 128) :
    (res_main_v23 V0 : Vec Ideal S8x2048x8x128 .f32) (ix4 b t h w) = (row V0 b t).cen h w := by
  unfold res_main_v23 res_main_v17
  pointwise
  simp only [mean_apply V0]
  rfl

/-- The token after the mixers' residual. -/
theorem x1_apply (b : Fin 8) (t : Fin 2048) (y : Fin 1024) :
    (res_main_v45 V0 : Vec Ideal S8x2048x1024 .f32) (ix3 b t y) = (row V0 b t).x1 y := by
  unfold res_main_v45 res_main_v17 res_main_v11
  pointwise
  simp only [mean_apply V0, cen_apply V0]
  rfl

/-- The feed-forward's input. -/
theorem hid_apply (b : Fin 8) (t : Fin 2048) (y : Fin 1024) :
    (res_main_v65 V0 : Vec Ideal S8x2048x1024 .f32) (ix3 b t y) = (row V0 b t).hid y := by
  unfold res_main_v65 res_main_v11
  pointwise
  simp only [x1_apply V0]
  rfl

/-- The feed-forward's first product. -/
theorem up_apply (b : Fin 8) (t : Fin 2048) (y : Fin 2816) :
    (res_main_v66 V0 : Vec Ideal S8x2048x2816 .f32) (ix3 b t y) = (row V0 b t).up y := by
  unfold res_main_v66
  pointwise
  simp only [hid_apply V0]
  rfl

/-- The token after the feed-forward's residual. -/
theorem x2_apply (b : Fin 8) (t : Fin 2048) (y : Fin 1024) :
    (res_main_v73 V0 : Vec Ideal S8x2048x1024 .f32) (ix3 b t y) = (row V0 b t).x2 y := by
  unfold res_main_v73 res_main_v11
  pointwise
  simp only [x1_apply V0, up_apply V0, hid_apply V0]
  rfl

/-- The reference's result. -/
def outTerm : Vec Ideal S8x2048x1024 .f32 :=
  mulf (mulf (res_main_v73 V0) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (res_main_v73 V0) (res_main_v73 V0)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (V0 (Proc.devRef .tc main_arg8)) shapeCasts_S1x1024_S1024)))

/-- The token's result. -/
theorem out_apply (b : Fin 8) (t : Fin 2048) (y : Fin 1024) : outTerm V0 (ix3 b t y) = (row V0 b t).out y := by
  unfold outTerm
  pointwise
  simp only [x2_apply V0]
  rfl

/-- The reference's result at every entry. -/
theorem final_o : outTerm V0 = fun y => (row V0 (y 0) (y 1)).out (y 2) := by
  funext y
  obtain ⟨b, t, x, rfl⟩ : ∃ (b : Fin 8) (t : Fin 2048) (x : Fin 1024), y = ix3 b t x := ⟨y 0, y 1, y 2, by
    funext n
    match n with
    | 0 => rfl
    | 1 => rfl
    | 2 => rfl⟩
  exact out_apply V0 b t x

end Cert.Reference2Ideal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.KerValue
public import proofs.«01_k».proof.Proof.RefValue
public import proofs.«01_k».proof.Proof.TailValue
public import proofs.«01_k».proof.Proof.TailRef
public import Idealize.ShloMosaic.Adequacy
public import Idealize.ShloMosaic.Init

@[expose] public section

noncomputable section

namespace Cert.Proof

open Idealize.ShloMosaic Idealize.SL.Sem Cert.Kernel

/-- The reference runs to an end and leaves its arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- From the same arguments the idealized kernel and the reference end with the same result: the retention's output at
every position. -/
theorem same_result : Cert.algebraic_KernelIdeal_ReferenceIdeal := by
  intro m ρ m' ρ' _ hag
  refine ⟨fun c => Cert.KernelIdeal.Pieces.result m c,
    (θ_run _ _ _).mono (fun _ h c => ⟨(h c).1.trans (Cert.KernelIdeal.Pieces.final_o m c), (h c).2⟩)
      (Cert.KernelIdeal.Value.run_blocks m ρ),
    (θ_run _ _ _).mono (fun _ h c => ⟨(h c).1.trans ((Cert.ReferenceIdeal.Value.final_o m' c).trans ?_), (h c).2⟩)
      (Cert.ReferenceIdeal.Value.run m' ρ')⟩
  obtain ⟨h0, h1, h2, h3, h4, h5⟩ := hag c
  unfold Cert.ReferenceIdeal.Value.gd
  rw [h0, h1, h2, h3, h4, h5]
  rfl

/-- The tail's reference runs to an end and leaves its arguments as they were. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- From the same arguments the idealized tail and its reference end with the same result. -/
theorem same_result2 : Cert.algebraic_Kernel2Ideal_Reference2Ideal := by
  intro m ρ m' ρ' _ hag
  refine ⟨fun c => Cert.Kernel2Ideal.Tail.result m c, Cert.Kernel2Ideal.Tail.run m ρ,
    (θ_run _ _ _).mono (fun _ h c => ⟨((h c).1.trans (Cert.Reference2Ideal.Value.final_o _)).trans ?_, (h c).2⟩)
      (Cert.Reference2Ideal.Value.run m' ρ')⟩
  obtain ⟨h0, h1, h2, h3, h4, h5, h6, h7, h8, h9, h10, h11, h12, h13, h14⟩ := hag c
  have e : ∀ b t, Cert.Reference2Ideal.Value.row (StableHlo.launchContents m' c) b t = Cert.Kernel2Ideal.Tail.argRow m c b t := by
    intro b t
    unfold Cert.Reference2Ideal.Value.row StableHlo.launchContents Cert.Kernel2Ideal.Tail.argRow
    rw [h0, h1, h2, h3, h4, h5, h6, h7, h8, h9, h10, h11, h12, h13, h14]
  funext y
  exact congrArg (fun R : Cert.Tail.Row => R.out (y 2)) (e (y 0) (y 1))

/-- Of the retention and of the tail: the kernel, its idealization and the reference run to an end and leave their
arguments as they were; the kernel and its idealization are the same program; and the idealized kernel's result is the
reference's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  trivial, same_result, trivial, same_result2⟩

end Cert.Proof

end
